-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v6)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v6) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v38) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v20) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelOut : Cert.KernelOut.Facts) (hKernelOutIdeal : Cert.KernelOutIdeal.Facts) (hReferenceOutIdeal : Cert.ReferenceOutIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelOut_KernelOutIdeal
    ∧ algebraic_KernelOutIdeal_ReferenceOutIdeal (hKernelOutIdeal := hKernelOutIdeal) (hReferenceOutIdeal := hReferenceOutIdeal)
-- ==== Pre_finite_scores.lean ====
abbrev S8x2048x8x64 : Shape := ⟨4, ![8, 2048, 8, 64]⟩
abbrev S8x127x2x64 : Shape := ⟨4, ![8, 127, 2, 64]⟩
abbrev S8x2048x2x64 : Shape := ⟨4, ![8, 2048, 2, 64]⟩
abbrev S8x2048x24 : Shape := ⟨3, ![8, 2048, 24]⟩
abbrev S512 : Shape := ⟨1, ![512]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x127x2x64 : S_.BroadcastsInDim S8x127x2x64 (![] : Fin 0 → Fin S8x127x2x64.rank)
  reducesTo_S8x127x2x64_S_d0_1_2_3 : S8x127x2x64.ReducesTo [0, 1, 2, 3] S_
  bcast_S_S8x2048x2x64 : S_.BroadcastsInDim S8x2048x2x64 (![] : Fin 0 → Fin S8x2048x2x64.rank)
  reducesTo_S8x2048x2x64_S_d0_1_2_3 : S8x2048x2x64.ReducesTo [0, 1, 2, 3] S_

variable [Facts]

def fn_part1 {F : FTy → Type} [FloatOps F] (main_v13 : IVec S_ 1) (main_v16 : IVec S8x2048x2x64 1) : IVec S_ 1 :=
  let main_c_5 : IVec S_ 1 := constantI S_ 1 1#1
  let main_v17 : IVec S_ 1 := (fun x v => Host.reduce IntOp.andi x v reducesTo_S8x2048x2x64_S_d0_1_2_3 h_S_) main_v16 main_c_5
  let main_v18 : IVec S_ 1 := andi main_v13 main_v17
  main_v18

def fn {F : FTy → Type} [FloatOps F] (main_arg0 : FVec F S8x2048x8x64 .f32) (main_arg1 : FVec F S8x127x2x64 .f32) (main_arg2 : FVec F S8x127x2x64 .f32) (main_arg3 : FVec F S8x2048x2x64 .f32) (main_arg4 : FVec F S8x2048x2x64 .f32) (main_arg5 : FVec F S8x2048x2x64 .f32) (main_arg6 : FVec F S8x2048x2x64 .f32) (main_arg7 : FVec F S8x2048x24 .f32) (main_arg8 : FVec F S512 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x127x2x64 .f32 := Host.absf main_arg1
  let main_cst_0 : FVec F S_ .f32 := constant S_ .f32 0x7F800000#32
  let main_v5 : FVec F S8x127x2x64 .f32 := broadcastInDim S8x127x2x64 ![] bcast_S_S8x127x2x64 main_cst_0
  let main_v6 : IVec S8x127x2x64 1 := cmpf .olt main_v4 main_v5
  let main_c_1 : IVec S_ 1 := constantI S_ 1 1#1
  let main_v7 : IVec S_ 1 := (fun x v => Host.reduce IntOp.andi x v reducesTo_S8x127x2x64_S_d0_1_2_3 h_S_) main_v6 main_c_1
  let main_v8 : IVec S_ 1 := andi main_v3 main_v7
  let main_v9 : FVec F S8x2048x2x64 .f32 := Host.absf main_arg3
  let main_cst_2 : FVec F S_ .f32 := constant S_ .f32 0x7F800000#32
  let main_v10 : FVec F S8x2048x2x64 .f32 := broadcastInDim S8x2048x2x64 ![] bcast_S_S8x2048x2x64 main_cst_2
  let main_v11 : IVec S8x2048x2x64 1 := cmpf .olt main_v9 main_v10
  let main_c_3 : IVec S_ 1 := constantI S_ 1 1#1
  let main_v12 : IVec S_ 1 := (fun x v => Host.reduce IntOp.andi x v reducesTo_S8x2048x2x64_S_d0_1_2_3 h_S_) main_v11 main_c_3
  let main_v13 : IVec S_ 1 := andi main_v8 main_v12
  let main_v14 : FVec F S8x2048x2x64 .f32 := Host.absf main_arg5
  let main_cst_4 : FVec F S_ .f32 := constant S_ .f32 0x7F800000#32
  let main_v15 : FVec F S8x2048x2x64 .f32 := broadcastInDim S8x2048x2x64 ![] bcast_S_S8x2048x2x64 main_cst_4
  let main_v16 : IVec S8x2048x2x64 1 := cmpf .olt main_v14 main_v15
  fn_part1 (F := F) main_v13 main_v16
-- ==== Kernel.lean ====
abbrev S8x2048x8x64 : Shape := ⟨4, ![8, 2048, 8, 64]⟩
abbrev S8x127x2x64 : Shape := ⟨4, ![8, 127, 2, 64]⟩
abbrev S8x2048x2x64 : Shape := ⟨4, ![8, 2048, 2, 64]⟩
abbrev S8x2048x24 : Shape := ⟨3, ![8, 2048, 24]⟩
abbrev S512 : Shape := ⟨1, ![512]⟩
abbrev S32x128 : Shape := ⟨2, ![32, 128]⟩
abbrev S_ : Shape := ⟨0, ![]⟩
abbrev S2048x32 : Shape := ⟨2, ![2048, 32]⟩
abbrev S8x256x32 : Shape := ⟨3, ![8, 256, 32]⟩
abbrev S8x8x2048x64 : Shape := ⟨4, ![8, 8, 2048, 64]⟩
abbrev S8x2x2048x64 : Shape := ⟨4, ![8, 2, 2048, 64]⟩
abbrev S8x8x256x2x64 : Shape := ⟨5, ![8, 8, 256, 2, 64]⟩
abbrev S8x2x8x64x256 : Shape := ⟨5, ![8, 2, 8, 64, 256]⟩
abbrev S8x2x8x16x256 : Shape := ⟨5, ![8, 2, 8, 16, 256]⟩
abbrev S8x2x8x80x256 : Shape := ⟨5, ![8, 2, 8, 80, 256]⟩
abbrev S8x16x128x2x64 : Shape := ⟨5, ![8, 16, 128, 2, 64]⟩
abbrev S8x2x16x64x128 : Shape := ⟨5, ![8, 2, 16, 64, 128]⟩
abbrev S8x2x16x16x128 : Shape := ⟨5, ![8, 2, 16, 16, 128]⟩
abbrev S8x2x16x80x128 : Shape := ⟨5, ![8, 2, 16, 80, 128]⟩
abbrev S8x128x2x64 : Shape := ⟨4, ![8, 128, 2, 64]⟩
abbrev S8x2x128x64 : Shape := ⟨4, ![8, 2, 128, 64]⟩
abbrev S8x256x64 : Shape := ⟨3, ![8, 256, 64]⟩
abbrev S1x8x256x64 : Shape := ⟨4, ![1, 8, 256, 64]⟩
abbrev S2x8x256x64 : Shape := ⟨4, ![2, 8, 256, 64]⟩
abbrev S2x8x64x256 : Shape := ⟨4, ![2, 8, 64, 256]⟩
abbrev S8x2048x2x12 : Shape := ⟨4, ![8, 2048, 2, 12]⟩
abbrev S2x8x12x2048 : Shape := ⟨4, ![2, 8, 12, 2048]⟩
abbrev S2x8x128x2048 : Shape := ⟨4, ![2, 8, 128, 2048]⟩
abbrev S8x64x1 : Shape := ⟨3, ![8, 64, 1]⟩
abbrev S16384x512 : Shape := ⟨2, ![16384, 512]⟩
abbrev S1x1x256x64 : Shape := ⟨4, ![1, 1, 256, 64]⟩
abbrev S1x1x64x256 : Shape := ⟨4, ![1, 1, 64, 256]⟩
abbrev S1x2x2048x64 : Shape := ⟨4, ![1, 2, 2048, 64]⟩
abbrev S1x2x8x80x256 : Shape := ⟨5, ![1, 2, 8, 80, 256]⟩
abbrev S1x2x16x80x128 : Shape := ⟨5, ![1, 2, 16, 80, 128]⟩
abbrev S2x1x16x256 : Shape := ⟨4, ![2, 1, 16, 256]⟩
abbrev S256x512 : Shape := ⟨2, ![256, 512]⟩
abbrev S1x4x256x64 : Shape := ⟨4, ![1, 4, 256, 64]⟩
abbrev S4x256x64 : Shape := ⟨3, ![4, 256, 64]⟩
abbrev S1024x64 : Shape := ⟨2, ![1024, 64]⟩
abbrev S1x256 : Shape := ⟨2, ![1, 256]⟩
abbrev S1x1x128x64 : Shape := ⟨4, ![1, 1, 128, 64]⟩
abbrev S128x64 : Shape := ⟨2, ![128, 64]⟩
abbrev S128x1024 : Shape := ⟨2, ![128, 1024]⟩
abbrev S1x1x512x64 : Shape := ⟨4, ![1, 1, 512, 64]⟩
abbrev S512x64 : Shape := ⟨2, ![512, 64]⟩
abbrev S512x1024 : Shape := ⟨2, ![512, 1024]⟩
abbrev S512x1 : Shape := ⟨2, ![512, 1]⟩
abbrev S512x256 : Shape := ⟨2, ![512, 256]⟩
abbrev S1024 : Shape := ⟨1, ![1024]⟩
abbrev S1x1024 : Shape := ⟨2, ![1, 1024]⟩
abbrev S1x1x1x80x128 : Shape := ⟨5, ![1, 1, 1, 80, 128]⟩
abbrev S80x128 : Shape := ⟨2, ![80, 128]⟩
abbrev S80x512 : Shape := ⟨2, ![80, 512]⟩
abbrev S80x1024 : Shape := ⟨2, ![80, 1024]⟩
abbrev S64x1024 : Shape := ⟨2, ![64, 1024]⟩
abbrev S128x1 : Shape := ⟨2, ![128, 1]⟩
abbrev S128x256 : Shape := ⟨2, ![128, 256]⟩
abbrev S1x1x64x128 : Shape := ⟨4, ![1, 1, 64, 128]⟩
abbrev S64x128 : Shape := ⟨2, ![64, 128]⟩
abbrev S32x256 : Shape := ⟨2, ![32, 256]⟩
abbrev S32x1 : Shape := ⟨2, ![32, 1]⟩
abbrev S1x256x32 : Shape := ⟨3, ![1, 256, 32]⟩
abbrev S256x32 : Shape := ⟨2, ![256, 32]⟩
abbrev S256x256 : Shape := ⟨2, ![256, 256]⟩
abbrev S256x64 : Shape := ⟨2, ![256, 64]⟩
abbrev S256x1024 : Shape := ⟨2, ![256, 1024]⟩
abbrev S1x1x1x80x256 : Shape := ⟨5, ![1, 1, 1, 80, 256]⟩
abbrev S80x256 : Shape := ⟨2, ![80, 256]⟩
abbrev S256x1 : Shape := ⟨2, ![256, 1]⟩
abbrev S1x1x16x256 : Shape := ⟨4, ![1, 1, 16, 256]⟩
abbrev S16x256 : Shape := ⟨2, ![16, 256]⟩
abbrev S64x256 : Shape := ⟨2, ![64, 256]⟩
abbrev S256 : Shape := ⟨1, ![256]⟩
abbrev S1x64x1 : Shape := ⟨3, ![1, 64, 1]⟩
abbrev S64x1 : Shape := ⟨2, ![64, 1]⟩
abbrev S256x128 : Shape := ⟨2, ![256, 128]⟩

abbrev nBuf : Space → Nat
  | .hbm => 102
  | .vmem => 21
  | .smem => 0
  | _ => 0

abbrev bufTy : (tb : Table) → Fin (tcTables nBuf tb) → BufTy
  | .hbm, ⟨0, _⟩ => ⟨S8x2048x8x64, .f32⟩
  | .hbm, ⟨1, _⟩ => ⟨S8x127x2x64, .f32⟩
  | .hbm, ⟨2, _⟩ => ⟨S8x127x2x64, .f32⟩
  | .hbm, ⟨3, _⟩ => ⟨S8x2048x2x64, .f32⟩
  | .hbm, ⟨4, _⟩ => ⟨S8x2048x2x64, .f32⟩
  | .hbm, ⟨5, _⟩ => ⟨S8x2048x2x64, .f32⟩
  | .hbm, ⟨6, _⟩ => ⟨S8x2048x2x64, .f32⟩
  | .hbm, ⟨7, _⟩ => ⟨S8x2048x24, .f32⟩
  | .hbm, ⟨8, _⟩ => ⟨S512, .f32⟩
  | .hbm, ⟨9, _⟩ => ⟨S32x128, .i32⟩
  | .hbm, ⟨10, _⟩ => ⟨S32x128, .i32⟩
  | .hbm, ⟨11, _⟩ => ⟨S_, .i32⟩
  | .hbm, ⟨12, _⟩ => ⟨S32x128, .i32⟩
  | .hbm, ⟨13, _⟩ => ⟨S32x128, .i32⟩
  | .hbm, ⟨14, _⟩ => ⟨S_, .i32⟩
  | .hbm, ⟨15, _⟩ => ⟨S32x128, .i32⟩
  | .hbm, ⟨16, _⟩ => ⟨S32x128, .i32⟩
  | .hbm, ⟨17, _⟩ => ⟨S32x128, .i32⟩
  | .hbm, ⟨18, _⟩ => ⟨S_, .i32⟩
  | .hbm, ⟨19, _⟩ => ⟨S32x128, .i32⟩
  | .hbm, ⟨20, _⟩ => ⟨S32x128, .i32⟩
  | .hbm, ⟨21, _⟩ => ⟨S_, .i32⟩
  | .hbm, ⟨22, _⟩ => ⟨S32x128, .i32⟩
  | .hbm, ⟨23, _⟩ => ⟨S32x128, .i32⟩
  | .hbm, ⟨24, _⟩ => ⟨S_, .i32⟩
  | .hbm, ⟨25, _⟩ => ⟨S32x128, .i32⟩
  | .hbm, ⟨26, _⟩ => ⟨S32x128, .i32⟩
  | .hbm, ⟨27, _⟩ => ⟨S_, .i32⟩
  | .hbm, ⟨28, _⟩ => ⟨S32x128, .i32⟩
  | .hbm, ⟨29, _⟩ => ⟨S32x128, .i32⟩
  | .hbm, ⟨30, _⟩ => ⟨S32x128, .i32⟩
  | .hbm, ⟨31, _⟩ => ⟨S32x128, .i32⟩
  | .hbm, ⟨32, _⟩ => ⟨S_, .i32⟩
  | .hbm, ⟨33, _⟩ => ⟨S32x128, .i32⟩
  | .hbm, ⟨34, _⟩ => ⟨S32x128, .i32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | .hbm, ⟨39, _⟩ => ⟨S_, .i32⟩
  | .hbm, ⟨40, _⟩ => ⟨S32x128, .i32⟩
  | .hbm, ⟨41, _⟩ => ⟨S32x128, .i1⟩
  | .hbm, ⟨42, _⟩ => ⟨S_, .f32⟩
  | .hbm, ⟨43, _⟩ => ⟨S_, .f32⟩
  | .hbm, ⟨44, _⟩ => ⟨S32x128, .f32⟩
  | .hbm, ⟨45, _⟩ => ⟨S32x128, .f32⟩
  | .hbm, ⟨46, _⟩ => ⟨S2048x32, .i32⟩
  | .hbm, ⟨47, _⟩ => ⟨S_, .i32⟩
  | .hbm, ⟨48, _⟩ => ⟨S2048x32, .i32⟩
  | .hbm, ⟨49, _⟩ => ⟨S2048x32, .i32⟩
  | .hbm, ⟨50, _⟩ => ⟨S2048x32, .i32⟩
  | .hbm, ⟨51, _⟩ => ⟨S2048x32, .i1⟩
  | .hbm, ⟨52, _⟩ => ⟨S2048x32, .f32⟩
  | .hbm, ⟨53, _⟩ => ⟨S8x256x32, .f32⟩
  | .hbm, ⟨54, _⟩ => ⟨S8x256x32, .bf16⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x2048x8x64, .f32⟩
  | .hbm, ⟨60, _⟩ => ⟨S8x2048x8x64, .f32⟩
  | .hbm, ⟨61, _⟩ => ⟨S8x8x2048x64, .f32⟩
  | .hbm, ⟨62, _⟩ => ⟨S8x8x2048x64, .bf16⟩
  | .hbm, ⟨63, _⟩ => ⟨S8x2x2048x64, .f32⟩
  | .hbm, ⟨64, _⟩ => ⟨S8x2x2048x64, .bf16⟩
  | .hbm, ⟨65, _⟩ => ⟨S8x2x2048x64, .f32⟩
  | .hbm, ⟨66, _⟩ => ⟨S8x2x2048x64, .bf16⟩
  | .hbm, ⟨67, _⟩ => ⟨S8x8x256x2x64, .f32⟩
  | .hbm, ⟨68, _⟩ => ⟨S8x2x8x64x256, .f32⟩
  | .hbm, ⟨69, _⟩ => ⟨S_, .f32⟩
  | .hbm, ⟨70, _⟩ => ⟨S8x2x8x16x256, .f32⟩
  | .hbm, ⟨71, _⟩ => ⟨S8x2x8x80x256, .f32⟩
  | .hbm, ⟨72, _⟩ => ⟨S8x2x8x80x256, .bf16⟩
  | .hbm, ⟨73, _⟩ => ⟨S8x16x128x2x64, .f32⟩
  | .hbm, ⟨74, _⟩ => ⟨S8x2x16x64x128, .f32⟩
  | .hbm, ⟨75, _⟩ => ⟨S_, .f32⟩
  | .hbm, ⟨76, _⟩ => ⟨S8x2x16x16x128, .f32⟩
  | .hbm, ⟨77, _⟩ => ⟨S8x2x16x80x128, .f32⟩
  | .hbm, ⟨78, _⟩ => ⟨S8x2x16x80x128, .bf16⟩
  | .hbm, ⟨79, _⟩ => ⟨S_, .i32⟩
  | .hbm, ⟨80, _⟩ => ⟨S_, .f32⟩
  | .hbm, ⟨81, _⟩ => ⟨S8x128x2x64, .f32⟩
  | .hbm, ⟨82, _⟩ => ⟨S8x2x128x64, .f32⟩
  | .hbm, ⟨83, _⟩ => ⟨S8x256x64, .f32⟩
  | .hbm, ⟨84, _⟩ => ⟨S_, .i32⟩
  | .hbm, ⟨85, _⟩ => ⟨S_, .f32⟩
  | .hbm, ⟨86, _⟩ => ⟨S8x128x2x64, .f32⟩
  | .hbm, ⟨87, _⟩ => ⟨S8x2x128x64, .f32⟩
  | .hbm, ⟨88, _⟩ => ⟨S8x256x64, .f32⟩
  | .hbm, ⟨89, _⟩ => ⟨S1x8x256x64, .f32⟩
  | .hbm, ⟨90, _⟩ => ⟨S1x8x256x64, .f32⟩
  | .hbm, ⟨91, _⟩ => ⟨S2x8x256x64, .f32⟩
  | .hbm, ⟨92, _⟩ => ⟨S2x8x256x64, .bf16⟩
  | .hbm, ⟨93, _⟩ => ⟨S2x8x64x256, .f32⟩
  | .hbm, ⟨94, _⟩ => ⟨S2x8x64x256, .bf16⟩
  | .hbm, ⟨95, _⟩ => ⟨S8x2048x2x12, .f32⟩
  | .hbm, ⟨96, _⟩ => ⟨S2x8x12x2048, .f32⟩
  | .hbm, ⟨97, _⟩ => ⟨S_, .i32⟩
  | .hbm, ⟨98, _⟩ => ⟨S_, .f32⟩
  | .hbm, ⟨99, _⟩ => ⟨S2x8x128x2048, .f32⟩
  | .hbm, ⟨100, _⟩ => ⟨S8x64x1, .f32⟩
  | .hbm, ⟨101, _⟩ => ⟨S16384x512, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S1x2x2048x64, .bf16⟩
  | .local _ .vmem, ⟨7, _⟩ => ⟨S1x2x2048x64, .bf16⟩
  | .local _ .vmem, ⟨8, _⟩ => ⟨S1x2x8x80x256, .bf16⟩
  | .local _ .vmem, ⟨9, _⟩ => ⟨S1x2x8x80x256, .bf16⟩
  | .local _ .vmem, ⟨10, _⟩ => ⟨S1x2x2048x64, .bf16⟩
  | .local _ .vmem, ⟨11, _⟩ => ⟨S1x2x2048x64, .bf16⟩
  | .local _ .vmem, ⟨12, _⟩ => ⟨S1x2x16x80x128, .bf16⟩
  | .local _ .vmem, ⟨13, _⟩ => ⟨S1x2x16x80x128, .bf16⟩
  | .local _ .vmem, ⟨14, _⟩ => ⟨S2x1x16x256, .f32⟩
  | .local _ .vmem, ⟨15, _⟩ => ⟨S2x1x16x256, .f32⟩
  | .local _ .vmem, ⟨16, _⟩ => ⟨S8x64x1, .f32⟩
  | .local _ .vmem, ⟨17, _⟩ => ⟨S32x128, .f32⟩
  | .local _ .vmem, ⟨18, _⟩ => ⟨S8x256x32, .bf16⟩
  | .local _ .vmem, ⟨19, _⟩ => ⟨S256x512, .bf16⟩
  | .local _ .vmem, ⟨20, _⟩ => ⟨S256x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_call3_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32 : BitVec 32 := 2#32
  let v21 : BitVec 32 := Scalar.addi v20 c2_i32
  let c1_i32_8 : BitVec 32 := 1#32
  let v22 : BitVec 32 := Scalar.subi v21 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let c1_i32_16 : BitVec 32 := 1#32
  let v40 : BitVec 32 := Scalar.subi v39 c1_i32_16
  let c0_i32_17 : BitVec 32 := 0#32
  let v41 : BitVec 32 := Scalar.maxsi v40 c0_i32_17
  let c3_i32 : BitVec 32 := 3#32
  let v42 : BitVec 32 := Scalar.minsi v41 c3_i32
  let c0_i32_18 : BitVec 32 := 0#32
  let v43 : BitVec 1 := Scalar.cmpi .ne v42 c0_i32_18
  v43

def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32 : BitVec 32 := 2#32
  let v21 : BitVec 32 := Scalar.addi v20 c2_i32
  let c1_i32_8 : BitVec 32 := 1#32
  let v22 : BitVec 32 := Scalar.subi v21 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let c1_i32_16 : BitVec 32 := 1#32
  let v40 : BitVec 32 := Scalar.subi v39 c1_i32_16
  let c0_i32_17 : BitVec 32 := 0#32
  let v41 : BitVec 32 := Scalar.maxsi v40 c0_i32_17
  let c3_i32 : BitVec 32 := 3#32
  let v42 : BitVec 32 := Scalar.minsi v41 c3_i32
  let c1_i32_19 : BitVec 32 := 1#32
  let v44 : BitVec 32 := Scalar.subi v42 c1_i32_19
  let c0_i32_20 : BitVec 32 := 0#32
  let v45 : BitVec 1 := Scalar.cmpi .ne v44 c0_i32_20
  v45

def k0_cond3 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32 : BitVec 32 := 2#32
  let v21 : BitVec 32 := Scalar.addi v20 c2_i32
  let c1_i32_8 : BitVec 32 := 1#32
  let v22 : BitVec 32 := Scalar.subi v21 c1_i32_8
  let c0_i32_10 : BitVec 32 := 0#32
  let v24 : BitVec 1 := Scalar.cmpi .sgt v22 c0_i32_10
  let v25 : BitVec 32 := Scalar.extui v24
  let c0_i32_11 : BitVec 32 := 0#32
  let v26 : BitVec 1 := Scalar.cmpi .slt v22 c0_i32_11
  let v27 : BitVec 32 := Scalar.extui v26
  let v28 : BitVec 32 := Scalar.subi v25 v27
  let c2_i32_9 : BitVec 32 := 2#32
  let c0_i32_12 : BitVec 32 := 0#32
  let v29 : BitVec 1 := Scalar.cmpi .sgt c2_i32_9 c0_i32_12
  let v30 : BitVec 32 := Scalar.extui v29
  let c0_i32_13 : BitVec 32 := 0#32
  let v31 : BitVec 1 := Scalar.cmpi .slt c2_i32_9 c0_i32_13
  let v32 : BitVec 32 := Scalar.extui v31
  let v33 : BitVec 32 := Scalar.subi v30 v32
  let v34 : BitVec 1 := Scalar.cmpi .ne v28 v33
  let v35 : BitVec 32 := Scalar.remsi v22 c2_i32_9
  let c0_i32_14 : BitVec 32 := 0#32
  let v36 : BitVec 1 := Scalar.cmpi .ne v35 c0_i32_14
  let v37 : BitVec 1 := Scalar.andi v34 v36
  let v23 : BitVec 32 := Scalar.divsi v22 c2_i32_9
  let c1_i32_15 : BitVec 32 := 1#32
  let v38 : BitVec 32 := Scalar.subi v23 c1_i32_15
  let v39 : BitVec 32 := Scalar.select v37 v38 v23
  let c1_i32_16 : BitVec 32 := 1#32
  let v40 : BitVec 32 := Scalar.subi v39 c1_i32_16
  let c0_i32_17 : BitVec 32 := 0#32
  let v41 : BitVec 32 := Scalar.maxsi v40 c0_i32_17
  let c3_i32 : BitVec 32 := 3#32
  let v42 : BitVec 32 := Scalar.minsi v41 c3_i32
  let c1_i32_19 : BitVec 32 := 1#32
  let v44 : BitVec 32 := Scalar.subi v42 c1_i32_19
  let c1_i32_21 : BitVec 32 := 1#32
  let v46 : BitVec 32 := Scalar.subi v44 c1_i32_21
  let c0_i32_22 : BitVec 32 := 0#32
  let v47 : BitVec 1 := Scalar.cmpi .ne v46 c0_i32_22
  v47

def k0_mult1 (i : grid0.Coords) : BitVec 32 :=
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  v58
def k0_off1 (i : grid0.Coords) : Fin 4 → Nat :=
  let c0_45 : Index := 0#32
  let c0_46 : Index := 0#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let v83 : Index := Scalar.indexCast v59
  let c0_47 : Index := 0#32
  ![0, 0, v83.toNat, 0]
def k0_off2 (i : grid0.Coords) : Fin 4 → Nat :=
  let c0_49 : Index := 0#32
  let c1 : Index := 1#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let v87 : Index := Scalar.indexCast v59
  let c0_50 : Index := 0#32
  ![0, 1, v87.toNat, 0]
def k0_off3 (i : grid0.Coords) (c0_i32_56 : BitVec 32) : Fin 5 → Nat :=
  let c0_57 : Index := 0#32
  let c0_58 : Index := 0#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let c0_i32_31 : BitVec 32 := 0#32
  let v61 : BitVec 1 := Scalar.cmpi .sgt v59 c0_i32_31
  let v62 : BitVec 32 := Scalar.extui v61
  let c0_i32_32 : BitVec 32 := 0#32
  let v63 : BitVec 1 := Scalar.cmpi .slt v59 c0_i32_32
  let v64 : BitVec 32 := Scalar.extui v63
  let v65 : BitVec 32 := Scalar.subi v62 v64
  let c128_i32 : BitVec 32 := 128#32
  let c0_i32_33 : BitVec 32 := 0#32
  let v66 : BitVec 1 := Scalar.cmpi .sgt c128_i32 c0_i32_33
  let v67 : BitVec 32 := Scalar.extui v66
  let c0_i32_34 : BitVec 32 := 0#32
  let v68 : BitVec 1 := Scalar.cmpi .slt c128_i32 c0_i32_34
  let v69 : BitVec 32 := Scalar.extui v68
  let v70 : BitVec 32 := Scalar.subi v67 v69
  let v71 : BitVec 1 := Scalar.cmpi .ne v65 v70
  let v72 : BitVec 32 := Scalar.remsi v59 c128_i32
  let c0_i32_35 : BitVec 32 := 0#32
  let v73 : BitVec 1 := Scalar.cmpi .ne v72 c0_i32_35
  let v74 : BitVec 1 := Scalar.andi v71 v73
  let v60 : BitVec 32 := Scalar.divsi v59 c128_i32
  let c1_i32_36 : BitVec 32 := 1#32
  let v75 : BitVec 32 := Scalar.subi v60 c1_i32_36
  let v76 : BitVec 32 := Scalar.select v74 v75 v60
  let v113 : BitVec 32 := Scalar.addi v76 c0_i32_56
  let v114 : Index := Scalar.indexCast v113
  let c0_59 : Index := 0#32
  let c0_60 : Index := 0#32
  ![0, 0, v114.toNat, 0, 0]
def k0_off4 (i : grid0.Coords) (c0_i32_78 : BitVec 32) : Fin 5 → Nat :=
  let c0_79 : Index := 0#32
  let c1_80 : Index := 1#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let c0_i32_31 : BitVec 32 := 0#32
  let v61 : BitVec 1 := Scalar.cmpi .sgt v59 c0_i32_31
  let v62 : BitVec 32 := Scalar.extui v61
  let c0_i32_32 : BitVec 32 := 0#32
  let v63 : BitVec 1 := Scalar.cmpi .slt v59 c0_i32_32
  let v64 : BitVec 32 := Scalar.extui v63
  let v65 : BitVec 32 := Scalar.subi v62 v64
  let c128_i32 : BitVec 32 := 128#32
  let c0_i32_33 : BitVec 32 := 0#32
  let v66 : BitVec 1 := Scalar.cmpi .sgt c128_i32 c0_i32_33
  let v67 : BitVec 32 := Scalar.extui v66
  let c0_i32_34 : BitVec 32 := 0#32
  let v68 : BitVec 1 := Scalar.cmpi .slt c128_i32 c0_i32_34
  let v69 : BitVec 32 := Scalar.extui v68
  let v70 : BitVec 32 := Scalar.subi v67 v69
  let v71 : BitVec 1 := Scalar.cmpi .ne v65 v70
  let v72 : BitVec 32 := Scalar.remsi v59 c128_i32
  let c0_i32_35 : BitVec 32 := 0#32
  let v73 : BitVec 1 := Scalar.cmpi .ne v72 c0_i32_35
  let v74 : BitVec 1 := Scalar.andi v71 v73
  let v60 : BitVec 32 := Scalar.divsi v59 c128_i32
  let c1_i32_36 : BitVec 32 := 1#32
  let v75 : BitVec 32 := Scalar.subi v60 c1_i32_36
  let v76 : BitVec 32 := Scalar.select v74 v75 v60
  let v140 : BitVec 32 := Scalar.addi v76 c0_i32_78
  let v141 : Index := Scalar.indexCast v140
  let c0_81 : Index := 0#32
  let c0_82 : Index := 0#32
  ![0, 1, v141.toNat, 0, 0]
def k0_mult2 (i : grid0.Coords) : BitVec 32 :=
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  v58
def k0_off5 (i : grid0.Coords) : Fin 4 → Nat :=
  let c0_45 : Index := 0#32
  let c0_46 : Index := 0#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let v83 : Index := Scalar.indexCast v59
  let c0_47 : Index := 0#32
  ![0, 0, v83.toNat, 0]
def k0_off6 (i : grid0.Coords) : Fin 4 → Nat :=
  let c0_49 : Index := 0#32
  let c1 : Index := 1#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let v87 : Index := Scalar.indexCast v59
  let c0_50 : Index := 0#32
  ![0, 1, v87.toNat, 0]
def k0_off7 (i : grid0.Coords) (c0_i32_56 : BitVec 32) : Fin 5 → Nat :=
  let c0_57 : Index := 0#32
  let c0_58 : Index := 0#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let c0_i32_31 : BitVec 32 := 0#32
  let v61 : BitVec 1 := Scalar.cmpi .sgt v59 c0_i32_31
  let v62 : BitVec 32 := Scalar.extui v61
  let c0_i32_32 : BitVec 32 := 0#32
  let v63 : BitVec 1 := Scalar.cmpi .slt v59 c0_i32_32
  let v64 : BitVec 32 := Scalar.extui v63
  let v65 : BitVec 32 := Scalar.subi v62 v64
  let c128_i32 : BitVec 32 := 128#32
  let c0_i32_33 : BitVec 32 := 0#32
  let v66 : BitVec 1 := Scalar.cmpi .sgt c128_i32 c0_i32_33
  let v67 : BitVec 32 := Scalar.extui v66
  let c0_i32_34 : BitVec 32 := 0#32
  let v68 : BitVec 1 := Scalar.cmpi .slt c128_i32 c0_i32_34
  let v69 : BitVec 32 := Scalar.extui v68
  let v70 : BitVec 32 := Scalar.subi v67 v69
  let v71 : BitVec 1 := Scalar.cmpi .ne v65 v70
  let v72 : BitVec 32 := Scalar.remsi v59 c128_i32
  let c0_i32_35 : BitVec 32 := 0#32
  let v73 : BitVec 1 := Scalar.cmpi .ne v72 c0_i32_35
  let v74 : BitVec 1 := Scalar.andi v71 v73
  let v60 : BitVec 32 := Scalar.divsi v59 c128_i32
  let c1_i32_36 : BitVec 32 := 1#32
  let v75 : BitVec 32 := Scalar.subi v60 c1_i32_36
  let v76 : BitVec 32 := Scalar.select v74 v75 v60
  let v113 : BitVec 32 := Scalar.addi v76 c0_i32_56
  let v114 : Index := Scalar.indexCast v113
  let c0_59 : Index := 0#32
  let c0_60 : Index := 0#32
  ![0, 0, v114.toNat, 0, 0]
def k0_off8 (i : grid0.Coords) (c0_i32_78 : BitVec 32) : Fin 5 → Nat :=
  let c0_79 : Index := 0#32
  let c1_80 : Index := 1#32
  let arg1 : BitVec 32 := BitVec.ofNat 32 (i 1).val
  let c256_i32 : BitVec 32 := 256#32
  let v0 : BitVec 32 := Scalar.muli arg1 c256_i32
  let c256_i32_29 : BitVec 32 := 256#32
  let v57 : BitVec 32 := Scalar.subi v0 c256_i32_29
  let c0_i32_30 : BitVec 32 := 0#32
  let v58 : BitVec 32 := Scalar.maxsi v57 c0_i32_30
  let v59 : BitVec 32 := v58
  let c0_i32_31 : BitVec 32 := 0#32
  let v61 : BitVec 1 := Scalar.cmpi .sgt v59 c0_i32_31
  let v62 : BitVec 32 := Scalar.extui v61
  let c0_i32_32 : BitVec 32 := 0#32
  let v63 : BitVec 1 := Scalar.cmpi .slt v59 c0_i32_32
  let v64 : BitVec 32 := Scalar.extui v63
  let v65 : BitVec 32 := Scalar.subi v62 v64
  let c128_i32 : BitVec 32 := 128#32
  let c0_i32_33 : BitVec 32 := 0#32
  let v66 : BitVec 1 := Scalar.cmpi .sgt c128_i32 c0_i32_33
  let v67 : BitVec 32 := Scalar.extui v66
  let c0_i32_34 : BitVec 32 := 0#32
  let v68 : BitVec 1 := Scalar.cmpi .slt c128_i32 c0_i32_34
  let v69 : BitVec 32 := Scalar.extui v68
  let v70 : BitVec 32 := Scalar.subi v67 v69
  let v71 : BitVec 1 := Scalar.cmpi .ne v65 v70
  let v72 : BitVec 32 := Scalar.remsi v59 c128_i32
  let c0_i32_35 : BitVec 32 := 0#32
  let v73 : BitVec 1 := Scalar.cmpi .ne v72 c0_i32_35
  let v74 : BitVec 1 := Scalar.andi v71 v73
  let v60 : BitVec 32 := Scalar.divsi v59 c128_i32
  let c1_i32_36 : BitVec 32 := 1#32
  let v75 : BitVec 32 := Scalar.subi v60 c1_i32_36
  let v76 : BitVec 32 := Scalar.select v74 v75 v60
  let v140 : BitVec 32 := Scalar.addi v76 c0_i32_78
  let v141 : Index := Scalar.indexCast v140
  let c0_81 : Index := 0#32
  let c0_82 : Index := 0#32
  ![0, 1, v141.toNat, 0, 0]
def k0_mult3 (i : grid0.Coords) : BitVec 32 :=
  let arg1 : BitVec 32 := BitVec.ofNat 32 (i 1).val
  let c256_i32 : BitVec 32 := 256#32
  let v0 : BitVec 32 := Scalar.muli arg1 c256_i32
  let c256_i32_27 : BitVec 32 := 256#32
  let v55 : BitVec 32 := Scalar.subi v0 c256_i32_27
  let c0_i32_28 : BitVec 32 := 0#32
  let v56 : BitVec 32 := Scalar.maxsi v55 c0_i32_28
  v56
def k0_off9 (i : grid0.Coords) : Fin 4 → Nat :=
  let c0_43 : Index := 0#32
  let c0_44 : Index := 0#32
  let arg1 : BitVec 32 := BitVec.ofNat 32 (i 1).val
  let c256_i32 : BitVec 32 := 256#32
  let v0 : BitVec 32 := Scalar.muli arg1 c256_i32
  let c256_i32_27 : BitVec 32 := 256#32
  let v55 : BitVec 32 := Scalar.subi v0 c256_i32_27
  let c0_i32_28 : BitVec 32 := 0#32
  let v56 : BitVec 32 := Scalar.maxsi v55 c0_i32_28
  let v57 : BitVec 32 := v56
  let v81 : Index := Scalar.indexCast v57
  let c0_45 : Index := 0#32
  ![0, 0, v81.toNat, 0]
def k0_off10 (i : grid0.Coords) : Fin 4 → Nat :=
  let c0_47 : Index := 0#32
  let c1 : Index := 1#32
  let arg1 : BitVec 32 := BitVec.ofNat 32 (i 1).val
  let c256_i32 : BitVec 32 := 256#32
  let v0 : BitVec 32 := Scalar.muli arg1 c256_i32
  let c256_i32_27 : BitVec 32 := 256#32
  let v55 : BitVec 32 := Scalar.subi v0 c256_i32_27
  let c0_i32_28 : BitVec 32 := 0#32
  let v56 : BitVec 32 := Scalar.maxsi v55 c0_i32_28
  let v57 : BitVec 32 := v56
  let v85 : Index := Scalar.indexCast v57
  let c0_48 : Index := 0#32
  ![0, 1, v85.toNat, 0]
def k0_off11 (i : grid0.Coords) (c0_i32_54 : BitVec 32) : Fin 5 → Nat :=
  let c0_55 : Index := 0#32
  let c0_56 : Index := 0#32
  let arg1 : BitVec 32 := BitVec.ofNat 32 (i 1).val
  let c256_i32 : BitVec 32 := 256#32
  let v0 : BitVec 32 := Scalar.muli arg1 c256_i32
  let c256_i32_27 : BitVec 32 := 256#32
  let v55 : BitVec 32 := Scalar.subi v0 c256_i32_27
  let c0_i32_28 : BitVec 32 := 0#32
  let v56 : BitVec 32 := Scalar.maxsi v55 c0_i32_28
  let v57 : BitVec 32 := v56
  let c0_i32_29 : BitVec 32 := 0#32
  let v59 : BitVec 1 := Scalar.cmpi .sgt v57 c0_i32_29
  let v60 : BitVec 32 := Scalar.extui v59
  let c0_i32_30 : BitVec 32 := 0#32
  let v61 : BitVec 1 := Scalar.cmpi .slt v57 c0_i32_30
  let v62 : BitVec 32 := Scalar.extui v61
  let v63 : BitVec 32 := Scalar.subi v60 v62
  let c128_i32 : BitVec 32 := 128#32
  let c0_i32_31 : BitVec 32 := 0#32
  let v64 : BitVec 1 := Scalar.cmpi .sgt c128_i32 c0_i32_31
  let v65 : BitVec 32 := Scalar.extui v64
  let c0_i32_32 : BitVec 32 := 0#32
  let v66 : BitVec 1 := Scalar.cmpi .slt c128_i32 c0_i32_32
  let v67 : BitVec 32 := Scalar.extui v66
  let v68 : BitVec 32 := Scalar.subi v65 v67
  let v69 : BitVec 1 := Scalar.cmpi .ne v63 v68
  let v70 : BitVec 32 := Scalar.remsi v57 c128_i32
  let c0_i32_33 : BitVec 32 := 0#32
  let v71 : BitVec 1 := Scalar.cmpi .ne v70 c0_i32_33
  let v72 : BitVec 1 := Scalar.andi v69 v71
  let v58 : BitVec 32 := Scalar.divsi v57 c128_i32
  let c1_i32_34 : BitVec 32 := 1#32
  let v73 : BitVec 32 := Scalar.subi v58 c1_i32_34
  let v74 : BitVec 32 := Scalar.select v72 v73 v58
  let v111 : BitVec 32 := Scalar.addi v74 c0_i32_54
  let v112 : Index := Scalar.indexCast v111
  let c0_57 : Index := 0#32
  let c0_58 : Index := 0#32
  ![0, 0, v112.toNat, 0, 0]
def k0_off12 (i : grid0.Coords) (c0_i32_76 : BitVec 32) : Fin 5 → Nat :=
  let c0_77 : Index := 0#32
  let c1_78 : Index := 1#32
  let arg1 : BitVec 32 := BitVec.ofNat 32 (i 1).val
  let c256_i32 : BitVec 32 := 256#32
  let v0 : BitVec 32 := Scalar.muli arg1 c256_i32
  let c256_i32_27 : BitVec 32 := 256#32
  let v55 : BitVec 32 := Scalar.subi v0 c256_i32_27
  let c0_i32_28 : BitVec 32 := 0#32
  let v56 : BitVec 32 := Scalar.maxsi v55 c0_i32_28
  let v57 : BitVec 32 := v56
  let c0_i32_29 : BitVec 32 := 0#32
  let v59 : BitVec 1 := Scalar.cmpi .sgt v57 c0_i32_29
  let v60 : BitVec 32 := Scalar.extui v59
  let c0_i32_30 : BitVec 32 := 0#32
  let v61 : BitVec 1 := Scalar.cmpi .slt v57 c0_i32_30
  let v62 : BitVec 32 := Scalar.extui v61
  let v63 : BitVec 32 := Scalar.subi v60 v62
  let c128_i32 : BitVec 32 := 128#32
  let c0_i32_31 : BitVec 32 := 0#32
  let v64 : BitVec 1 := Scalar.cmpi .sgt c128_i32 c0_i32_31
  let v65 : BitVec 32 := Scalar.extui v64
  let c0_i32_32 : BitVec 32 := 0#32
  let v66 : BitVec 1 := Scalar.cmpi .slt c128_i32 c0_i32_32
  let v67 : BitVec 32 := Scalar.extui v66
  let v68 : BitVec 32 := Scalar.subi v65 v67
  let v69 : BitVec 1 := Scalar.cmpi .ne v63 v68
  let v70 : BitVec 32 := Scalar.remsi v57 c128_i32
  let c0_i32_33 : BitVec 32 := 0#32
  let v71 : BitVec 1 := Scalar.cmpi .ne v70 c0_i32_33
  let v72 : BitVec 1 := Scalar.andi v69 v71
  let v58 : BitVec 32 := Scalar.divsi v57 c128_i32
  let c1_i32_34 : BitVec 32 := 1#32
  let v73 : BitVec 32 := Scalar.subi v58 c1_i32_34
  let v74 : BitVec 32 := Scalar.select v72 v73 v58
  let v138 : BitVec 32 := Scalar.addi v74 c0_i32_76
  let v139 : Index := Scalar.indexCast v138
  let c0_79 : Index := 0#32
  let c0_80 : Index := 0#32
  ![0, 1, v139.toNat, 0, 0]
def k0_mult4 (i : grid0.Coords) : BitVec 32 :=
  let arg1 : BitVec 32 := BitVec.ofNat 32 (i 1).val
  let c256_i32 : BitVec 32 := 256#32
  let v0 : BitVec 32 := Scalar.muli arg1 c256_i32
  let c256_i32_25 : BitVec 32 := 256#32
  let v53 : BitVec 32 := Scalar.subi v0 c256_i32_25
  let c0_i32_26 : BitVec 32 := 0#32
  let v54 : BitVec 32 := Scalar.maxsi v53 c0_i32_26
  v54
def k0_off13 (i : grid0.Coords) : Fin 4 → Nat :=
  let c0_41 : Index := 0#32
  let c0_42 : Index := 0#32
  let arg1 : BitVec 32 := BitVec.ofNat 32 (i 1).val
  let c256_i32 : BitVec 32 := 256#32
  let v0 : BitVec 32 := Scalar.muli arg1 c256_i32
  let c256_i32_25 : BitVec 32 := 256#32
  let v53 : BitVec 32 := Scalar.subi v0 c256_i32_25
  let c0_i32_26 : BitVec 32 := 0#32
  let v54 : BitVec 32 := Scalar.maxsi v53 c0_i32_26
  let v55 : BitVec 32 := v54
  let v79 : Index := Scalar.indexCast v55
  let c0_43 : Index := 0#32
  ![0, 0, v79.toNat, 0]
def k0_off14 (i : grid0.Coords) : Fin 4 → Nat :=
  let c0_45 : Index := 0#32
  let c1 : Index := 1#32
  let arg1 : BitVec 32 := BitVec.ofNat 32 (i 1).val
  let c256_i32 : BitVec 32 := 256#32
  let v0 : BitVec 32 := Scalar.muli arg1 c256_i32
  let c256_i32_25 : BitVec 32 := 256#32
  let v53 : BitVec 32 := Scalar.subi v0 c256_i32_25
  let c0_i32_26 : BitVec 32 := 0#32
  let v54 : BitVec 32 := Scalar.maxsi v53 c0_i32_26
  let v55 : BitVec 32 := v54
  let v83 : Index := Scalar.indexCast v55
  let c0_46 : Index := 0#32
  ![0, 1, v83.toNat, 0]
def k0_off15 (i : grid0.Coords) (c0_i32_52 : BitVec 32) : Fin 5 → Nat :=
  let c0_53 : Index := 0#32
  let c0_54 : Index := 0#32
  let arg1 : BitVec 32 := BitVec.ofNat 32 (i 1).val
  let c256_i32 : BitVec 32 := 256#32
  let v0 : BitVec 32 := Scalar.muli arg1 c256_i32
  let c256_i32_25 : BitVec 32 := 256#32
  let v53 : BitVec 32 := Scalar.subi v0 c256_i32_25
  let c0_i32_26 : BitVec 32 := 0#32
  let v54 : BitVec 32 := Scalar.maxsi v53 c0_i32_26
  let v55 : BitVec 32 := v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c128_i32 : BitVec 32 := 128#32
  let c0_i32_29 : BitVec 32 := 0#32
  let v62 : BitVec 1 := Scalar.cmpi .sgt c128_i32 c0_i32_29
  let v63 : BitVec 32 := Scalar.extui v62
  let c0_i32_30 : BitVec 32 := 0#32
  let v64 : BitVec 1 := Scalar.cmpi .slt c128_i32 c0_i32_30
  let v65 : BitVec 32 := Scalar.extui v64
  let v66 : BitVec 32 := Scalar.subi v63 v65
  let v67 : BitVec 1 := Scalar.cmpi .ne v61 v66
  let v68 : BitVec 32 := Scalar.remsi v55 c128_i32
  let c0_i32_31 : BitVec 32 := 0#32
  let v69 : BitVec 1 := Scalar.cmpi .ne v68 c0_i32_31
  let v70 : BitVec 1 := Scalar.andi v67 v69
  let v56 : BitVec 32 := Scalar.divsi v55 c128_i32
  let c1_i32_32 : BitVec 32 := 1#32
  let v71 : BitVec 32 := Scalar.subi v56 c1_i32_32
  let v72 : BitVec 32 := Scalar.select v70 v71 v56
  let v109 : BitVec 32 := Scalar.addi v72 c0_i32_52
  let v110 : Index := Scalar.indexCast v109
  let c0_55 : Index := 0#32
  let c0_56 : Index := 0#32
  ![0, 0, v110.toNat, 0, 0]
def k0_off16 (i : grid0.Coords) (c0_i32_74 : BitVec 32) : Fin 5 → Nat :=
  let c0_75 : Index := 0#32
  let c1_76 : Index := 1#32
  let arg1 : BitVec 32 := BitVec.ofNat 32 (i 1).val
  let c256_i32 : BitVec 32 := 256#32
  let v0 : BitVec 32 := Scalar.muli arg1 c256_i32
  let c256_i32_25 : BitVec 32 := 256#32
  let v53 : BitVec 32 := Scalar.subi v0 c256_i32_25
  let c0_i32_26 : BitVec 32 := 0#32
  let v54 : BitVec 32 := Scalar.maxsi v53 c0_i32_26
  let v55 : BitVec 32 := v54
  let c0_i32_27 : BitVec 32 := 0#32
  let v57 : BitVec 1 := Scalar.cmpi .sgt v55 c0_i32_27
  let v58 : BitVec 32 := Scalar.extui v57
  let c0_i32_28 : BitVec 32 := 0#32
  let v59 : BitVec 1 := Scalar.cmpi .slt v55 c0_i32_28
  let v60 : BitVec 32 := Scalar.extui v59
  let v61 : BitVec 32 := Scalar.subi v58 v60
  let c128_i32 : BitVec 32 := 128#32
  let c0_i32_29 : BitVec 32 := 0#32
  let v62 : BitVec 1 := Scalar.cmpi .sgt c128_i32 c0_i32_29
  let v63 : BitVec 32 := Scalar.extui v62
  let c0_i32_30 : BitVec 32 := 0#32
  let v64 : BitVec 1 := Scalar.cmpi .slt c128_i32 c0_i32_30
  let v65 : BitVec 32 := Scalar.extui v64
  let v66 : BitVec 32 := Scalar.subi v63 v65
  let v67 : BitVec 1 := Scalar.cmpi .ne v61 v66
  let v68 : BitVec 32 := Scalar.remsi v55 c128_i32
  let c0_i32_31 : BitVec 32 := 0#32
  let v69 : BitVec 1 := Scalar.cmpi .ne v68 c0_i32_31
  let v70 : BitVec 1 := Scalar.andi v67 v69
  let v56 : BitVec 32 := Scalar.divsi v55 c128_i32
  let c1_i32_32 : BitVec 32 := 1#32
  let v71 : BitVec 32 := Scalar.subi v56 c1_i32_32
  let v72 : BitVec 32 := Scalar.select v70 v71 v56
  let v136 : BitVec 32 := Scalar.addi v72 c0_i32_74
  let v137 : Index := Scalar.indexCast v136
  let c0_77 : Index := 0#32
  let c0_78 : Index := 0#32
  ![0, 1, v137.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, c1_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x8x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x16x80x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x256x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x127x2x64 : Shape := ⟨4, ![8, 127, 2, 64]⟩
abbrev S8x2048x2x64 : Shape := ⟨4, ![8, 2048, 2, 64]⟩
abbrev S8x2048x24 : Shape := ⟨3, ![8, 2048, 24]⟩
abbrev S512 : Shape := ⟨1, ![512]⟩
abbrev S2048 : Shape := ⟨1, ![2048]⟩
abbrev S8x2048x2x4x64 : Shape := ⟨5, ![8, 2048, 2, 4, 64]⟩
abbrev S127 : Shape := ⟨1, ![127]⟩
abbrev S_ : Shape := ⟨0, ![]⟩
abbrev S1x127 : Shape := ⟨2, ![1, 127]⟩
abbrev S2048x1 : Shape := ⟨2, ![2048, 1]⟩
abbrev S2048x127 : Shape := ⟨2, ![2048, 127]⟩
abbrev S8x2x127x2048x4 : Shape := ⟨5, ![8, 2, 127, 2048, 4]⟩
abbrev S8x2x4x2048x127 : Shape := ⟨5, ![8, 2, 4, 2048, 127]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S8x2x2048x127 : Shape := ⟨4, ![8, 2, 2048, 127]⟩
abbrev S8x2x2048x32 : Shape := ⟨4, ![8, 2, 2048, 32]⟩
abbrev S2048x32 : Shape := ⟨2, ![2048, 32]⟩
abbrev S8x2x2048x8 : Shape := ⟨4, ![8, 2, 2048, 8]⟩
abbrev S8x32x64x2x64 : Shape := ⟨5, ![8, 32, 64, 2, 64]⟩
abbrev S8x2x32x64x64 : Shape := ⟨5, ![8, 2, 32, 64, 64]⟩
abbrev S8 : Shape := ⟨1, ![8]⟩
abbrev S8x1x1x1 : Shape := ⟨4, ![8, 1, 1, 1]⟩
abbrev S2 : Shape := ⟨1, ![2]⟩
abbrev S1x2x1x1 : Shape := ⟨4, ![1, 2, 1, 1]⟩
abbrev S8x2x2048x8x1 : Shape := ⟨5, ![8, 2, 2048, 8, 1]⟩
abbrev S8x2x2048x8x3 : Shape := ⟨5, ![8, 2, 2048, 8, 3]⟩
abbrev S8x2x2048x8x64x64 : Shape := ⟨6, ![8, 2, 2048, 8, 64, 64]⟩
abbrev S64 : Shape := ⟨1, ![64]⟩
abbrev S1x1x1x1x64 : Shape := ⟨5, ![1, 1, 1, 1, 64]⟩
abbrev S8x2x2048x8x64 : Shape := ⟨5, ![8, 2, 2048, 8, 64]⟩
abbrev S2048x1x1 : Shape := ⟨3, ![2048, 1, 1]⟩
abbrev S1x1x2048x1x1 : Shape := ⟨5, ![1, 1, 2048, 1, 1]⟩
abbrev S8x2x2048x512x64 : Shape := ⟨5, ![8, 2, 2048, 512, 64]⟩
abbrev S8x2x2048x512 : Shape := ⟨4, ![8, 2, 2048, 512]⟩
abbrev S8x2x2048x512x4 : Shape := ⟨5, ![8, 2, 2048, 512, 4]⟩
abbrev S8x2x4x2048x512 : Shape := ⟨5, ![8, 2, 4, 2048, 512]⟩
abbrev S8x2x1x2048x512 : Shape := ⟨5, ![8, 2, 1, 2048, 512]⟩
abbrev S1x2048 : Shape := ⟨2, ![1, 2048]⟩
abbrev S2048x2048 : Shape := ⟨2, ![2048, 2048]⟩
abbrev S8x2x2048x2048x4 : Shape := ⟨5, ![8, 2, 2048, 2048, 4]⟩
abbrev S8x2x4x2048x2048 : Shape := ⟨5, ![8, 2, 4, 2048, 2048]⟩
abbrev S8x2048x8x3 : Shape := ⟨4, ![8, 2048, 8, 3]⟩
abbrev S8x2048x8x1 : Shape := ⟨4, ![8, 2048, 8, 1]⟩
abbrev S8x2048x8 : Shape := ⟨3, ![8, 2048, 8]⟩
abbrev S8x2048x512 : Shape := ⟨3, ![8, 2048, 512]⟩
abbrev S1x1x512 : Shape := ⟨3, ![1, 1, 512]⟩
abbrev S16384x512 : Shape := ⟨2, ![16384, 512]⟩

abbrev nBuf : Space → Nat
  | .hbm => 344
  | .vmem => 0
  | .smem => 0
  | _ => 0

abbrev hbmTy0_0 (i : Nat) : BufTy := match i % 128 with
  | 0 => ⟨S8x2048x8x64, .f32⟩
  | 1 => ⟨S8x127x2x64, .f32⟩
  | 2 => ⟨S8x127x2x64, .f32⟩
  | 3 => ⟨S8x2048x2x64, .f32⟩
  | 4 => ⟨S8x2048x2x64, .f32⟩
  | 5 => ⟨S8x2048x2x64, .f32⟩
  | 6 => ⟨S8x2048x2x64, .f32⟩
  | 7 => ⟨S8x2048x24, .f32⟩
  | 8 => ⟨S512, .f32⟩
  | 9 => ⟨S2048, .i32⟩
  | 10 => ⟨S8x2048x2x4x64, .f32⟩
  | 11 => ⟨S127, .i32⟩
  | 12 => ⟨S_, .i32⟩
  | 13 => ⟨S127, .i32⟩
  | 14 => ⟨S127, .i32⟩
  | 15 => ⟨S_, .i32⟩
  | 16 => ⟨S127, .i32⟩
  | 17 => ⟨S127, .i32⟩
  | 18 => ⟨S_, .i32⟩
  | 19 => ⟨S127, .i32⟩
  | 20 => ⟨S127, .i32⟩
  | 21 => ⟨S1x127, .i32⟩
  | 22 => ⟨S2048x1, .i32⟩
  | 23 => ⟨S2048x127, .i32⟩
  | 24 => ⟨S2048x127, .i32⟩
  | 25 => ⟨S2048x127, .i1⟩
  | 26 => ⟨S8x2x127x2048x4, .f32⟩
  | 27 => ⟨S8x2x4x2048x127, .f32⟩
  | 28 => ⟨S_, .f32⟩
  | 29 => ⟨S8x2x4x2048x127, .f32⟩
  | 30 => ⟨S8x2x4x2048x127, .f32⟩
  | 31 => ⟨S_, .f32⟩
  | 32 => ⟨S_, .f32⟩
  | 33 => ⟨S8x2x4x2048x127, .i1⟩
  | 34 => ⟨S8x2x4x2048x127, .f32⟩
  | 35 => ⟨S8x2x4x2048x127, .f32⟩
  | 36 => ⟨S_, .f32⟩
  | 37 => ⟨S8x2x4x2048, .f32⟩
  | 38 => ⟨S_, .f32⟩
  | 39 => ⟨S8x2x4x2048, .f32⟩
  | 40 => ⟨S8x2x4x2048, .f32⟩
  | 41 => ⟨S8x2x4x2048x1, .f32⟩
  | 42 => ⟨S8x2x4x2048x127, .f32⟩
  | 43 => ⟨S8x2x4x2048x127, .f32⟩
  | 44 => ⟨S8x2x4x2048x127, .f32⟩
  | 45 => ⟨S_, .f32⟩
  | 46 => ⟨S8x2x4x2048, .f32⟩
  | 47 => ⟨S8x2x4x2048x1, .f32⟩
  | 48 => ⟨S8x2x4x2048x127, .f32⟩
  | 49 => ⟨S8x2x4x2048x127, .f32⟩
  | 50 => ⟨S_, .f32⟩
  | 51 => ⟨S_, .f32⟩
  | 52 => ⟨S8x2x4x2048x127, .i1⟩
  | 53 => ⟨S8x2x4x2048x127, .f32⟩
  | 54 => ⟨S8x2x4x2048x127, .f32⟩
  | 55 => ⟨S8x2x64x4x2048, .f32⟩
  | 56 => ⟨S8x2048x2x4x64, .f32⟩
  | 57 => ⟨S8x2048x8x64, .f32⟩
  | 58 => ⟨S127, .i32⟩
  | 59 => ⟨S127x1, .i32⟩
  | 60 => ⟨S32, .i32⟩
  | 61 => ⟨S1x32, .i32⟩
  | 62 => ⟨S_, .i32⟩
  | 63 => ⟨S127x1, .i32⟩
  | 64 => ⟨S127x1, .i32⟩
  | 65 => ⟨S_, .i32⟩
  | 66 => ⟨S1x32, .i32⟩
  | 67 => ⟨S1x32, .i32⟩
  | 68 => ⟨S127x32, .i32⟩
  | 69 => ⟨S127x32, .i32⟩
  | 70 => ⟨S127x32, .i32⟩
  | 71 => ⟨S_, .i32⟩
  | 72 => ⟨S127x1, .i32⟩
  | 73 => ⟨S127x1, .i32⟩
  | 74 => ⟨S_, .i32⟩
  | 75 => ⟨S127x1, .i32⟩
  | 76 => ⟨S127x1, .i32⟩
  | 77 => ⟨S_, .i32⟩
  | 78 => ⟨S1x32, .i32⟩
  | 79 => ⟨S1x32, .i32⟩
  | 80 => ⟨S_, .i32⟩
  | 81 => ⟨S1x32, .i32⟩
  | 82 => ⟨S1x32, .i32⟩
  | 83 => ⟨S127x32, .i32⟩
  | 84 => ⟨S127x32, .i32⟩
  | 85 => ⟨S127x32, .i32⟩
  | 86 => ⟨S127x32, .i32⟩
  | 87 => ⟨S_, .i32⟩
  | 88 => ⟨S127x32, .i32⟩
  | 89 => ⟨S127x32, .i32⟩
  | 90 => ⟨S127x32, .f32⟩
  | 91 => ⟨S_, .f32⟩
  | 92 => ⟨S127x32, .f32⟩
  | 93 => ⟨S127x32, .f32⟩
  | 94 => ⟨S_, .f32⟩
  | 95 => ⟨S8x2x2048x127, .f32⟩
  | 96 => ⟨S8x2x2048x32, .f32⟩
  | 97 => ⟨S32, .i32⟩
  | 98 => ⟨S1x32, .i32⟩
  | 99 => ⟨S_, .i32⟩
  | 100 => ⟨S1x32, .i32⟩
  | 101 => ⟨S1x32, .i32⟩
  | 102 => ⟨S2048x1, .i32⟩
  | 103 => ⟨S2048x32, .i32⟩
  | 104 => ⟨S2048x32, .i32⟩
  | 105 => ⟨S2048x32, .i1⟩
  | 106 => ⟨S1x32, .i32⟩
  | 107 => ⟨S_, .i32⟩
  | 108 => ⟨S1x32, .i32⟩
  | 109 => ⟨S1x32, .i1⟩
  | 110 => ⟨S1x32, .i32⟩
  | 111 => ⟨S_, .i32⟩
  | 112 => ⟨S_, .i32⟩
  | 113 => ⟨S2048, .i32⟩
  | 114 => ⟨S2048, .i32⟩
  | 115 => ⟨S2048, .i32⟩
  | 116 => ⟨S_, .i32⟩
  | 117 => ⟨S2048, .i32⟩
  | 118 => ⟨S2048, .i1⟩
  | 119 => ⟨S2048, .i32⟩
  | 120 => ⟨S2048, .i32⟩
  | 121 => ⟨S_, .i32⟩
  | 122 => ⟨S2048, .i32⟩
  | 123 => ⟨S2048, .i1⟩
  | 124 => ⟨S2048, .i1⟩
  | 125 => ⟨S_, .i32⟩
  | 126 => ⟨S2048, .i32⟩
  | 127 => ⟨S2048, .i32⟩
  | _ => ⟨S8x2048x8x64, .f32⟩

abbrev hbmTy0_1 (i : Nat) : BufTy := match i % 128 with
  | 0 => ⟨S2048, .i32⟩
  | 1 => ⟨S2048x1, .i32⟩
  | 2 => ⟨S2048x32, .i32⟩
  | 3 => ⟨S2048x32, .i32⟩
  | 4 => ⟨S2048x32, .i1⟩
  | 5 => ⟨S2048x32, .i1⟩
  | 6 => ⟨S2048x32, .i1⟩
  | 7 => ⟨S_, .f32⟩
  | 8 => ⟨S_, .f32⟩
  | 9 => ⟨S8x2x2048x32, .i1⟩
  | 10 => ⟨S8x2x2048x32, .f32⟩
  | 11 => ⟨S8x2x2048x32, .f32⟩
  | 12 => ⟨S_, .f32⟩
  | 13 => ⟨S_, .f32⟩
  | 14 => ⟨S8x2x2048x32, .i1⟩
  | 15 => ⟨S8x2x2048x32, .f32⟩
  | 16 => ⟨S8x2x2048x32, .f32⟩
  | 17 => ⟨S8x2x2048x8, .f32⟩
  | 18 => ⟨S8x2x2048x8, .i32⟩
  | 19 => ⟨S8x32x64x2x64, .f32⟩
  | 20 => ⟨S8x2x32x64x64, .f32⟩
  | 21 => ⟨S8x32x64x2x64, .f32⟩
  | 22 => ⟨S8x2x32x64x64, .f32⟩
  | 23 => ⟨S8, .i32⟩
  | 24 => ⟨S8x1x1x1, .i32⟩
  | 25 => ⟨S2, .i32⟩
  | 26 => ⟨S1x2x1x1, .i32⟩
  | 27 => ⟨S_, .i32⟩
  | 28 => ⟨S8x1x1x1, .i32⟩
  | 29 => ⟨S8x1x1x1, .i1⟩
  | 30 => ⟨S_, .i32⟩
  | 31 => ⟨S8x1x1x1, .i32⟩
  | 32 => ⟨S8x1x1x1, .i32⟩
  | 33 => ⟨S8x1x1x1, .i32⟩
  | 34 => ⟨S_, .i32⟩
  | 35 => ⟨S1x2x1x1, .i32⟩
  | 36 => ⟨S1x2x1x1, .i1⟩
  | 37 => ⟨S_, .i32⟩
  | 38 => ⟨S1x2x1x1, .i32⟩
  | 39 => ⟨S1x2x1x1, .i32⟩
  | 40 => ⟨S1x2x1x1, .i32⟩
  | 41 => ⟨S_, .i32⟩
  | 42 => ⟨S8x2x2048x8, .i32⟩
  | 43 => ⟨S8x2x2048x8, .i1⟩
  | 44 => ⟨S_, .i32⟩
  | 45 => ⟨S8x2x2048x8, .i32⟩
  | 46 => ⟨S8x2x2048x8, .i32⟩
  | 47 => ⟨S8x2x2048x8, .i32⟩
  | 48 => ⟨S8x2x2048x8, .i32⟩
  | 49 => ⟨S8x2x2048x8, .i32⟩
  | 50 => ⟨S8x2x2048x8x1, .i32⟩
  | 51 => ⟨S8x2x2048x8x1, .i32⟩
  | 52 => ⟨S8x2x2048x8x1, .i32⟩
  | 53 => ⟨S8x2x2048x8x3, .i32⟩
  | 54 => ⟨S8x2x2048x8x64x64, .f32⟩
  | 55 => ⟨S_, .i32⟩
  | 56 => ⟨S8x1x1x1, .i32⟩
  | 57 => ⟨S8x1x1x1, .i1⟩
  | 58 => ⟨S_, .i32⟩
  | 59 => ⟨S8x1x1x1, .i32⟩
  | 60 => ⟨S8x1x1x1, .i32⟩
  | 61 => ⟨S8x1x1x1, .i32⟩
  | 62 => ⟨S_, .i32⟩
  | 63 => ⟨S1x2x1x1, .i32⟩
  | 64 => ⟨S1x2x1x1, .i1⟩
  | 65 => ⟨S_, .i32⟩
  | 66 => ⟨S1x2x1x1, .i32⟩
  | 67 => ⟨S1x2x1x1, .i32⟩
  | 68 => ⟨S1x2x1x1, .i32⟩
  | 69 => ⟨S_, .i32⟩
  | 70 => ⟨S8x2x2048x8, .i32⟩
  | 71 => ⟨S8x2x2048x8, .i1⟩
  | 72 => ⟨S_, .i32⟩
  | 73 => ⟨S8x2x2048x8, .i32⟩
  | 74 => ⟨S8x2x2048x8, .i32⟩
  | 75 => ⟨S8x2x2048x8, .i32⟩
  | 76 => ⟨S8x2x2048x8, .i32⟩
  | 77 => ⟨S8x2x2048x8, .i32⟩
  | 78 => ⟨S8x2x2048x8x1, .i32⟩
  | 79 => ⟨S8x2x2048x8x1, .i32⟩
  | 80 => ⟨S8x2x2048x8x1, .i32⟩
  | 81 => ⟨S8x2x2048x8x3, .i32⟩
  | 82 => ⟨S8x2x2048x8x64x64, .f32⟩
  | 83 => ⟨S8x2x2048x8x1, .i32⟩
  | 84 => ⟨S_, .i32⟩
  | 85 => ⟨S8x2x2048x8x1, .i32⟩
  | 86 => ⟨S8x2x2048x8x1, .i32⟩
  | 87 => ⟨S64, .i32⟩
  | 88 => ⟨S1x1x1x1x64, .i32⟩
  | 89 => ⟨S8x2x2048x8x64, .i32⟩
  | 90 => ⟨S8x2x2048x8x64, .i32⟩
  | 91 => ⟨S8x2x2048x8x64, .i32⟩
  | 92 => ⟨S2048x1x1, .i32⟩
  | 93 => ⟨S1x1x2048x1x1, .i32⟩
  | 94 => ⟨S8x2x2048x8x64, .i32⟩
  | 95 => ⟨S8x2x2048x8x64, .i1⟩
  | 96 => ⟨S8x2x2048x512x64, .f32⟩
  | 97 => ⟨S8x2x2048x512x64, .f32⟩
  | 98 => ⟨S8x2x2048x512, .i1⟩
  | 99 => ⟨S8x2x2048x512x4, .f32⟩
  | 100 => ⟨S8x2x4x2048x512, .f32⟩
  | 101 => ⟨S_, .f32⟩
  | 102 => ⟨S8x2x4x2048x512, .f32⟩
  | 103 => ⟨S8x2x4x2048x512, .f32⟩
  | 104 => ⟨S8x2x1x2048x512, .i1⟩
  | 105 => ⟨S_, .f32⟩
  | 106 => ⟨S_, .f32⟩
  | 107 => ⟨S8x2x4x2048x512, .i1⟩
  | 108 => ⟨S8x2x4x2048x512, .f32⟩
  | 109 => ⟨S8x2x4x2048x512, .f32⟩
  | 110 => ⟨S_, .f32⟩
  | 111 => ⟨S8x2x4x2048, .f32⟩
  | 112 => ⟨S_, .f32⟩
  | 113 => ⟨S8x2x4x2048, .f32⟩
  | 114 => ⟨S8x2x4x2048, .f32⟩
  | 115 => ⟨S8x2x4x2048x1, .f32⟩
  | 116 => ⟨S8x2x4x2048x512, .f32⟩
  | 117 => ⟨S8x2x4x2048x512, .f32⟩
  | 118 => ⟨S8x2x4x2048x512, .f32⟩
  | 119 => ⟨S_, .f32⟩
  | 120 => ⟨S8x2x4x2048, .f32⟩
  | 121 => ⟨S8x2x4x2048x1, .f32⟩
  | 122 => ⟨S8x2x4x2048x512, .f32⟩
  | 123 => ⟨S8x2x4x2048x512, .f32⟩
  | 124 => ⟨S_, .f32⟩
  | 125 => ⟨S_, .f32⟩
  | 126 => ⟨S8x2x4x2048x512, .i1⟩
  | 127 => ⟨S8x2x4x2048x512, .f32⟩
  | _ => ⟨S8x2048x8x64, .f32⟩

abbrev hbmTy0_2 (i : Nat) : BufTy := match i % 128 with
  | 0 => ⟨S8x2x4x2048x512, .f32⟩
  | 1 => ⟨S8x2048x2x4x64, .f32⟩
  | 2 => ⟨S8x2048x8x64, .f32⟩
  | 3 => ⟨S1x2048, .i32⟩
  | 4 => ⟨S2048x1, .i32⟩
  | 5 => ⟨S2048x2048, .i32⟩
  | 6 => ⟨S2048x2048, .i32⟩
  | 7 => ⟨S2048x2048, .i1⟩
  | 8 => ⟨S2048x1, .i32⟩
  | 9 => ⟨S1x2048, .i32⟩
  | 10 => ⟨S2048x2048, .i32⟩
  | 11 => ⟨S2048x2048, .i32⟩
  | 12 => ⟨S2048x2048, .i32⟩
  | 13 => ⟨S_, .i32⟩
  | 14 => ⟨S2048x2048, .i32⟩
  | 15 => ⟨S2048x2048, .i1⟩
  | 16 => ⟨S2048x2048, .i1⟩
  | 17 => ⟨S8x2x2048x2048x4, .f32⟩
  | 18 => ⟨S8x2x4x2048x2048, .f32⟩
  | 19 => ⟨S_, .f32⟩
  | 20 => ⟨S8x2x4x2048x2048, .f32⟩
  | 21 => ⟨S8x2x4x2048x2048, .f32⟩
  | 22 => ⟨S_, .f32⟩
  | 23 => ⟨S_, .f32⟩
  | 24 => ⟨S8x2x4x2048x2048, .i1⟩
  | 25 => ⟨S8x2x4x2048x2048, .f32⟩
  | 26 => ⟨S8x2x4x2048x2048, .f32⟩
  | 27 => ⟨S_, .f32⟩
  | 28 => ⟨S8x2x4x2048, .f32⟩
  | 29 => ⟨S_, .f32⟩
  | 30 => ⟨S8x2x4x2048, .f32⟩
  | 31 => ⟨S8x2x4x2048, .f32⟩
  | 32 => ⟨S8x2x4x2048x1, .f32⟩
  | 33 => ⟨S8x2x4x2048x2048, .f32⟩
  | 34 => ⟨S8x2x4x2048x2048, .f32⟩
  | 35 => ⟨S8x2x4x2048x2048, .f32⟩
  | 36 => ⟨S_, .f32⟩
  | 37 => ⟨S8x2x4x2048, .f32⟩
  | 38 => ⟨S8x2x4x2048x1, .f32⟩
  | 39 => ⟨S8x2x4x2048x2048, .f32⟩
  | 40 => ⟨S8x2x4x2048x2048, .f32⟩
  | 41 => ⟨S_, .f32⟩
  | 42 => ⟨S_, .f32⟩
  | 43 => ⟨S8x2x4x2048x2048, .i1⟩
  | 44 => ⟨S8x2x4x2048x2048, .f32⟩
  | 45 => ⟨S8x2x4x2048x2048, .f32⟩
  | 46 => ⟨S8x2x64x4x2048, .f32⟩
  | 47 => ⟨S8x2048x2x4x64, .f32⟩
  | 48 => ⟨S8x2048x8x64, .f32⟩
  | 49 => ⟨S8x2048x24, .f32⟩
  | 50 => ⟨S8x2048x24, .f32⟩
  | 51 => ⟨S_, .f32⟩
  | 52 => ⟨S8x2048x24, .f32⟩
  | 53 => ⟨S8x2048x24, .f32⟩
  | 54 => ⟨S_, .f32⟩
  | 55 => ⟨S8x2048x24, .f32⟩
  | 56 => ⟨S8x2048x24, .f32⟩
  | 57 => ⟨S8x2048x8x3, .f32⟩
  | 58 => ⟨S8x2048x8x1, .f32⟩
  | 59 => ⟨S8x2048x8x64, .f32⟩
  | 60 => ⟨S8x2048x8x64, .f32⟩
  | 61 => ⟨S8x2048x8x1, .f32⟩
  | 62 => ⟨S8x2048x8x64, .f32⟩
  | 63 => ⟨S8x2048x8x64, .f32⟩
  | 64 => ⟨S8x2048x8x64, .f32⟩
  | 65 => ⟨S8x2048x8x1, .f32⟩
  | 66 => ⟨S8x2048x8x64, .f32⟩
  | 67 => ⟨S8x2048x8x64, .f32⟩
  | 68 => ⟨S8x2048x8x64, .f32⟩
  | 69 => ⟨S8x2048x8x64, .f32⟩
  | 70 => ⟨S_, .f32⟩
  | 71 => ⟨S8x2048x8, .f32⟩
  | 72 => ⟨S8x2048x8x1, .f32⟩
  | 73 => ⟨S_, .f32⟩
  | 74 => ⟨S8x2048x8x1, .f32⟩
  | 75 => ⟨S8x2048x8x1, .f32⟩
  | 76 => ⟨S_, .f32⟩
  | 77 => ⟨S8x2048x8x1, .f32⟩
  | 78 => ⟨S8x2048x8x1, .f32⟩
  | 79 => ⟨S8x2048x8x1, .f32⟩
  | 80 => ⟨S8x2048x8x64, .f32⟩
  | 81 => ⟨S8x2048x8x64, .f32⟩
  | 82 => ⟨S8x2048x512, .f32⟩
  | 83 => ⟨S1x1x512, .f32⟩
  | 84 => ⟨S8x2048x512, .f32⟩
  | 85 => ⟨S8x2048x512, .f32⟩
  | 86 => ⟨S16384x512, .f32⟩
  | 87 => ⟨S16384x512, .bf16⟩
  | _ => ⟨S8x2048x8x64, .f32⟩

abbrev hbmTy (i : Nat) : BufTy := match i / 128 with
  | 0 => hbmTy0_0 i
  | 1 => hbmTy0_1 i
  | 2 => hbmTy0_2 i
  | _ => ⟨S8x2048x8x64, .f32⟩

abbrev bufTy : (tb : Table) → Fin (tcTables nBuf tb) → BufTy
  | .hbm, ⟨i, _⟩ => hbmTy i
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_cst_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_19 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v83 : Ref sig .tc := ⟨.hbm, 139, rfl⟩
abbrev main_cst_20 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v84 : Ref sig .tc := ⟨.hbm, 144, rfl⟩
abbrev main_values : Ref sig .tc := ⟨.hbm, 145, rfl⟩
abbrev main_indices : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_21 : Ref sig .tc := ⟨.hbm, 155, rfl⟩
abbrev main_v93 : Ref sig .tc := ⟨.hbm, 156, rfl⟩
abbrev main_v94 : Ref sig .tc := ⟨.hbm, 157, rfl⟩
abbrev main_c_22 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_c_23 : Ref sig .tc := ⟨.hbm, 162, rfl⟩
abbrev main_v98 : Ref sig .tc := ⟨.hbm, 163, rfl⟩
abbrev main_v99 : Ref sig .tc := ⟨.hbm, 164, rfl⟩
abbrev main_c_24 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_c_25 : Ref sig .tc := ⟨.hbm, 169, rfl⟩
abbrev main_v103 : Ref sig .tc := ⟨.hbm, 170, rfl⟩
abbrev main_v104 : Ref sig .tc := ⟨.hbm, 171, rfl⟩
abbrev main_c_26 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_27 : Ref sig .tc := ⟨.hbm, 183, rfl⟩
abbrev main_v115 : Ref sig .tc := ⟨.hbm, 184, rfl⟩
abbrev main_v116 : Ref sig .tc := ⟨.hbm, 185, rfl⟩
abbrev main_c_28 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_c_29 : Ref sig .tc := ⟨.hbm, 190, rfl⟩
abbrev main_v120 : Ref sig .tc := ⟨.hbm, 191, rfl⟩
abbrev main_v121 : Ref sig .tc := ⟨.hbm, 192, rfl⟩
abbrev main_c_30 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_c_31 : Ref sig .tc := ⟨.hbm, 197, rfl⟩
abbrev main_v125 : Ref sig .tc := ⟨.hbm, 198, rfl⟩
abbrev main_v126 : Ref sig .tc := ⟨.hbm, 199, rfl⟩
abbrev main_c_32 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_c_33 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_cst_34 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_35 : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_v157 : Ref sig .tc := ⟨.hbm, 237, rfl⟩
abbrev main_cst_36 : Ref sig .tc := ⟨.hbm, 238, rfl⟩
abbrev main_v158 : Ref sig .tc := ⟨.hbm, 239, rfl⟩
abbrev main_cst_37 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_cst_38 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_cst_39 : Ref sig .tc := ⟨.hbm, 252, rfl⟩
abbrev main_call6_v0 : Ref sig .tc := ⟨.hbm, 253, rfl⟩
abbrev main_call6_v1 : Ref sig .tc := ⟨.hbm, 254, rfl⟩
abbrev main_call6_v2 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_c_40 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_41 : Ref sig .tc := ⟨.hbm, 275, rfl⟩
abbrev main_v187 : Ref sig .tc := ⟨.hbm, 276, rfl⟩
abbrev main_v188 : Ref sig .tc := ⟨.hbm, 277, rfl⟩
abbrev main_cst_42 : Ref sig .tc := ⟨.hbm, 278, rfl⟩
abbrev main_call7_v0 : Ref sig .tc := ⟨.hbm, 279, rfl⟩
abbrev main_call7_v1 : Ref sig .tc := ⟨.hbm, 280, rfl⟩
abbrev main_call7_v2 : Ref sig .tc := ⟨.hbm, 281, rfl⟩
abbrev main_v189 : Ref sig .tc := ⟨.hbm, 282, rfl⟩
abbrev main_cst_43 : Ref sig .tc := ⟨.hbm, 283, rfl⟩
abbrev main_v190 : Ref sig .tc := ⟨.hbm, 284, rfl⟩
abbrev main_cst_44 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_cst_45 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_cst_46 : Ref sig .tc := ⟨.hbm, 297, rfl⟩
abbrev main_call8_v0 : Ref sig .tc := ⟨.hbm, 298, rfl⟩
abbrev main_call8_v1 : Ref sig .tc := ⟨.hbm, 299, rfl⟩
abbrev main_call8_v2 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_cst_47 : Ref sig .tc := ⟨.hbm, 307, rfl⟩
abbrev main_v207 : Ref sig .tc := ⟨.hbm, 308, rfl⟩
abbrev main_v208 : Ref sig .tc := ⟨.hbm, 309, rfl⟩
abbrev main_cst_48 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_cst_49 : Ref sig .tc := ⟨.hbm, 326, rfl⟩
abbrev main_v224 : Ref sig .tc := ⟨.hbm, 327, rfl⟩
abbrev main_v225 : Ref sig .tc := ⟨.hbm, 328, rfl⟩
abbrev main_cst_50 : Ref sig .tc := ⟨.hbm, 329, rfl⟩
abbrev main_v226 : Ref sig .tc := ⟨.hbm, 330, rfl⟩
abbrev main_v227 : Ref sig .tc := ⟨.hbm, 331, rfl⟩
abbrev main_cst_51 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩

abbrev nD : Nat := 1
abbrev τ : Topo := Topo.v7x

variable {F : FTy → Type} [FloatOps F]
-- ==== KernelMlp.lean ====
abbrev S16384x1024 : Shape := ⟨2, ![16384, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceMlpIdeal.lean ====
abbrev S16384x1024 : Shape := ⟨2, ![16384, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x4096, .f32⟩
  | .hbm, ⟨24, _⟩ => ⟨S1024x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S1x4096x1024, .f32⟩
  | .hbm, ⟨31, _⟩ => ⟨S4096x1024, .f32⟩
  | .hbm, ⟨32, _⟩ => ⟨S16384x1024, .f32⟩
  | .hbm, ⟨33, _⟩ => ⟨S1x1024, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelOut.lean ====
abbrev S16384x1024 : Shape := ⟨2, ![16384, 1024]⟩
abbrev S16384x256 : Shape := ⟨2, ![16384, 256]⟩
abbrev S16384x512 : Shape := ⟨2, ![16384, 512]⟩
abbrev S4x1024x1024 : Shape := ⟨3, ![4, 1024, 1024]⟩
abbrev S4x1024 : Shape := ⟨2, ![4, 1024]⟩
abbrev S1x1024 : Shape := ⟨2, ![1, 1024]⟩
abbrev S1024 : Shape := ⟨1, ![1024]⟩
abbrev S1024x1024 : Shape := ⟨2, ![1024, 1024]⟩
abbrev S1024x256 : Shape := ⟨2, ![1024, 256]⟩
abbrev S1024x512 : Shape := ⟨2, ![1024, 512]⟩
abbrev S1x1024x1024 : Shape := ⟨3, ![1, 1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S4x1024x1024, .f32⟩
  | .hbm, ⟨5, _⟩ => ⟨S4x1024, .f32⟩
  | .hbm, ⟨6, _⟩ => ⟨S4x1024x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1x1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S16384x1024 : Shape := ⟨2, ![16384, 1024]⟩
abbrev S16384x256 : Shape := ⟨2, ![16384, 256]⟩
abbrev S16384x512 : Shape := ⟨2, ![16384, 512]⟩
abbrev S4x1024x1024 : Shape := ⟨3, ![4, 1024, 1024]⟩
abbrev S4x1024 : Shape := ⟨2, ![4, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x512, .bf16⟩
  | .hbm, ⟨4, _⟩ => ⟨S4x1024x1024, .f32⟩
  | .hbm, ⟨5, _⟩ => ⟨S4x1024, .f32⟩
  | .hbm, ⟨6, _⟩ => ⟨S16384x1024, .bf16⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.FrameIdeal.lean ====
module

public import proofs.«01_k».proof.Proof.Gen.KernelIdeal.Frame.RunA
public import proofs.«01_k».proof.Proof.Gen.KernelIdeal.Frame.RunB
public import proofs.«01_k».proof.Proof.Gen.KernelIdeal.Frame.RunC
public import proofs.«01_k».proof.Proof.Gen.KernelIdeal.Frame.RunD
public import Idealize.ShloMosaic.Lib.Claim

@[expose] public section

set_option maxRecDepth 16384

/-! # The run of the kernel with the named mask -/

noncomputable section

namespace Nsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body does at a point that stores `L`: from the inputs' blocks to the same blocks and `L`. -/
def Does (c : Dev nD) (t : Fin cfg0.N) (L : List (View.Piece (Elt F) S256x512 .bf16)) : Prop :=
  (∀ y : S256x512.Idx, ∃ pc ∈ L, y ∈ pc.1.set) ∧ ∀ (E : Set ℕ) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ d, owns (c : Thread nD τ) (ms0_11 t) fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t)
          ∗ (∃ f, (ms0_11 t).view.loc (c : Thread nD τ) ↦[(ms0_11 t).view.set]{fullShare} (ms0_11 t).view.writes (Elt F) f L)) -∗ K ⟨⟩))
      ⊢ wp frame (wpE (defs₀ (F := F)) Variants.none c none) E (cc0_nsa (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)) K

/-- Case A's run at a point of that case. -/
def atA (c : Dev nD) (t : Fin cfg0.N) (h0 : ¬2 ≤ t.val % 8) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).1 h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem coverA (c : Dev nD) (t : Fin cfg0.N) (h0 : ¬2 ≤ t.val % 8) (y : S256x512.Idx) : ∃ pc ∈ (atA m c t h0).1, y ∈ pc.1.set :=
  View.cover_of_tiledL (atA m c t h0).1 S256x128.size (by sl_kernel_rfl) y

theorem doesA (c : Dev nD) (t : Fin cfg0.N) (h0 : ¬2 ≤ t.val % 8) : Does m c t (atA m c t h0).1 := by
  refine ⟨coverA m c t h0, ?_⟩
  intro E K
  exact (atA m c t h0).2 E K

/-- Case B's run at a point of that case. -/
def atB (c : Dev nD) (t : Fin cfg0.N) (h0 : 2 ≤ t.val % 8) (h1 : 2 ≤ t.val % 8 ∧ t.val % 8 ≤ 3) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).2 h0) (fun h => (hcond0_1 t).1 h h1) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem coverB (c : Dev nD) (t : Fin cfg0.N) (h0 : 2 ≤ t.val % 8) (h1 : 2 ≤ t.val % 8 ∧ t.val % 8 ≤ 3) (y : S256x512.Idx) : ∃ pc ∈ (atB m c t h0 h1).1, y ∈ pc.1.set :=
  View.cover_of_tiledL (atB m c t h0 h1).1 S256x128.size (by sl_kernel_rfl) y

theorem doesB (c : Dev nD) (t : Fin cfg0.N) (h0 : 2 ≤ t.val % 8) (h1 : 2 ≤ t.val % 8 ∧ t.val % 8 ≤ 3) : Does m c t (atB m c t h0 h1).1 := by
  refine ⟨coverB m c t h0 h1, ?_⟩
  intro E K
  exact (atB m c t h0 h1).2 E K

/-- Case C's run at a point of that case. -/
def atC (c : Dev nD) (t : Fin cfg0.N) (h0 : 2 ≤ t.val % 8) (h1 : ¬(2 ≤ t.val % 8 ∧ t.val % 8 ≤ 3)) (h2 : 4 ≤ t.val % 8 ∧ t.val % 8 ≤ 5) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).2 h0) ((hcond0_1 t).2 h1) (fun h => (hcond0_2 t).1 h h2) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem coverC (c : Dev nD) (t : Fin cfg0.N) (h0 : 2 ≤ t.val % 8) (h1 : ¬(2 ≤ t.val % 8 ∧ t.val % 8 ≤ 3)) (h2 : 4 ≤ t.val % 8 ∧ t.val % 8 ≤ 5) (y : S256x512.Idx) : ∃ pc ∈ (atC m c t h0 h1 h2).1, y ∈ pc.1.set :=
  View.cover_of_tiledL (atC m c t h0 h1 h2).1 S256x128.size (by sl_kernel_rfl) y

theorem doesC (c : Dev nD) (t : Fin cfg0.N) (h0 : 2 ≤ t.val % 8) (h1 : ¬(2 ≤ t.val % 8 ∧ t.val % 8 ≤ 3)) (h2 : 4 ≤ t.val % 8 ∧ t.val % 8 ≤ 5) : Does m c t (atC m c t h0 h1 h2).1 := by
  refine ⟨coverC m c t h0 h1 h2, ?_⟩
  intro E K
  exact (atC m c t h0 h1 h2).2 E K

/-- Case D's run at a point of that case. -/
def atD (c : Dev nD) (t : Fin cfg0.N) (h0 : 2 ≤ t.val % 8) (h1 : ¬(2 ≤ t.val % 8 ∧ t.val % 8 ≤ 3)) (h2 : ¬(4 ≤ t.val % 8 ∧ t.val % 8 ≤ 5)) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).2 h0) ((hcond0_1 t).2 h1) ((hcond0_2 t).2 h2) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem coverD (c : Dev nD) (t : Fin cfg0.N) (h0 : 2 ≤ t.val % 8) (h1 : ¬(2 ≤ t.val % 8 ∧ t.val % 8 ≤ 3)) (h2 : ¬(4 ≤ t.val % 8 ∧ t.val % 8 ≤ 5)) (y : S256x512.Idx) : ∃ pc ∈ (atD m c t h0 h1 h2).1, y ∈ pc.1.set :=
  View.cover_of_tiledL (atD m c t h0 h1 h2).1 S256x128.size (by sl_kernel_rfl) y

theorem doesD (c : Dev nD) (t : Fin cfg0.N) (h0 : 2 ≤ t.val % 8) (h1 : ¬(2 ≤ t.val % 8 ∧ t.val % 8 ≤ 3)) (h2 : ¬(4 ≤ t.val % 8 ∧ t.val % 8 ≤ 5)) : Does m c t (atD m c t h0 h1 h2).1 := by
  refine ⟨coverD m c t h0 h1 h2, ?_⟩
  intro E K
  exact (atD m c t h0 h1 h2).2 E K

/-- The pieces the body stores at a point. -/
def pcs (c : Dev nD) (t : Fin cfg0.N) : List (View.Piece (Elt F) S256x512 .bf16) :=
  if h0 : 2 ≤ t.val % 8 then
    if h1 : 2 ≤ t.val % 8 ∧ t.val % 8 ≤ 3 then (atB m c t h0 h1).1
    else if h2 : 4 ≤ t.val % 8 ∧ t.val % 8 ≤ 5 then (atC m c t h0 h1 h2).1
    else (atD m c t h0 h1 h2).1
  else (atA m c t h0).1

theorem does (c : Dev nD) (t : Fin cfg0.N) : Does m c t (pcs m c t) := by
  unfold pcs
  split
  · split
    · exact doesB m c t _ _
    · split
      · exact doesC m c t _ _ _
      · exact doesD m c t _ _ _
  · exact doesA m c t _

/-- What the body leaves in the output's buffer. -/
def left (c : Dev nD) (t : Fin cfg0.N) : Vec F S256x512 .bf16 :=
  VO0_11.read (Elt F) (VO0_11.writes (Elt F) VO0_11.junk (pcs m c t))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = left m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem live11 : ∀ t : Fin cfg0.N, cfg0.idle 11 (grid0.coords t) = false := by decide +kernel

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0]
  rw [show (dats m 0 c).leavesExact 1 t = owns (c : Thread nD τ) (ms0_1 t) fullShare ((dats m 0 c).after 1 t) from by
    unfold Dat.leavesExact; rw [liveAt0_1 t], after1]
  rw [show (dats m 0 c).leavesExact 2 t = owns (c : Thread nD τ) (ms0_2 t) fullShare ((dats m 0 c).after 2 t) from by
    unfold Dat.leavesExact; rw [liveAt0_2 t], after2]
  rw [show (dats m 0 c).leavesExact 3 t = owns (c : Thread nD τ) (ms0_3 t) fullShare ((dats m 0 c).after 3 t) from by
    unfold Dat.leavesExact; rw [liveAt0_3 t], after3]
  rw [show (dats m 0 c).leavesExact 4 t = owns (c : Thread nD τ) (ms0_4 t) fullShare ((dats m 0 c).after 4 t) from by
    unfold Dat.leavesExact; rw [liveAt0_4 t], after4]
  rw [show (dats m 0 c).leavesExact 5 t = owns (c : Thread nD τ) (ms0_5 t) fullShare ((dats m 0 c).after 5 t) from by
    unfold Dat.leavesExact; rw [liveAt0_5 t], after5]
  rw [show (dats m 0 c).leavesExact 6 t = owns (c : Thread nD τ) (ms0_6 t) fullShare ((dats m 0 c).after 6 t) from by
    unfold Dat.leavesExact; rw [liveAt0_6 t], after6]
  rw [show (dats m 0 c).leavesExact 7 t = owns (c : Thread nD τ) (ms0_7 t) fullShare ((dats m 0 c).after 7 t) from by
    unfold Dat.leavesExact; rw [liveAt0_7 t], after7]
  rw [show (dats m 0 c).leavesExact 8 t = owns (c : Thread nD τ) (ms0_8 t) fullShare ((dats m 0 c).after 8 t) from by
    unfold Dat.leavesExact; rw [liveAt0_8 t], after8]
  rw [show (dats m 0 c).leavesExact 9 t = owns (c : Thread nD τ) (ms0_9 t) fullShare ((dats m 0 c).after 9 t) from by
    unfold Dat.leavesExact; rw [liveAt0_9 t], after9]
  rw [show (dats m 0 c).leavesExact 10 t = owns (c : Thread nD τ) (ms0_10 t) fullShare ((dats m 0 c).after 10 t) from by
    unfold Dat.leavesExact; rw [liveAt0_10 t], after10]
  rw [show (dats m 0 c).leavesExact 11 t = owns (c : Thread nD τ) (ms0_11 t) fullShare ((dats m 0 c).after 11 t) from by
    unfold Dat.leavesExact; rw [live11 t], after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (does m c t).2 Set.univ _
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexists _; iexact H11
  iintro ⟨H0, H1, H2, H3, H4, H5, H6, H7, H8, H9, H10, ⟨%e11, H11⟩⟩
  isplitl [HΦ]; iexact HΦ
  isplitl [Ho]; iexact Ho
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  unfold owns
  iexists _
  isplitr
  swap; · iexact H11
  ipureintro; exact View.read_writes_of_cover _ _ _ _ _ (does m c t).1

theorem row_body (t : Fin cfg0.N) :
    defs₀ (F := F) .tc cfg0.body (cfg0.bodyArgs t (cfg0.slots t)) = bodyAt0 t := by
  unfold defs₀; rw [Defs.onTc_tc]

set_option maxHeartbeats 6000000 in
/-- The pipeline's body obligation. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-! ## The run and the frame -/

set_option backward.isDefEq.respectTransparency.types false in
/-- Every run ends with the pipeline's arrays at what the proof data say, the other buffers as the region found
them and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments and the counters end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Nsa
-- ==== Proof.Tile.lean ====
module

public import proofs.«01_k».proof.Proof.Gen.KernelIdeal.Skeleton

@[expose] public section

set_option maxRecDepth 16384

/-! # One query tile of the attention kernel, for any number of trips

The kernel switches between four bodies that differ in how many groups of chunks they sweep.  Here the body
is written once, with the number of trips as an argument, in the operations of the printed kernel. -/

noncomputable section

namespace Nsa

open Idealize.ShloMosaic Idealize.SL.Sem
open Cert.KernelIdeal Cert.KernelIdeal.Gen

variable {F : FTy → Type} [FloatOps F] [Named F]

/-- What one key/value group's part of a tile loads. -/
structure Loads (F : FTy → Type) where
  q : Vec F S1x4x256x64 .bf16
  kc : Vec F S1x1x128x64 .bf16
  vc : Vec F S1x1x64x128 .bf16
  kw : Vec F S1x1x512x64 .bf16
  vw : ℕ → Vec F S1x1x1x80x128 .bf16
  ov : Vec F S32x128 .f32
  et : ℕ → Vec F S1x256x32 .bf16
  ks : ℕ → Vec F S1x1x256x64 .bf16
  vs : ℕ → Vec F S1x1x1x80x256 .bf16
  gt : Vec F S1x1x16x256 .f32
  gain : ℕ → Vec F S1x64x1 .f32

namespace Tile

/-- The tile's query positions. -/
def tq (v0 : BitVec 32) : IVec S1x256 32 := addi (broadcast S1x256 v0) (iota .tc S1x256 32 [1] iota_S1x256_d1_w32)

/-- The window's first key. -/
def wstart (v0 : BitVec 32) : BitVec 32 := Scalar.maxsi (Scalar.subi v0 256#32) 0#32

/-- A tile's queries, the heads of the group one after the other. -/
def qs (q : Vec F S1x4x256x64 .bf16) : FVec F S1024x64 .bf16 :=
  shapeCast S1024x64 (shapeCast S4x256x64 q shapeCasts_S1x4x256x64_S4x256x64) shapeCasts_S4x256x64_S1024x64

/-! ## The window branch -/

def wmask (v0 : BitVec 32) : IVec S512x256 1 :=
  andi
    (cmpi .sle
      (broadcastTo S512x256 (addi (broadcast S512x1 (wstart v0)) (iota .tc S512x1 32 [0] iota_S512x1_d0_w32)) broadcasts_S512x1_S512x256)
      (broadcastTo S512x256 (tq v0) broadcasts_S1x256_S512x256))
    (cmpi .slt
      (subi (broadcastTo S512x256 (tq v0) broadcasts_S1x256_S512x256)
        (broadcastTo S512x256 (addi (broadcast S512x1 (wstart v0)) (iota .tc S512x1 32 [0] iota_S512x1_d0_w32)) broadcasts_S512x1_S512x256))
      (broadcast S512x256 256#32))

def wbias (v0 : BitVec 32) : FVec F S512x256 .f32 :=
  select (wmask v0) (broadcast S512x256 (Scalar.ofBits .f32 0x00000000#32 : F .f32))
    (broadcast S512x256 (Named.named κ "mask" 0xF149F2CA#32 : F .f32))

def wscore (v0 : BitVec 32) (q : Vec F S1x4x256x64 .bf16) (kw : Vec F S1x1x512x64 .bf16) : FVec F S512x1024 .f32 :=
  addf (matmul dot_S512x64_S1024x64_S512x1024_1_1_0_0_n_n none
      (shapeCast S512x64 kw shapeCasts_S1x1x512x64_S512x64) (qs q) (constant S512x1024 .f32 0x00000000#32))
    (concatenate S512x1024 1 [⟨S512x256, wbias v0⟩, ⟨S512x256, wbias v0⟩, ⟨S512x256, wbias v0⟩, ⟨S512x256, wbias v0⟩]
      concatenates_S512x256_S512x256_S512x256_S512x256_S512x1024_d1)

def wexp (x : FVec F S512x1024 .f32) : FVec F S512x1024 .f32 :=
  exp2 (subf x (broadcastTo S512x1024
    (shapeCast S1x1024 (multiReduction .maximumf [0] S1024 x 0xFF800000#32 reduces_S512x1024_S1024 (.inl rfl) rfl)
      shapeCasts_S1024_S1x1024) broadcasts_S1x1024_S512x1024))

/-- The window's values, four blocks side by side. -/
def wvals (vw : ℕ → Vec F S1x1x1x80x128 .bf16) : FVec F S80x512 .bf16 :=
  concatenate S80x512 1
    [⟨S80x128, shapeCast S80x128 (vw 0) shapeCasts_S1x1x1x80x128_S80x128⟩,
     ⟨S80x128, shapeCast S80x128 (vw 1) shapeCasts_S1x1x1x80x128_S80x128⟩,
     ⟨S80x128, shapeCast S80x128 (vw 2) shapeCasts_S1x1x1x80x128_S80x128⟩,
     ⟨S80x128, shapeCast S80x128 (vw 3) shapeCasts_S1x1x1x80x128_S80x128⟩]
    concatenates_S80x128_S80x128_S80x128_S80x128_S80x512_d1

/-- The window branch: rows 0–63 the weighted sum of the values, row 64 the sum of the weights. -/
def wout (v0 : BitVec 32) (L : Loads F) : FVec F S80x1024 .f32 :=
  matmul dot_S80x512_S512x1024_S80x1024_1_0_0_1_n_n none (wvals L.vw)
    (truncf .bf16 (wexp (wscore v0 L.q L.kw)) bitsLt_bf16_f32) (constant S80x1024 .f32 0x00000000#32)

/-! ## The compressed branch -/

def cmask1 (v0 : BitVec 32) : IVec S128x256 1 :=
  cmpi .sle
    (broadcastTo S128x256
      (addi (muli (iota .tc S128x1 32 [0] iota_S128x1_d0_w32) (broadcast S128x1 16#32)) (broadcast S128x1 31#32))
      broadcasts_S128x1_S128x256)
    (broadcastTo S128x256 (tq v0) broadcasts_S1x256_S128x256)

def cmask (v0 : BitVec 32) : IVec S128x1024 1 :=
  concatenate S128x1024 1 [⟨S128x256, cmask1 v0⟩, ⟨S128x256, cmask1 v0⟩, ⟨S128x256, cmask1 v0⟩, ⟨S128x256, cmask1 v0⟩]
    concatenates_S128x256_S128x256_S128x256_S128x256_S128x1024_d1

def cscore (v0 : BitVec 32) (q : Vec F S1x4x256x64 .bf16) (kc : Vec F S1x1x128x64 .bf16) : FVec F S128x1024 .f32 :=
  select (cmask v0)
    (matmul dot_S128x64_S1024x64_S128x1024_1_1_0_0_n_n none
      (shapeCast S128x64 kc shapeCasts_S1x1x128x64_S128x64) (qs q) (constant S128x1024 .f32 0x00000000#32))
    (broadcast S128x1024 (Named.named κ "mask" 0xF149F2CA#32 : F .f32))

def cexp (v0 : BitVec 32) (x : FVec F S128x1024 .f32) : FVec F S128x1024 .f32 :=
  select (cmask v0)
    (exp2 (subf x (broadcastTo S128x1024
      (shapeCast S1x1024 (multiReduction .maximumf [0] S1024 x 0xFF800000#32 reduces_S128x1024_S1024 (.inl rfl) rfl)
        shapeCasts_S1024_S1x1024) broadcasts_S1x1024_S128x1024)))
    (broadcast S128x1024 (Scalar.ofBits .f32 0x00000000#32 : F .f32))

/-- Weights from their exponentials, by the reciprocal of the sum. -/
def cnorm (e : FVec F S128x1024 .f32) : FVec F S128x1024 .f32 :=
  mulf e (broadcastTo S128x1024
    (divf (broadcast S1x1024 (Scalar.ofBits .f32 0x3F800000#32 : F .f32))
      (maximumf
        (shapeCast S1x1024 (multiReduction .add [0] S1024 e 0x00000000#32 reduces_S128x1024_S1024 (.inl rfl) rfl)
          shapeCasts_S1024_S1x1024)
        (broadcast S1x1024 (Scalar.ofBits .f32 0x0DA24260#32 : F .f32))))
    broadcasts_S1x1024_S128x1024)

def cw (v0 : BitVec 32) (L : Loads F) : FVec F S128x1024 .f32 := cnorm (cexp v0 (cscore v0 L.q L.kc))

def cout (v0 : BitVec 32) (L : Loads F) : FVec F S64x1024 .f32 :=
  matmul dot_S64x128_S128x1024_S64x1024_1_0_0_1_n_n none (shapeCast S64x128 L.vc shapeCasts_S1x1x64x128_S64x128)
    (truncf .bf16 (cw v0 L) bitsLt_bf16_f32) (constant S64x1024 .f32 0x00000000#32)

/-! ## The choice of the blocks -/

def imp (p : FVec F S128x1024 .f32) (ov : Vec F S32x128 .f32) : FVec F S32x256 .f32 :=
  matmul dot_S32x128_S128x256_S32x256_1_0_0_1_n_n (some .fp32) (shapeCast S32x128 ov shapeCasts_S32x128_S32x128)
    (addf (addf (addf
      (extractStridedSlice S128x256 ![0, 0] p slices_S128x1024_o0_0_S128x256)
      (extractStridedSlice S128x256 ![0, 256] p slices_S128x1024_o0_256_S128x256))
      (extractStridedSlice S128x256 ![0, 512] p slices_S128x1024_o0_512_S128x256))
      (extractStridedSlice S128x256 ![0, 768] p slices_S128x1024_o0_768_S128x256))
    (constant S32x256 .f32 0x00000000#32)

def blk : IVec S32x1 32 := iota .tc S32x1 32 [0] iota_S32x1_d0_w32

def bvalid (v0 : BitVec 32) : IVec S32x256 1 :=
  cmpi .sle (broadcastTo S32x256 (muli blk (broadcast S32x1 64#32)) broadcasts_S32x1_S32x256)
    (broadcastTo S32x256 (tq v0) broadcasts_S1x256_S32x256)

/-- The block each query lies in. -/
def tblk (v0 : BitVec 32) : IVec S1x256 32 :=
  select
    (andi
      (cmpi .ne
        (subi (extui 32 (cmpi .sgt (tq v0) (broadcast S1x256 0#32)) natLt_1_32)
          (extui 32 (cmpi .slt (tq v0) (broadcast S1x256 0#32)) natLt_1_32))
        (broadcast S1x256 (Scalar.subi (Scalar.extui (Scalar.cmpi .sgt 64#32 0#32)) (Scalar.extui (Scalar.cmpi .slt 64#32 0#32)))))
      (cmpi .ne (remsi (tq v0) (broadcast S1x256 64#32)) (broadcast S1x256 0#32)))
    (subi (divsi (tq v0) (broadcast S1x256 64#32)) (broadcast S1x256 1#32))
    (divsi (tq v0) (broadcast S1x256 64#32))

def forced (v0 : BitVec 32) : IVec S32x256 1 :=
  ori (broadcastTo S32x256 (cmpi .eq blk (broadcast S32x1 0#32)) broadcasts_S32x1_S32x256)
    (cmpi .eq (broadcastTo S32x256 blk broadcasts_S32x1_S32x256) (broadcastTo S32x256 (tblk v0) broadcasts_S1x256_S32x256))

/-- The key each block is ranked by. -/
def bkey (v0 : BitVec 32) (x : FVec F S32x256 .f32) : FVec F S32x256 .f32 :=
  select (forced v0) (broadcast S32x256 (Scalar.ofBits .f32 0x461C4000#32 : F .f32))
    (select (bvalid v0) x (broadcast S32x256 (Scalar.ofBits .f32 0xC61C4000#32 : F .f32)))

theorem slices_row (n : ℕ) (h : n < 32) : S32x256.Slices ![n, 0] S1x256 := by
  have : ∀ n : Fin 32, S32x256.Slices ![n.val, 0] S1x256 := by decide
  exact this ⟨n, h⟩

/-- Where block `n` is ranked before each block. -/
def wins (v : FVec F S32x256 .f32) (n : ℕ) (h : n < 32) : FVec F S32x256 .f32 :=
  select
    (broadcastTo S32x256 (shapeCast S32x1 (cmpi .sgt blk (broadcast S32x1 (BitVec.ofNat 32 n))) shapeCasts_S32x1_S32x1)
      broadcasts_S32x1_S32x256)
    (select
      (cmpf .oge (broadcastTo S32x256 (extractStridedSlice S1x256 ![n, 0] v (slices_row n h)) broadcasts_S1x256_S32x256) v)
      (broadcast S32x256 (Scalar.ofBits .f32 0x3F800000#32 : F .f32))
      (broadcast S32x256 (Scalar.ofBits .f32 0x00000000#32 : F .f32)))
    (select
      (cmpf .ogt (broadcastTo S32x256 (extractStridedSlice S1x256 ![n, 0] v (slices_row n h)) broadcasts_S1x256_S32x256) v)
      (broadcast S32x256 (Scalar.ofBits .f32 0x3F800000#32 : F .f32))
      (broadcast S32x256 (Scalar.ofBits .f32 0x00000000#32 : F .f32)))

/-- How many of the first `n` blocks are ranked before each block. -/
def rank (v : FVec F S32x256 .f32) : (n : ℕ) → n ≤ 32 → FVec F S32x256 .f32
  | 0, _ => broadcast S32x256 (Scalar.ofBits .f32 0x00000000#32 : F .f32)
  | n + 1, h => addf (rank v n (by omega)) (wins v n (by omega))

/-- The bias of each block: 0 where it is chosen, the mask elsewhere. -/
def selb (r : FVec F S32x256 .f32) : FVec F S32x256 .bf16 :=
  truncf .bf16
    (select (cmpf .olt r (broadcast S32x256 (Scalar.ofBits .f32 0x41000000#32 : F .f32)))
      (broadcast S32x256 (Scalar.ofBits .f32 0x00000000#32 : F .f32))
      (broadcast S32x256 (Named.named κ "mask" 0xF149F2CA#32 : F .f32))) bitsLt_bf16_f32

def sel (v0 : BitVec 32) (L : Loads F) : FVec F S32x256 .bf16 :=
  selb (rank (bkey v0 (imp (cw v0 L) L.ov)) 32 le_rfl)

/-! ## The chosen blocks, chunk after chunk -/

def ebias (sb : FVec F S32x256 .bf16) (et : Vec F S1x256x32 .bf16) : FVec F S256x256 .f32 :=
  matmul dot_S256x32_S32x256_S256x256_1_0_0_1_n_n none (shapeCast S256x32 et shapeCasts_S1x256x32_S256x32) sb
    (constant S256x256 .f32 0x00000000#32)

def causal (v0 : BitVec 32) (n : ℕ) : IVec S256x256 1 :=
  cmpi .sle
    (broadcastTo S256x256 (addi (broadcast S256x1 (BitVec.ofNat 32 (256 * n))) (iota .tc S256x1 32 [0] iota_S256x1_d0_w32))
      broadcasts_S256x1_S256x256)
    (broadcastTo S256x256 (tq v0) broadcasts_S1x256_S256x256)

/-- The bias of chunk `n`; the chunks of the last trip are masked causally as well. -/
def sbias (v0 : BitVec 32) (last : Bool) (n : ℕ) (sb : FVec F S32x256 .bf16) (et : Vec F S1x256x32 .bf16) : FVec F S256x256 .f32 :=
  match last with
  | true => select (causal v0 n) (ebias sb et) (broadcast S256x256 (Named.named κ "mask" 0xF149F2CA#32 : F .f32))
  | false => ebias sb et

def sscore (q : Vec F S1x4x256x64 .bf16) (ks : Vec F S1x1x256x64 .bf16) (b : FVec F S256x256 .f32) : FVec F S256x1024 .f32 :=
  addf (matmul dot_S256x64_S1024x64_S256x1024_1_1_0_0_n_n none
      (shapeCast S256x64 ks shapeCasts_S1x1x256x64_S256x64) (qs q) (constant S256x1024 .f32 0x00000000#32))
    (concatenate S256x1024 1 [⟨S256x256, b⟩, ⟨S256x256, b⟩, ⟨S256x256, b⟩, ⟨S256x256, b⟩]
      concatenates_S256x256_S256x256_S256x256_S256x256_S256x1024_d1)

def chunk (v0 : BitVec 32) (trips : ℕ) (L : Loads F) (n : ℕ) : FVec F S256x1024 .f32 :=
  sscore L.q (L.ks n) (sbias v0 (Nat.ble (2 * trips) (n + 2)) n (sel v0 L) (L.et n))

/-- The running maximum before chunk `n`. -/
def mx (x : ℕ → FVec F S256x1024 .f32) : ℕ → FVec F S1x1024 .f32
  | 0 => broadcast S1x1024 (Named.named κ "mask" 0xF149F2CA#32 : F .f32)
  | n + 1 => maximumf (mx x n)
      (shapeCast S1x1024 (multiReduction .maximumf [0] S1024 (x n) 0xFF800000#32 reduces_S256x1024_S1024 (.inl rfl) rfl)
        shapeCasts_S1024_S1x1024)

/-- The accumulator before chunk `n`. -/
def acc (x : ℕ → FVec F S256x1024 .f32) (vs : ℕ → Vec F S1x1x1x80x256 .bf16) : ℕ → FVec F S80x1024 .f32
  | 0 => broadcast S80x1024 (Scalar.ofBits .f32 0x00000000#32 : F .f32)
  | n + 1 => addf
      (mulf (broadcastTo S80x1024 (exp2 (subf (mx x n) (mx x (n + 1)))) broadcasts_S1x1024_S80x1024) (acc x vs n))
      (matmul dot_S80x256_S256x1024_S80x1024_1_0_0_1_n_n none (shapeCast S80x256 (vs n) shapeCasts_S1x1x1x80x256_S80x256)
        (truncf .bf16 (exp2 (subf (x n) (broadcastTo S256x1024 (mx x (n + 1)) broadcasts_S1x1024_S256x1024))) bitsLt_bf16_f32)
        (constant S80x1024 .f32 0x00000000#32))

def sout (v0 : BitVec 32) (trips : ℕ) (L : Loads F) : FVec F S80x1024 .f32 := acc (chunk v0 trips L) L.vs (2 * trips)

/-! ## The gates, the norm and the store -/

def gates (gt : Vec F S1x1x16x256 .f32) : FVec F S16x256 .f32 :=
  divf (broadcast S16x256 (Scalar.ofBits .f32 0x3F800000#32 : F .f32))
    (addf (broadcast S16x256 (Scalar.ofBits .f32 0x3F800000#32 : F .f32))
      (exp (subf (broadcast S16x256 (Scalar.ofBits .f32 0x00000000#32 : F .f32))
        (shapeCast S16x256 gt shapeCasts_S1x1x16x256_S16x256))))

theorem slices_gate (n : ℕ) (h : n < 12) : S16x256.Slices ![n, 0] S1x256 := by
  have : ∀ n : Fin 12, S16x256.Slices ![n.val, 0] S1x256 := by decide
  exact this ⟨n, h⟩

theorem slices_head (r : ℕ) (h : r < 4) : S64x1024.Slices ![0, 256 * r] S64x256 := by
  have : ∀ n : Fin 4, S64x1024.Slices ![0, 256 * n.val] S64x256 := by decide
  exact this ⟨r, h⟩

theorem slices_lane (r : ℕ) (h : r < 4) : S1x1024.Slices ![0, 256 * r] S1x256 := by
  have : ∀ n : Fin 4, S1x1024.Slices ![0, 256 * n.val] S1x256 := by decide
  exact this ⟨r, h⟩

/-- The gate over the sum of the weights, times the weighted sum of the values. -/
def branch (gs : FVec F S16x256 .f32) (o : FVec F S80x1024 .f32) (n r : ℕ) (hn : n < 12) (h : r < 4) : FVec F S64x256 .f32 :=
  mulf
    (broadcastTo S64x256
      (divf (extractStridedSlice S1x256 ![n, 0] gs (slices_gate n hn))
        (extractStridedSlice S1x256 ![0, 256 * r]
          (extractStridedSlice S1x1024 ![64, 0] o slices_S80x1024_o64_0_S1x1024) (slices_lane r h)))
      broadcasts_S1x256_S64x256)
    (extractStridedSlice S64x256 ![0, 256 * r]
      (extractStridedSlice S64x1024 ![0, 0] o slices_S80x1024_o0_0_S64x1024) (slices_head r h))

/-- One head's output before the norm. -/
def head (v0 : BitVec 32) (trips : ℕ) (L : Loads F) (r : ℕ) (h : r < 4) : FVec F S64x256 .f32 :=
  addf
    (addf
      (mulf
        (broadcastTo S64x256 (extractStridedSlice S1x256 ![3 * r, 0] (gates L.gt) (slices_gate (3 * r) (by omega)))
          broadcasts_S1x256_S64x256)
        (extractStridedSlice S64x256 ![0, 256 * r] (cout v0 L) (slices_head r h)))
      (branch (gates L.gt) (sout v0 trips L) (3 * r + 1) r (by omega) h))
    (branch (gates L.gt) (wout v0 L) (3 * r + 2) r (by omega) h)

def norm (o : FVec F S64x256 .f32) (gain : Vec F S1x64x1 .f32) : FVec F S64x256 .f32 :=
  mulf
    (mulf o (broadcastTo S64x256
      (rsqrt (addf
        (divf
          (shapeCast S1x256 (multiReduction .add [0] S256 (mulf o o) 0x00000000#32 reduces_S64x256_S256 (.inl rfl) rfl)
            shapeCasts_S256_S1x256)
          (broadcast S1x256 (Scalar.ofBits .f32 0x42800000#32 : F .f32)))
        (broadcast S1x256 (Scalar.ofBits .f32 0x358637BD#32 : F .f32))))
      broadcasts_S1x256_S64x256))
    (broadcastTo S64x256 (shapeCast S64x1 gain shapeCasts_S1x64x1_S64x1) broadcasts_S64x1_S64x256)

def pair (a b : FVec F S64x256 .f32) : FVec F S256x128 .bf16 :=
  truncf .bf16
    (transpose S256x128 [1, 0]
      (concatenate S128x256 0 [⟨S64x256, a⟩, ⟨S64x256, b⟩] concatenates_S64x256_S64x256_S128x256_d0)
      transposes_S128x256_p1_0_S256x128) bitsLt_bf16_f32

/-- What the tile stores, two heads at a time. -/
def out2 (v0 : BitVec 32) (trips : ℕ) (L : Loads F) (r : ℕ) (h : r + 1 < 4) : FVec F S256x128 .bf16 :=
  pair (norm (head v0 trips L r (by omega)) (L.gain r)) (norm (head v0 trips L (r + 1) h) (L.gain (r + 1)))

/-- The tile's pieces, last first. -/
def pieces (v0 : BitVec 32) (trips : ℕ) (L0 L1 : Loads F) : List (View.Piece (Elt F) S256x512 .bf16) :=
  [⟨Rect.unit ![0, 384] ![256, 128] inb_S256x512_S256x128_0_384, out2 v0 trips L1 2 (by decide)⟩,
   ⟨Rect.unit ![0, 256] ![256, 128] inb_S256x512_S256x128_0_256, out2 v0 trips L1 0 (by decide)⟩,
   ⟨Rect.unit ![0, 128] ![256, 128] inb_S256x512_S256x128_0_128, out2 v0 trips L0 2 (by decide)⟩,
   ⟨Rect.unit ![0, 0] ![256, 128] inb_S256x512_S256x128_0_0, out2 v0 trips L0 0 (by decide)⟩]

end Tile

end Nsa
-- ==== Proof.Loaded.lean ====
module

public import proofs.«01_k».proof.Proof.Tile
public import proofs.«01_k».proof.Proof.Gen.KernelIdeal.Frame.Runs

@[expose] public section

set_option maxRecDepth 16384

/-! # What a tile loads from its blocks -/

noncomputable section

namespace Nsa

open Idealize.ShloMosaic Idealize.SL.Sem
open Cert.KernelIdeal Cert.KernelIdeal.Gen

variable {F : FTy → Type} [FloatOps F] [Named F]

/-- The window's first key, as the loads compute it. -/
def wrow (i : grid0.Coords) : ℕ := k0_off1 i 2

/-- The window's block `j`, as the loads compute it. -/
def wblk (i : grid0.Coords) (j : ℕ) : ℕ := k0_off3 i (BitVec.ofNat 32 j) 2

theorem wrow_eq : ∀ i : grid0.Coords, wrow i = 256 * ((i 1).val - 1) := by decide +kernel

theorem wblk_eq' : ∀ i : grid0.Coords, ∀ j : Fin 4, wblk i j.val = 2 * ((i 1).val - 1) + j.val := by decide +kernel

theorem wblk_eq (i : grid0.Coords) (j : ℕ) (h : j < 4) : wblk i j = 2 * ((i 1).val - 1) + j := wblk_eq' i ⟨j, h⟩

theorem i1_lt (i : grid0.Coords) : (i 1).val < 8 := (i 1).isLt

theorem inb_q (g : Fin 2) : ∀ a, (![0, 4 * g.val, 0, 0] : Fin 4 → ℕ) a + S1x4x256x64.size a ≤ S1x8x256x64.size a := by
  revert g; decide
theorem inb_kc (g : Fin 2) : ∀ a, (![0, 0, 128 * g.val, 0] : Fin 4 → ℕ) a + S1x1x128x64.size a ≤ S1x1x256x64.size a := by
  revert g; decide
theorem inb_vc (g : Fin 2) : ∀ a, (![0, 0, 0, 128 * g.val] : Fin 4 → ℕ) a + S1x1x64x128.size a ≤ S1x1x64x256.size a := by
  revert g; decide
theorem inb_kw : ∀ (i : grid0.Coords) (g : Fin 2), ∀ a, (![0, g.val, wrow i, 0] : Fin 4 → ℕ) a + S1x1x512x64.size a ≤ S1x2x2048x64.size a := by
  decide +kernel
theorem inb_vw' : ∀ (i : grid0.Coords) (g : Fin 2) (j : Fin 4), ∀ a, (![0, g.val, wblk i j.val, 0, 0] : Fin 5 → ℕ) a + S1x1x1x80x128.size a ≤ S1x2x16x80x128.size a := by
  decide +kernel
theorem inb_vw (i : grid0.Coords) (g : Fin 2) (j : ℕ) : ∀ a, (![0, g.val, wblk i (min j 3), 0, 0] : Fin 5 → ℕ) a + S1x1x1x80x128.size a ≤ S1x2x16x80x128.size a :=
  inb_vw' i g ⟨min j 3, by omega⟩
theorem inb_et (n : ℕ) : ∀ a, (![min n 7, 0, 0] : Fin 3 → ℕ) a + S1x256x32.size a ≤ S8x256x32.size a := by
  have : ∀ n : Fin 8, ∀ a, (![n.val, 0, 0] : Fin 3 → ℕ) a + S1x256x32.size a ≤ S8x256x32.size a := by decide
  exact this ⟨min n 7, by omega⟩
theorem inb_ks (g : Fin 2) (n : ℕ) : ∀ a, (![0, g.val, 256 * min n 7, 0] : Fin 4 → ℕ) a + S1x1x256x64.size a ≤ S1x2x2048x64.size a := by
  have : ∀ (g : Fin 2) (n : Fin 8), ∀ a, (![0, g.val, 256 * n.val, 0] : Fin 4 → ℕ) a + S1x1x256x64.size a ≤ S1x2x2048x64.size a := by decide
  exact this g ⟨min n 7, by omega⟩
theorem inb_vs (g : Fin 2) (n : ℕ) : ∀ a, (![0, g.val, min n 7, 0, 0] : Fin 5 → ℕ) a + S1x1x1x80x256.size a ≤ S1x2x8x80x256.size a := by
  have : ∀ (g : Fin 2) (n : Fin 8), ∀ a, (![0, g.val, n.val, 0, 0] : Fin 5 → ℕ) a + S1x1x1x80x256.size a ≤ S1x2x8x80x256.size a := by decide
  exact this g ⟨min n 7, by omega⟩
theorem inb_gt (g : Fin 2) : ∀ a, (![g.val, 0, 0, 0] : Fin 4 → ℕ) a + S1x1x16x256.size a ≤ S2x1x16x256.size a := by
  revert g; decide
theorem inb_gain (g : Fin 2) (r : ℕ) : ∀ a, (![4 * g.val + min r 3, 0, 0] : Fin 3 → ℕ) a + S1x64x1.size a ≤ S8x64x1.size a := by
  have : ∀ (g : Fin 2) (r : Fin 4), ∀ a, (![4 * g.val + r.val, 0, 0] : Fin 3 → ℕ) a + S1x64x1.size a ≤ S8x64x1.size a := by decide
  exact this g ⟨min r 3, by omega⟩
theorem inb_ov : ∀ a, (![0, 0] : Fin 2 → ℕ) a + S32x128.size a ≤ S32x128.size a := by decide

/-- Group `g`'s loads, from the buffers. -/
def loads (i : grid0.Coords) (arg2 : Memref sig .tc .vmem S1x8x256x64 .bf16) (harg2 : arg2.IsWhole) (arg3 : Memref sig .tc .vmem S1x1x256x64 .bf16) (harg3 : arg3.IsWhole) (arg4 : Memref sig .tc .vmem S1x1x64x256 .bf16) (harg4 : arg4.IsWhole) (arg5 : Memref sig .tc .vmem S1x2x2048x64 .bf16) (harg5 : arg5.IsWhole) (arg6 : Memref sig .tc .vmem S1x2x8x80x256 .bf16) (harg6 : arg6.IsWhole) (arg7 : Memref sig .tc .vmem S1x2x2048x64 .bf16) (harg7 : arg7.IsWhole) (arg8 : Memref sig .tc .vmem S1x2x16x80x128 .bf16) (harg8 : arg8.IsWhole) (arg9 : Memref sig .tc .vmem S2x1x16x256 .f32) (harg9 : arg9.IsWhole) (arg10 : Memref sig .tc .vmem S8x64x1 .f32) (harg10 : arg10.IsWhole) (arg11 : Memref sig .tc .vmem S32x128 .f32) (harg11 : arg11.IsWhole) (arg12 : Memref sig .tc .vmem S8x256x32 .bf16) (harg12 : arg12.IsWhole)
    (x0 : Vec F S1x8x256x64 .bf16) (x1 : Vec F S1x1x256x64 .bf16) (x2 : Vec F S1x1x64x256 .bf16) (x3 : Vec F S1x2x2048x64 .bf16) (x4 : Vec F S1x2x8x80x256 .bf16) (x5 : Vec F S1x2x2048x64 .bf16) (x6 : Vec F S1x2x16x80x128 .bf16) (x7 : Vec F S2x1x16x256 .f32) (x8 : Vec F S8x64x1 .f32) (x9 : Vec F S32x128 .f32) (x10 : Vec F S8x256x32 .bf16)
    (g : Fin 2) : Loads F where
  q := View.readAt (Elt F) arg2.view (Rect.unit (s := S1x8x256x64) ![0, 4 * g.val, 0, 0] S1x4x256x64.size (inb_q g)).toLoadRect (harg2.unread x0)
  kc := View.readAt (Elt F) arg3.view (Rect.unit (s := S1x1x256x64) ![0, 0, 128 * g.val, 0] S1x1x128x64.size (inb_kc g)).toLoadRect (harg3.unread x1)
  vc := View.readAt (Elt F) arg4.view (Rect.unit (s := S1x1x64x256) ![0, 0, 0, 128 * g.val] S1x1x64x128.size (inb_vc g)).toLoadRect (harg4.unread x2)
  kw := View.readAt (Elt F) arg7.view (Rect.unit (s := S1x2x2048x64) ![0, g.val, wrow i, 0] S1x1x512x64.size (inb_kw i g)).toLoadRect (harg7.unread x5)
  vw := fun j => View.readAt (Elt F) arg8.view (Rect.unit (s := S1x2x16x80x128) ![0, g.val, wblk i (min j 3), 0, 0] S1x1x1x80x128.size (inb_vw i g j)).toLoadRect (harg8.unread x6)
  ov := View.readAt (Elt F) arg11.view (Rect.unit (s := S32x128) ![0, 0] S32x128.size inb_ov).toLoadRect (harg11.unread x9)
  et := fun n => View.readAt (Elt F) arg12.view (Rect.unit (s := S8x256x32) ![min n 7, 0, 0] S1x256x32.size (inb_et n)).toLoadRect (harg12.unread x10)
  ks := fun n => View.readAt (Elt F) arg5.view (Rect.unit (s := S1x2x2048x64) ![0, g.val, 256 * min n 7, 0] S1x1x256x64.size (inb_ks g n)).toLoadRect (harg5.unread x3)
  vs := fun n => View.readAt (Elt F) arg6.view (Rect.unit (s := S1x2x8x80x256) ![0, g.val, min n 7, 0, 0] S1x1x1x80x256.size (inb_vs g n)).toLoadRect (harg6.unread x4)
  gt := View.readAt (Elt F) arg9.view (Rect.unit (s := S2x1x16x256) ![g.val, 0, 0, 0] S1x1x16x256.size (inb_gt g)).toLoadRect (harg9.unread x7)
  gain := fun r => View.readAt (Elt F) arg10.view (Rect.unit (s := S8x64x1) ![4 * g.val + min r 3, 0, 0] S1x64x1.size (inb_gain g r)).toLoadRect (harg10.unread x8)

/-- The first query position of a tile, as a word. -/
def t0w (i : grid0.Coords) : BitVec 32 := Scalar.muli (BitVec.ofNat 32 (i 1).val) 256#32

end Nsa
-- ==== Proof.Bridge.lean ====
module

public import proofs.«01_k».proof.Proof.Loaded
public import proofs.«01_k».proof.Proof.FrameIdeal

@[expose] public section

set_option maxRecDepth 16384

/-! # Every case of the body is the tile -/

noncomputable section

namespace Nsa

open Idealize.ShloMosaic Idealize.ShloMosaic.TcCoe Idealize.ShloMosaic.Tactic Idealize.SL.Sem
open Cert.KernelIdeal Cert.KernelIdeal.Gen

variable {F : FTy → Type} [FloatOps F] [Named F] (m : (ℓ : Loc nD τ sig) → Buf (Elt F) ℓ)

/-- Group `g`'s loads at a point. -/
def gl (c : Dev nD) (t : Fin cfg0.N) (g : Fin 2) : Loads F :=
  loads (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) g

/-- The pieces of the tile at a point, for a number of trips. -/
def tilePcs (c : Dev nD) (t : Fin cfg0.N) (n : ℕ) : List (View.Piece (Elt F) S256x512 .bf16) :=
  Tile.pieces (t0w (grid0.coords t)) n (gl m c t 0) (gl m c t 1)

theorem atA_eq (c : Dev nD) (t : Fin cfg0.N) (h0 : ¬2 ≤ t.val % 8) : (atA m c t h0).1 = tilePcs m c t 1 := by
  sl_kernel_rfl

theorem atB_eq (c : Dev nD) (t : Fin cfg0.N) (h0 : 2 ≤ t.val % 8) (h1 : 2 ≤ t.val % 8 ∧ t.val % 8 ≤ 3) : (atB m c t h0 h1).1 = tilePcs m c t 2 := by
  sl_kernel_rfl

theorem atC_eq (c : Dev nD) (t : Fin cfg0.N) (h0 : 2 ≤ t.val % 8) (h1 : ¬(2 ≤ t.val % 8 ∧ t.val % 8 ≤ 3)) (h2 : 4 ≤ t.val % 8 ∧ t.val % 8 ≤ 5) : (atC m c t h0 h1 h2).1 = tilePcs m c t 3 := by
  sl_kernel_rfl

theorem atD_eq (c : Dev nD) (t : Fin cfg0.N) (h0 : 2 ≤ t.val % 8) (h1 : ¬(2 ≤ t.val % 8 ∧ t.val % 8 ≤ 3)) (h2 : ¬(4 ≤ t.val % 8 ∧ t.val % 8 ≤ 5)) : (atD m c t h0 h1 h2).1 = tilePcs m c t 4 := by
  sl_kernel_rfl

theorem coord1 : ∀ t : Fin cfg0.N, (grid0.coords t 1).val = t.val % 8 := by decide +kernel

/-- The pieces stored at a point are the tile's. -/
theorem pcs_eq (c : Dev nD) (t : Fin cfg0.N) : pcs m c t = tilePcs m c t ((grid0.coords t 1).val / 2 + 1) := by
  have h8 : t.val % 8 < 8 := Nat.mod_lt _ (by norm_num)
  rw [coord1]
  unfold pcs
  split
  · split
    · rw [atB_eq, show t.val % 8 / 2 + 1 = 2 by omega]
    · split
      · rw [atC_eq, show t.val % 8 / 2 + 1 = 3 by omega]
      · rw [atD_eq, show t.val % 8 / 2 + 1 = 4 by omega]
  · rw [atA_eq, show t.val % 8 / 2 + 1 = 1 by omega]

end Nsa
-- ==== Proof.TileMask.lean ====
module

public import proofs.«01_k».proof.Proof.Loaded
public import Idealize.ShloMosaic.Lib.Pointwise
public import Idealize.ShloMosaic.Lib.Tactic.WordOmega

@[expose] public section

set_option maxRecDepth 16384

/-! # The masks of a tile, as facts about positions -/

noncomputable section

namespace Nsa

open Idealize.ShloMosaic Idealize.SL.Sem
open Cert.KernelIdeal Cert.KernelIdeal.Gen

/-! ## Small words -/

theorem toInt_small {a : ℕ} (ha : a < 2 ^ 30) : (BitVec.ofNat 32 a).toInt = a := by
  rw [BitVec.toInt_eq_toNat_cond, BitVec.toNat_ofNat]
  have h : a % 2 ^ 32 = a := Nat.mod_eq_of_lt (by omega)
  rw [h, if_pos (by omega)]

theorem sle_small {a b : ℕ} (ha : a < 2 ^ 30) (hb : b < 2 ^ 30) :
    IntOp.cmpi .sle (BitVec.ofNat 32 a) (BitVec.ofNat 32 b) = BitVec.ofBool (decide (a ≤ b)) := by
  show BitVec.ofBool (BitVec.sle _ _) = _
  rw [BitVec.sle, toInt_small ha, toInt_small hb]; simp

theorem slt_small {a b : ℕ} (ha : a < 2 ^ 30) (hb : b < 2 ^ 30) :
    IntOp.cmpi .slt (BitVec.ofNat 32 a) (BitVec.ofNat 32 b) = BitVec.ofBool (decide (a < b)) := by
  show BitVec.ofBool (BitVec.slt _ _) = _
  rw [BitVec.slt, toInt_small ha, toInt_small hb]; simp

theorem sgt_small {a b : ℕ} (ha : a < 2 ^ 30) (hb : b < 2 ^ 30) :
    IntOp.cmpi .sgt (BitVec.ofNat 32 a) (BitVec.ofNat 32 b) = BitVec.ofBool (decide (b < a)) := by
  show BitVec.ofBool (BitVec.slt _ _) = _
  rw [BitVec.slt, toInt_small ha, toInt_small hb]; simp

theorem eq_small {a b : ℕ} (ha : a < 2 ^ 30) (hb : b < 2 ^ 30) :
    IntOp.cmpi .eq (BitVec.ofNat 32 a) (BitVec.ofNat 32 b) = BitVec.ofBool (decide (a = b)) := by
  show BitVec.ofBool (_ == _) = _
  congr 1
  have : (BitVec.ofNat 32 a = BitVec.ofNat 32 b) ↔ a = b := by
    constructor
    · intro h
      have := congrArg BitVec.toInt h
      rw [toInt_small ha, toInt_small hb] at this; exact_mod_cast this
    · rintro rfl; rfl
  by_cases h : a = b
  · simp [h]
  · simp [h, this]

theorem add_small (a b : ℕ) : IntOp.addi (BitVec.ofNat 32 a) (BitVec.ofNat 32 b) = BitVec.ofNat 32 (a + b) :=
  (BitVec.ofNat_add a b).symm

theorem mul_small (a b : ℕ) : IntOp.muli (BitVec.ofNat 32 a) (BitVec.ofNat 32 b) = BitVec.ofNat 32 (a * b) :=
  (BitVec.ofNat_mul a b).symm

theorem sub_small {a b : ℕ} (h : b ≤ a) : IntOp.subi (BitVec.ofNat 32 a) (BitVec.ofNat 32 b) = BitVec.ofNat 32 (a - b) := by
  show BitVec.ofNat 32 a - BitVec.ofNat 32 b = _
  obtain ⟨c, rfl⟩ := Nat.exists_eq_add_of_le h
  rw [Nat.add_sub_cancel_left, add_comm, BitVec.ofNat_add, BitVec.add_sub_cancel]

theorem and_bool (a b : Bool) : IntOp.andi (BitVec.ofBool a) (BitVec.ofBool b) = BitVec.ofBool (a && b) := by
  cases a <;> cases b <;> rfl

theorem or_bool (a b : Bool) : IntOp.ori (BitVec.ofBool a) (BitVec.ofBool b) = BitVec.ofBool (a || b) := by
  cases a <;> cases b <;> rfl

theorem select_bool {α : Type} (a : Bool) (x y : α) : Scalar.select (BitVec.ofBool a) x y = if a = true then x else y := by
  cases a <;> rfl

/-! ## Positions -/

theorem t0w_eq : ∀ i : grid0.Coords, t0w i = BitVec.ofNat 32 (256 * (i 1).val) := by decide +kernel

theorem wstart_eq : ∀ i : grid0.Coords, Tile.wstart (t0w i) = BitVec.ofNat 32 (256 * ((i 1).val - 1)) := by decide +kernel

/-- A tile's query `τ`. -/
def pos (i : grid0.Coords) (τ : Fin 256) : ℕ := 256 * (i 1).val + τ.val

theorem pos_lt (i : grid0.Coords) (τ : Fin 256) : pos i τ < 2048 := by
  have := i1_lt i; unfold pos; omega

theorem tq_apply (i : grid0.Coords) (a : Fin 1) (τ : Fin 256) : Tile.tq (t0w i) (ix2 a τ) = BitVec.ofNat 32 (pos i τ) := by
  pointwise [Tile.tq]
  rw [t0w_eq, add_small]; rfl

theorem wmask_apply (i : grid0.Coords) (k : Fin 512) (τ : Fin 256) :
    Tile.wmask (t0w i) (ix2 k τ) = BitVec.ofBool (decide (256 * ((i 1).val - 1) + k.val ≤ pos i τ
      ∧ pos i τ < 256 * ((i 1).val - 1) + k.val + 256)) := by
  pointwise [Tile.wmask]
  have hp := pos_lt i τ
  have hi := i1_lt i
  rw [wstart_eq, add_small]
  simp only [tq_apply]
  rw [sle_small (by omega) (by omega)]
  by_cases h : 256 * ((i 1).val - 1) + k.val ≤ pos i τ
  · rw [sub_small h, show (256#32) = BitVec.ofNat 32 256 from rfl, slt_small (by omega) (by omega), and_bool]
    congr 1
    simp only [h, decide_true, true_and, Bool.true_and]
    exact decide_eq_decide.mpr (by omega)
  · simp only [h, decide_false, false_and]
    show 0#1 &&& _ = 0#1
    exact BitVec.zero_and

theorem cmask1_apply (i : grid0.Coords) (n : Fin 128) (τ : Fin 256) :
    Tile.cmask1 (t0w i) (ix2 n τ) = BitVec.ofBool (decide (16 * n.val + 31 ≤ pos i τ)) := by
  pointwise [Tile.cmask1]
  have hp := pos_lt i τ
  simp only [tq_apply]
  rw [show (16#32) = BitVec.ofNat 32 16 from rfl, show (31#32) = BitVec.ofNat 32 31 from rfl, mul_small, add_small,
    sle_small (by omega) (by omega), mul_comm]

theorem causal_apply (i : grid0.Coords) (n : ℕ) (hn : n < 8) (k τ : Fin 256) :
    Tile.causal (t0w i) n (ix2 k τ) = BitVec.ofBool (decide (256 * n + k.val ≤ pos i τ)) := by
  pointwise [Tile.causal]
  have hp := pos_lt i τ
  simp only [tq_apply]
  rw [add_small, sle_small (by omega) (by omega)]

theorem bvalid_apply (i : grid0.Coords) (j : Fin 32) (τ : Fin 256) :
    Tile.bvalid (t0w i) (ix2 j τ) = BitVec.ofBool (decide (64 * j.val ≤ pos i τ)) := by
  pointwise [Tile.bvalid, Tile.blk]
  have hp := pos_lt i τ
  simp only [tq_apply]
  rw [show (64#32) = BitVec.ofNat 32 64 from rfl, mul_small, sle_small (by omega) (by omega), mul_comm]

theorem tblk_apply (i : grid0.Coords) (a : Fin 1) (τ : Fin 256) :
    Tile.tblk (t0w i) (ix2 a τ) = BitVec.ofNat 32 (pos i τ / 64) := by
  pointwise [Tile.tblk]
  simp only [tq_apply]
  have key : ∀ n : Fin 2048, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
    decide +kernel
  exact key ⟨pos i τ, pos_lt i τ⟩

theorem forced_apply (i : grid0.Coords) (j : Fin 32) (τ : Fin 256) :
    Tile.forced (t0w i) (ix2 j τ) = BitVec.ofBool (decide (j.val = 0 ∨ j.val = pos i τ / 64)) := by
  pointwise [Tile.forced, Tile.blk]
  have hp := pos_lt i τ
  simp only [tblk_apply]
  rw [show (0#32) = BitVec.ofNat 32 0 from rfl, eq_small (by omega) (by omega), eq_small (by omega) (by omega), or_bool]
  congr 1
  simp [Bool.decide_or]

end Nsa
-- ==== Proof.Softmax.lean ====
module

public import Idealize.ShloMosaic.Lib.Pointwise
public import Idealize.ShloMosaic.Lib.IdealHost

@[expose] public section

/-! # The three softmaxes over the extended reals

A row of scores is a finite family whose masked entries are `-∞` and whose other entries are real.
Its weights are the real numbers `exp s j / ∑ exp s k` over the unmasked entries (`wt`).  The lemmas
here say that each way of computing them (by base two, by a reciprocal of a clamped sum, by running
through the keys chunk after chunk) gives those weights. -/

noncomputable section

namespace Nsa
open Idealize.ShloMosaic

section weights
variable {ι : Type} [Fintype ι] (P : ι → Prop) [DecidablePred P] (s : ι → ℝ)

/-- The unnormalised weight of an entry: `exp` of its score, 0 where it is masked. -/
def ew (j : ι) : ℝ := if P j then Real.exp (s j) else 0

/-- The sum of the unnormalised weights. -/
def tot : ℝ := ∑ j, ew P s j

/-- The softmax weight. -/
def wt (j : ι) : ℝ := ew P s j / tot P s

theorem ew_nonneg (j : ι) : 0 ≤ ew P s j := by
  unfold ew; split
  · exact (Real.exp_pos _).le
  · exact le_rfl

theorem tot_pos (h : ∃ j, P j) : 0 < tot P s := by
  obtain ⟨j, hj⟩ := h
  refine Finset.sum_pos' (fun i _ => ew_nonneg P s i) ⟨j, Finset.mem_univ j, ?_⟩
  simp only [ew, hj, if_true]; exact Real.exp_pos _

theorem tot_nonneg : 0 ≤ tot P s := Finset.sum_nonneg fun i _ => ew_nonneg P s i

theorem wt_nonneg (j : ι) : 0 ≤ wt P s j := div_nonneg (ew_nonneg P s j) (tot_nonneg P s)

theorem wt_masked (h : ¬ ∃ j, P j) (j : ι) : wt P s j = 0 := by
  have : ¬ P j := fun hj => h ⟨j, hj⟩
  simp [wt, ew, this]
end weights

/-! ## Facts about the extended reals -/

/-- A sum of real numbers is the real sum. -/
theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A real factor distributes over a sum of extended reals when it is not negative. -/
theorem mul_sum_nonneg {ι : Type} {c : ℝ} (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

theorem fold_max_le {ι : Type} (t : Finset ι) (x : ι → EReal) (b : EReal) (h : ∀ i ∈ t, x i ≤ b) :
    t.fold max ⊥ x ≤ b := by
  rw [Finset.fold_max_le]; exact ⟨bot_le, h⟩

/-- The greatest of finitely many entries below `+∞`, one of them a real number, is a real number. -/
theorem fold_max_real {ι : Type} [Fintype ι] (x : ι → EReal) (ht : ∀ i, x i ≠ ⊤) (hb : ∃ i, x i ≠ ⊥) :
    ∃ m : ℝ, Finset.univ.fold max ⊥ x = (m : EReal) := by
  have h1 : Finset.univ.fold max ⊥ x < ⊤ := by
    rw [Finset.fold_max_lt]
    exact ⟨bot_lt_top, fun i _ => lt_top_iff_ne_top.mpr (ht i)⟩
  have h2 : Finset.univ.fold max ⊥ x ≠ ⊥ := by
    obtain ⟨i, hi⟩ := hb
    intro h
    have := (Finset.fold_max_le (s := Finset.univ) (f := x) (b := ⊥) (⊥ : EReal)).mp h.le
    exact hi (le_bot_iff.mp (this.2 i (Finset.mem_univ i)))
  exact ⟨_, (EReal.coe_toReal h1.ne h2).symm⟩

/-- The greatest entry is one of the entries. -/
theorem fold_max_mem {ι : Type} [Fintype ι] (x : ι → EReal) (hb : ∃ i, x i ≠ ⊥) :
    ∃ i, x i = Finset.univ.fold max ⊥ x := by
  obtain ⟨i, hi⟩ := hb
  have hne : (Finset.univ : Finset ι).Nonempty := ⟨i, Finset.mem_univ i⟩
  obtain ⟨k, -, hk⟩ := Finset.exists_max_image Finset.univ x hne
  refine ⟨k, le_antisymm ?_ (fold_max_le _ _ _ fun i hi => hk i hi)⟩
  exact ((Finset.fold_max_le (s := Finset.univ) (f := x) (b := ⊥) _).mp le_rfl).2 k (Finset.mem_univ k)

/-- A score row: `s j` where `P j`, `-∞` elsewhere. -/
def row {ι : Type} (P : ι → Prop) [DecidablePred P] (s : ι → ℝ) (j : ι) : EReal := if P j then (s j : EReal) else ⊥

theorem row_ne_top {ι : Type} (P : ι → Prop) [DecidablePred P] (s : ι → ℝ) (j : ι) : row P s j ≠ ⊤ := by
  unfold row; split
  · exact EReal.coe_ne_top _
  · exact bot_ne_top

theorem row_ne_bot {ι : Type} (P : ι → Prop) [DecidablePred P] (s : ι → ℝ) (j : ι) (h : P j) : row P s j ≠ ⊥ := by
  unfold row; rw [if_pos h]; exact EReal.coe_ne_bot _

theorem exp_row_sub {ι : Type} (P : ι → Prop) [DecidablePred P] (s : ι → ℝ) (m : ℝ) (j : ι) :
    Ideal.exp (row P s j - (m : EReal)) = ((Real.exp (-m) * ew P s j : ℝ) : EReal) := by
  unfold row ew; split
  · rw [← EReal.coe_sub]
    show ((Real.exp (s j - m) : ℝ) : EReal) = _
    rw [sub_eq_add_neg, add_comm, Real.exp_add]
  · rw [EReal.bot_sub]
    show (0 : EReal) = _
    simp

/-- Base two: a score divided by `log 2`. -/
theorem exp2_row_sub {ι : Type} (P : ι → Prop) [DecidablePred P] (s : ι → ℝ) (m : ℝ) (j : ι) :
    Ideal.exp2 (row P (fun k => s k / Real.log 2) j - (m : EReal)) = ((Real.rpow 2 (-m) * ew P s j : ℝ) : EReal) := by
  have h2 : Real.log 2 ≠ 0 := (Real.log_pos one_lt_two).ne'
  unfold row ew; split
  · rw [← EReal.coe_sub]
    show ((Real.rpow 2 (s j / Real.log 2 - m) : ℝ) : EReal) = _
    congr 1
    show (2 : ℝ) ^ (s j / Real.log 2 - m) = (2 : ℝ) ^ (-m) * Real.exp (s j)
    rw [Real.rpow_def_of_pos two_pos, Real.rpow_def_of_pos two_pos, ← Real.exp_add]
    congr 1; field_simp; ring
  · rw [EReal.bot_sub]
    show (0 : EReal) = _
    simp

theorem div_real {a b : ℝ} (hb : b ≠ 0) : Ideal.div (a : EReal) (b : EReal) = ((a / b : ℝ) : EReal) := by
  rw [Ideal.div_coe hb, ← EReal.coe_mul, mul_one_div]

/-- The textbook softmax of a row with an unmasked entry. -/
theorem softmax_row {ι : Type} [Fintype ι] (P : ι → Prop) [DecidablePred P] (s : ι → ℝ) (h : ∃ j, P j) (j : ι) :
    Ideal.div (Ideal.exp (row P s j - Finset.univ.fold max ⊥ (row P s)))
      (∑ k, Ideal.exp (row P s k - Finset.univ.fold max ⊥ (row P s))) = ((wt P s j : ℝ) : EReal) := by
  obtain ⟨m, hm⟩ := fold_max_real (row P s) (row_ne_top P s) (h.imp fun k hk => row_ne_bot P s k hk)
  rw [hm]
  simp only [exp_row_sub]
  have ht := tot_pos P s h
  have e : ∑ k, Real.exp (-m) * ew P s k = Real.exp (-m) * tot P s := by rw [tot, Finset.mul_sum]
  rw [coe_sum, e, div_real (mul_pos (Real.exp_pos _) ht).ne']
  congr 1
  rw [wt, mul_div_mul_left _ _ (Real.exp_pos _).ne']

/-- The masked softmax: 0 at a masked entry, whether or not the row has an unmasked one. -/
theorem masked_softmax_row {ι : Type} [Fintype ι] (P : ι → Prop) [DecidablePred P] (s : ι → ℝ) (j : ι) :
    (if P j then Ideal.div (Ideal.exp (row P s j - Finset.univ.fold max ⊥ (row P s)))
      (∑ k, Ideal.exp (row P s k - Finset.univ.fold max ⊥ (row P s))) else 0) = ((wt P s j : ℝ) : EReal) := by
  by_cases h : ∃ k, P k
  · rw [softmax_row P s h]
    split
    · rfl
    · rename_i hj; simp [wt, ew, hj]
  · have hj : ¬ P j := fun hj => h ⟨j, hj⟩
    rw [if_neg hj, wt_masked P s h]; simp

/-- The same by base two and the reciprocal of a sum held above a small positive number. -/
theorem recip_softmax_row {ι : Type} [Fintype ι] (P : ι → Prop) [DecidablePred P] (s : ι → ℝ) (ε : ℝ) (h0 : 0 < ε)
    (h1 : ε ≤ 1) (e : ι → EReal)
    (he : ∀ j, e j = if P j then Ideal.exp2 (row P (fun k => s k / Real.log 2) j
      - Finset.univ.fold max ⊥ (row P fun k => s k / Real.log 2)) else 0) (j : ι) :
    e j * Ideal.div 1 (max (∑ k, e k) (ε : EReal)) = ((wt P s j : ℝ) : EReal) := by
  set u : ι → ℝ := fun k => s k / Real.log 2 with hu
  by_cases h : ∃ k, P k
  · obtain ⟨m, hm⟩ := fold_max_real (row P u) (row_ne_top P u) (h.imp fun k hk => row_ne_bot P u k hk)
    obtain ⟨k, hk⟩ := fold_max_mem (row P u) (h.imp fun k hk => row_ne_bot P u k hk)
    have hc : 0 < Real.rpow 2 (-m) := Real.rpow_pos_of_pos two_pos _
    have e' : ∀ i, e i = ((Real.rpow 2 (-m) * ew P s i : ℝ) : EReal) := fun i => by
      rw [he i, hm, exp2_row_sub]
      split
      · rfl
      · rename_i hi; simp [ew, hi]
    have hPk : P k := by
      by_contra hn
      rw [hm, row, if_neg hn] at hk
      exact EReal.coe_ne_bot m hk.symm
    have one_le : 1 ≤ Real.rpow 2 (-m) * tot P s := by
      have hk1 : Real.rpow 2 (-m) * ew P s k = 1 := by
        have := exp2_row_sub P s m k
        rw [← hu, hk, hm, ← EReal.coe_sub, sub_self] at this
        have h1 : ((Real.rpow 2 0 : ℝ) : EReal) = _ := this
        have h2 := EReal.coe_eq_coe_iff.mp h1
        rw [← h2]; exact Real.rpow_zero 2
      rw [← hk1]
      exact mul_le_mul_of_nonneg_left (Finset.single_le_sum (fun i _ => ew_nonneg P s i) (Finset.mem_univ k)) hc.le
    have hs : ∑ i, e i = ((Real.rpow 2 (-m) * tot P s : ℝ) : EReal) := by
      simp only [e']; rw [coe_sum, tot, Finset.mul_sum]
    rw [hs, max_eq_left (by exact_mod_cast h1.trans one_le), e' j]
    have hpos : Real.rpow 2 (-m) * tot P s ≠ 0 := (lt_of_lt_of_le one_pos one_le).ne'
    have hd : Ideal.div 1 ((Real.rpow 2 (-m) * tot P s : ℝ) : EReal) = ((1 / (Real.rpow 2 (-m) * tot P s) : ℝ) : EReal) := by
      rw [← EReal.coe_one]; exact div_real hpos
    rw [hd, ← EReal.coe_mul]
    congr 1
    rw [wt, mul_one_div, mul_div_mul_left _ _ hc.ne']
  · have hj : ¬ P j := fun hj => h ⟨j, hj⟩
    rw [he j, if_neg hj, wt_masked P s h, zero_mul]; simp

/-- A weighted sum divided by its weights, as a kernel does it: the gate over the sum of the weights,
times the weighted sum of the values.  The values are any extended reals. -/
theorem gated_quotient {ι : Type} [Fintype ι] (P : ι → Prop) [DecidablePred P] (s : ι → ℝ) (h : ∃ j, P j)
    (c : ℝ) (hc : 0 < c) (γ : ℝ) (hγ : 0 ≤ γ) (v : ι → EReal) :
    Ideal.div (γ : EReal) ((c * tot P s : ℝ) : EReal) * ∑ j, ((c * ew P s j : ℝ) : EReal) * v j
      = (γ : EReal) * ∑ j, ((wt P s j : ℝ) : EReal) * v j := by
  have ht := tot_pos P s h
  have hct : 0 < c * tot P s := mul_pos hc ht
  rw [div_real hct.ne', mul_sum_nonneg (div_nonneg hγ hct.le), mul_sum_nonneg hγ]
  refine Finset.sum_congr rfl fun j _ => ?_
  rw [← mul_assoc, ← mul_assoc, ← EReal.coe_mul, ← EReal.coe_mul]
  congr 2
  rw [wt]; field_simp

/-- The gate `1 / (1 + exp (-x))` is a real number, not negative, at every extended real. -/
theorem gate_real (x : EReal) : ∃ g : ℝ, 0 ≤ g ∧ Ideal.div 1 (1 + Ideal.exp (-x)) = (g : EReal) := by
  induction x with
  | bot =>
    refine ⟨0, le_rfl, ?_⟩
    rw [EReal.neg_bot]
    show Ideal.div 1 (1 + ⊤) = _
    have h1 : (1 : EReal) + ⊤ = ⊤ := EReal.coe_add_top 1
    rw [h1, Ideal.div, if_neg EReal.top_ne_zero, EReal.inv_top]; simp
  | top =>
    refine ⟨1, zero_le_one, ?_⟩
    rw [EReal.neg_top]
    show Ideal.div 1 (1 + 0) = _
    rw [add_zero, ← EReal.coe_one, div_real one_ne_zero]; norm_num
  | coe r =>
    refine ⟨1 / (1 + Real.exp (-r)), by positivity, ?_⟩
    rw [← EReal.coe_neg]
    show Ideal.div 1 (1 + ((Real.exp (-r) : ℝ) : EReal)) = _
    rw [← EReal.coe_one, ← EReal.coe_add, div_real (by positivity)]

/-! ## Running through the keys chunk after chunk -/

/-- After some chunks: the running maximum is a real number `m`, and the accumulator of each value row is
the sum over the keys so far of `2 ^ (-m)` times the key's weight, times its value. -/
def Swept (n : ℕ) (e : ℕ → ℝ) (v : ℕ → EReal) (m acc : EReal) : Prop :=
  ∃ r : ℝ, m = (r : EReal) ∧ acc = ∑ k ∈ Finset.range n, ((Real.rpow 2 (-r) * e k : ℝ) : EReal) * v k

/-- One chunk of `w` keys from key `n` on.  The chunk starts the sweep (`m = -∞`, nothing accumulated) or
continues it; in either case the new maximum is a real number. -/
theorem swept_step (w n : ℕ) (P : ℕ → Prop) [DecidablePred P] (s : ℕ → ℝ) (v : ℕ → EReal) (m acc : EReal)
    (y : Fin w → EReal) (hy : ∀ k, y k = row P (fun i => s i / Real.log 2) (n + k.val))
    (h : Swept n (ew P s) v m acc ∨ (n = 0 ∧ m = ⊥ ∧ acc = 0 ∧ ∃ k : Fin w, P (n + k.val))) :
    Swept (n + w) (ew P s) v (max m (Finset.univ.fold max ⊥ y))
      (Ideal.exp2 (m - max m (Finset.univ.fold max ⊥ y)) * acc
        + ∑ k : Fin w, v (n + k.val) * Ideal.exp2 (y k - max m (Finset.univ.fold max ⊥ y))) := by
  set u : ℕ → ℝ := fun i => s i / Real.log 2 with hu
  have htop : Finset.univ.fold max ⊥ y < ⊤ := by
    rw [Finset.fold_max_lt]
    exact ⟨bot_lt_top, fun k _ => lt_top_iff_ne_top.mpr (by rw [hy]; exact row_ne_top P u _)⟩
  -- the new maximum is real, and the old accumulator rescales
  have key : ∃ r : ℝ, max m (Finset.univ.fold max ⊥ y) = (r : EReal)
      ∧ Ideal.exp2 (m - (r : EReal)) * acc = ∑ k ∈ Finset.range n, ((Real.rpow 2 (-r) * ew P s k : ℝ) : EReal) * v k := by
    rcases h with ⟨r₀, rfl, rfl⟩ | ⟨rfl, rfl, rfl, hk⟩
    · have hm1 : max (r₀ : EReal) (Finset.univ.fold max ⊥ y) ≠ ⊤ := (max_lt (EReal.coe_lt_top r₀) htop).ne
      have hm2 : max (r₀ : EReal) (Finset.univ.fold max ⊥ y) ≠ ⊥ :=
        (lt_of_lt_of_le (EReal.bot_lt_coe r₀) (le_max_left _ _)).ne'
      refine ⟨_, (EReal.coe_toReal hm1 hm2).symm, ?_⟩
      set r := (max (r₀ : EReal) (Finset.univ.fold max ⊥ y)).toReal
      have e1 : Ideal.exp2 ((r₀ : EReal) - (r : EReal)) = ((Real.rpow 2 (r₀ - r) : ℝ) : EReal) := by
        rw [← EReal.coe_sub]; rfl
      rw [e1, mul_sum_nonneg (c := Real.rpow 2 (r₀ - r)) (Real.rpow_nonneg two_pos.le _)]
      refine Finset.sum_congr rfl fun k _ => ?_
      rw [← mul_assoc, ← EReal.coe_mul, ← mul_assoc]
      congr 3
      show (2 : ℝ) ^ (r₀ - r) * (2 : ℝ) ^ (-r₀) = (2 : ℝ) ^ (-r)
      rw [← Real.rpow_add two_pos]; congr 1; ring
    · obtain ⟨k, hk⟩ := hk
      obtain ⟨r, hr⟩ := fold_max_real y (fun i => by rw [hy]; exact row_ne_top P u _)
        ⟨k, by rw [hy]; exact row_ne_bot P u _ hk⟩
      exact ⟨r, by rw [hr, max_eq_right bot_le], by simp⟩
  obtain ⟨r, hr, hacc⟩ := key
  rw [hr, hacc]
  refine ⟨r, rfl, ?_⟩
  rw [Finset.sum_range_add]
  congr 1
  rw [Finset.sum_range]
  refine Finset.sum_congr rfl fun k _ => ?_
  rw [hy k, exp2_row_sub P s r (n + k.val), mul_comm]

end Nsa
-- ==== Proof.TileRead.lean ====
module

public import proofs.«01_k».proof.Proof.TileMask
public import proofs.«01_k».proof.Proof.Softmax
public import Idealize.ShloMosaic.Lib.IdealHost

@[expose] public section

set_option maxRecDepth 16384

/-! # A tile over the extended reals, at an index -/

noncomputable section

namespace Nsa

open Idealize.ShloMosaic Idealize.SL.Sem
open Cert.KernelIdeal Cert.KernelIdeal.Gen

/-- Head `r`'s query `τ` among the columns of a tile. -/
def col (r : Fin 4) (τ : Fin 256) : Fin 1024 := ⟨256 * r.val + τ.val, by omega⟩

/-! ## Literals -/

theorem lit_bot : Ideal.ofBits .f32 4286578688#32 = ⊥ := by
  simp [Ideal.ofBits, Ideal.ieee]

theorem lit_force : Ideal.ofBits .f32 1176256512#32 = ((10000 : ℝ) : EReal) := by
  simp [Ideal.ofBits, Ideal.ieee, -EReal.coe_mul]; norm_num

theorem lit_never : Ideal.ofBits .f32 3323740160#32 = ((-10000 : ℝ) : EReal) := by
  simp [Ideal.ofBits, Ideal.ieee, -EReal.coe_mul, -EReal.coe_neg]; norm_num

theorem lit_eight : Ideal.ofBits .f32 1090519040#32 = ((8 : ℝ) : EReal) := by
  simp [Ideal.ofBits, Ideal.ieee, -EReal.coe_mul]; norm_num

theorem lit_tiny : ∃ ε : ℝ, 0 < ε ∧ ε ≤ 1 ∧ Ideal.ofBits .f32 228737632#32 = (ε : EReal) := by
  refine ⟨_, ?_, ?_, by simp only [Ideal.ofBits, Ideal.ieee]; simp [-EReal.coe_mul]; rfl⟩
  · norm_num
  · norm_num

theorem mask_bot : (Named.named κ "mask" 0xF149F2CA#32 : Ideal .f32) = ⊥ :=
  IdealRules.named_const.ideal_named_scalar _ _ _ _ rfl

/-! ## The parts -/

theorem qs_apply (q : Vec Ideal S1x4x256x64 .bf16) (r : Fin 4) (τ : Fin 256) (d : Fin 64) :
    Tile.qs (F := Ideal) q (ix2 (col r τ) d) = q (ix4 0 r τ d) := by
  pointwise [Tile.qs, col]

theorem wbias_apply (i : grid0.Coords) (k : Fin 512) (τ : Fin 256) :
    Tile.wbias (F := Ideal) (t0w i) (ix2 k τ) = if 256 * ((i 1).val - 1) + k.val ≤ pos i τ
      ∧ pos i τ < 256 * ((i 1).val - 1) + k.val + 256 then 0 else ⊥ := by
  pointwise [Tile.wbias]
  simp only [wmask_apply, select_bool, decide_eq_true_eq, mask_bot]

theorem heads_w (b : FVec Ideal S512x256 .f32) (k : Fin 512) (r : Fin 4) (τ : Fin 256) :
    concatenate S512x1024 1 [⟨S512x256, b⟩, ⟨S512x256, b⟩, ⟨S512x256, b⟩, ⟨S512x256, b⟩]
      concatenates_S512x256_S512x256_S512x256_S512x256_S512x1024_d1 (ix2 k (col r τ)) = b (ix2 k τ) := by
  pointwise
  have hc : (col r τ).val = 256 * r.val + τ.val := rfl
  have h1 := r.isLt
  have h2 := τ.isLt
  split_ifs <;> first | (exfalso; omega) | (congr 2; ext; simp only [Fin.val_mk]; omega)

theorem heads_c (b : IVec S128x256 1) (k : Fin 128) (r : Fin 4) (τ : Fin 256) :
    concatenate S128x1024 1 [⟨S128x256, b⟩, ⟨S128x256, b⟩, ⟨S128x256, b⟩, ⟨S128x256, b⟩]
      concatenates_S128x256_S128x256_S128x256_S128x256_S128x1024_d1 (ix2 k (col r τ)) = b (ix2 k τ) := by
  pointwise
  have hc : (col r τ).val = 256 * r.val + τ.val := rfl
  have h1 := r.isLt
  have h2 := τ.isLt
  split_ifs <;> first | (exfalso; omega) | (congr 2; ext; simp only [Fin.val_mk]; omega)

theorem heads_s (b : FVec Ideal S256x256 .f32) (k : Fin 256) (r : Fin 4) (τ : Fin 256) :
    concatenate S256x1024 1 [⟨S256x256, b⟩, ⟨S256x256, b⟩, ⟨S256x256, b⟩, ⟨S256x256, b⟩]
      concatenates_S256x256_S256x256_S256x256_S256x256_S256x1024_d1 (ix2 k (col r τ)) = b (ix2 k τ) := by
  pointwise
  have hc : (col r τ).val = 256 * r.val + τ.val := rfl
  have h1 := r.isLt
  have h2 := τ.isLt
  split_ifs <;> first | (exfalso; omega) | (congr 2; ext; simp only [Fin.val_mk]; omega)

/-- A product of keys with the tile's queries. -/
theorem qk_w (q : Vec Ideal S1x4x256x64 .bf16) (kw : Vec Ideal S1x1x512x64 .bf16) (k : Fin 512) (r : Fin 4) (τ : Fin 256) :
    matmul (F := Ideal) (φ₁ := .bf16) dot_S512x64_S1024x64_S512x1024_1_1_0_0_n_n none
      (shapeCast S512x64 kw shapeCasts_S1x1x512x64_S512x64) (Tile.qs q) (constant S512x1024 .f32 0x00000000#32) (ix2 k (col r τ))
      = ∑ x, kw (ix4 0 0 k x) * q (ix4 0 r τ x) := by
  pointwise
  simp only [qs_apply]

theorem wscore_apply (i : grid0.Coords) (q : Vec Ideal S1x4x256x64 .bf16) (kw : Vec Ideal S1x1x512x64 .bf16) (k : Fin 512) (r : Fin 4) (τ : Fin 256) :
    Tile.wscore (F := Ideal) (t0w i) q kw (ix2 k (col r τ)) = (∑ x, kw (ix4 0 0 k x) * q (ix4 0 r τ x)) + Tile.wbias (F := Ideal) (t0w i) (ix2 k τ) := by
  rw [← qk_w, ← heads_w (Tile.wbias (t0w i)) k r τ]
  rfl

/-- The exponential of a window score less the greatest of its column. -/
theorem wexp_apply (x : FVec Ideal S512x1024 .f32) (k : Fin 512) (c : Fin 1024) :
    Tile.wexp (F := Ideal) x (ix2 k c) = Ideal.exp2 (x (ix2 k c) - Finset.univ.fold max ⊥ fun k' : Fin 512 => x (ix2 k' c)) := by
  pointwise [Tile.wexp]
  simp only [lit_bot]
  rfl

theorem wvals_apply (vw : ℕ → Vec Ideal S1x1x1x80x128 .bf16) (d : Fin 80) (k : Fin 512) :
    Tile.wvals (F := Ideal) vw (ix2 d k) = vw (k.val / 128) (ix5 0 0 0 d ⟨k.val % 128, Nat.mod_lt _ (by decide)⟩) := by
  pointwise [Tile.wvals]
  have h1 := k.isLt
  have e : ∀ (a : ℕ) (x : Fin 128), a = k.val / 128 → x.val = k.val % 128 →
      vw a (ix5 0 0 0 d x) = vw (k.val / 128) (ix5 0 0 0 d ⟨k.val % 128, Nat.mod_lt _ (by decide)⟩) := by
    rintro a x rfl hx
    rw [show x = ⟨k.val % 128, Nat.mod_lt _ (by decide)⟩ from Fin.ext hx]
  split_ifs <;> refine e _ _ ?_ ?_ <;> first | omega | (simp only [Fin.val_mk]; omega)

theorem wout_apply (v0 : BitVec 32) (L : Loads Ideal) (d : Fin 80) (c : Fin 1024) :
    Tile.wout (F := Ideal) v0 L (ix2 d c) = ∑ k : Fin 512, Tile.wvals L.vw (ix2 d k) * Tile.wexp (Tile.wscore v0 L.q L.kw) (ix2 k c) := by
  pointwise [Tile.wout]

theorem cmask_apply (i : grid0.Coords) (n : Fin 128) (r : Fin 4) (τ : Fin 256) :
    Tile.cmask (t0w i) (ix2 n (col r τ)) = BitVec.ofBool (decide (16 * n.val + 31 ≤ pos i τ)) :=
  (heads_c _ n r τ).trans (cmask1_apply i n τ)

theorem cscore_apply (i : grid0.Coords) (q : Vec Ideal S1x4x256x64 .bf16) (kc : Vec Ideal S1x1x128x64 .bf16) (n : Fin 128) (r : Fin 4) (τ : Fin 256) :
    Tile.cscore (F := Ideal) (t0w i) q kc (ix2 n (col r τ))
      = if 16 * n.val + 31 ≤ pos i τ then ∑ x, kc (ix4 0 0 n x) * q (ix4 0 r τ x) else ⊥ := by
  pointwise [Tile.cscore]
  simp only [cmask_apply, select_bool, decide_eq_true_eq, mask_bot, qs_apply]

theorem cexp_apply (i : grid0.Coords) (x : FVec Ideal S128x1024 .f32) (n : Fin 128) (r : Fin 4) (τ : Fin 256) :
    Tile.cexp (F := Ideal) (t0w i) x (ix2 n (col r τ))
      = if 16 * n.val + 31 ≤ pos i τ then
          Ideal.exp2 (x (ix2 n (col r τ)) - Finset.univ.fold max ⊥ fun n' : Fin 128 => x (ix2 n' (col r τ))) else 0 := by
  pointwise [Tile.cexp]
  simp only [cmask_apply, select_bool, decide_eq_true_eq, lit_bot]
  rfl

theorem cnorm_apply (e : FVec Ideal S128x1024 .f32) (n : Fin 128) (c : Fin 1024) :
    Tile.cnorm (F := Ideal) e (ix2 n c)
      = e (ix2 n c) * Ideal.div 1 (max (∑ x, e (ix2 x c)) (Ideal.ofBits .f32 228737632#32)) := by
  pointwise [Tile.cnorm]

theorem cout_apply (v0 : BitVec 32) (L : Loads Ideal) (d : Fin 64) (c : Fin 1024) :
    Tile.cout (F := Ideal) v0 L (ix2 d c) = ∑ n : Fin 128, L.vc (ix4 0 0 d n) * Tile.cw v0 L (ix2 n c) := by
  pointwise [Tile.cout]

theorem imp_apply (p : FVec Ideal S128x1024 .f32) (ov : Vec Ideal S32x128 .f32) (j : Fin 32) (τ : Fin 256) :
    Tile.imp (F := Ideal) p ov (ix2 j τ) = ∑ n, ov (ix2 j n) * (p (ix2 n (col 0 τ)) + p (ix2 n (col 1 τ))
      + p (ix2 n (col 2 τ)) + p (ix2 n (col 3 τ))) := by
  pointwise [Tile.imp]
  refine Finset.sum_congr rfl fun n _ => ?_
  have e : (⟨τ.val, by omega⟩ : Fin 1024) = col 0 τ := by ext; simp [col]
  rw [show (⟨τ.val, by omega⟩ : Fin 1024) = col 0 τ from e]
  rfl

theorem bkey_apply (i : grid0.Coords) (x : FVec Ideal S32x256 .f32) (j : Fin 32) (τ : Fin 256) :
    Tile.bkey (F := Ideal) (t0w i) x (ix2 j τ) = if j.val = 0 ∨ j.val = pos i τ / 64 then ((10000 : ℝ) : EReal)
      else if 64 * j.val ≤ pos i τ then x (ix2 j τ) else ((-10000 : ℝ) : EReal) := by
  pointwise [Tile.bkey]
  simp only [forced_apply, bvalid_apply, select_bool, decide_eq_true_eq, lit_force, lit_never]

theorem wins_apply (v : FVec Ideal S32x256 .f32) (n : ℕ) (h : n < 32) (j : Fin 32) (τ : Fin 256) :
    Tile.wins (F := Ideal) v n h (ix2 j τ) = if n < j.val then (if v (ix2 j τ) ≤ v (ix2 ⟨n, h⟩ τ) then 1 else 0)
      else (if v (ix2 j τ) < v (ix2 ⟨n, h⟩ τ) then 1 else 0) := by
  pointwise [Tile.wins, Tile.blk]
  have h1 := j.isLt
  rw [show IntOp.cmpi .sgt (BitVec.ofNat 32 j.val) (BitVec.ofNat 32 n) = BitVec.ofBool (decide (n < j.val)) from
    sgt_small (by omega) (by omega)]
  simp only [select_bool, decide_eq_true_eq]

theorem rank_zero (v : FVec Ideal S32x256 .f32) (h : 0 ≤ 32) (j : Fin 32) (τ : Fin 256) :
    Tile.rank (F := Ideal) v 0 h (ix2 j τ) = 0 := by
  pointwise [Tile.rank]

theorem rank_succ (v : FVec Ideal S32x256 .f32) (n : ℕ) (h : n + 1 ≤ 32) (j : Fin 32) (τ : Fin 256) :
    Tile.rank (F := Ideal) v (n + 1) h (ix2 j τ) = Tile.rank v n (by omega) (ix2 j τ) + Tile.wins v n (by omega) (ix2 j τ) := rfl

theorem selb_apply (v : FVec Ideal S32x256 .f32) (j : Fin 32) (τ : Fin 256) :
    Tile.selb (F := Ideal) v (ix2 j τ) = if v (ix2 j τ) < ((8 : ℝ) : EReal) then 0 else ⊥ := by
  pointwise [Tile.selb]
  simp only [lit_eight, mask_bot]

theorem ebias_apply (sb : FVec Ideal S32x256 .bf16) (et : Vec Ideal S1x256x32 .bf16) (k τ : Fin 256) :
    Tile.ebias (F := Ideal) sb et (ix2 k τ) = ∑ j, et (ix3 0 k j) * sb (ix2 j τ) := by
  pointwise [Tile.ebias]

theorem sbias_last (i : grid0.Coords) (n : ℕ) (hn : n < 8) (sb : FVec Ideal S32x256 .bf16) (et : Vec Ideal S1x256x32 .bf16) (k τ : Fin 256) :
    Tile.sbias (F := Ideal) (t0w i) true n sb et (ix2 k τ) = if 256 * n + k.val ≤ pos i τ then Tile.ebias sb et (ix2 k τ) else ⊥ := by
  have h : Tile.sbias (F := Ideal) (t0w i) true n sb et (ix2 k τ)
      = Scalar.select (Tile.causal (t0w i) n (ix2 k τ)) (Tile.ebias sb et (ix2 k τ)) (Named.named κ "mask" 0xF149F2CA#32 : Ideal .f32) := rfl
  rw [h, causal_apply i n hn, select_bool, mask_bot]
  simp only [decide_eq_true_eq]

theorem sscore_apply (q : Vec Ideal S1x4x256x64 .bf16) (ks : Vec Ideal S1x1x256x64 .bf16) (b : FVec Ideal S256x256 .f32) (k : Fin 256) (r : Fin 4) (τ : Fin 256) :
    Tile.sscore (F := Ideal) q ks b (ix2 k (col r τ)) = (∑ x, ks (ix4 0 0 k x) * q (ix4 0 r τ x)) + b (ix2 k τ) := by
  have h : matmul (F := Ideal) (φ₁ := .bf16) dot_S256x64_S1024x64_S256x1024_1_1_0_0_n_n none
      (shapeCast S256x64 ks shapeCasts_S1x1x256x64_S256x64) (Tile.qs q) (constant S256x1024 .f32 0x00000000#32) (ix2 k (col r τ))
      = ∑ x, ks (ix4 0 0 k x) * q (ix4 0 r τ x) := by
    pointwise
    simp only [qs_apply]
  rw [← h, ← heads_s b k r τ]
  rfl

theorem mx_zero (x : ℕ → FVec Ideal S256x1024 .f32) (a : Fin 1) (c : Fin 1024) : Tile.mx (F := Ideal) x 0 (ix2 a c) = ⊥ := by
  pointwise [Tile.mx]
  exact mask_bot

theorem mx_succ (x : ℕ → FVec Ideal S256x1024 .f32) (n : ℕ) (a : Fin 1) (c : Fin 1024) :
    Tile.mx (F := Ideal) x (n + 1) (ix2 a c) = max (Tile.mx x n (ix2 a c)) (Finset.univ.fold max ⊥ fun k : Fin 256 => x n (ix2 k c)) := by
  pointwise [Tile.mx]
  simp only [lit_bot]

theorem acc_zero (x : ℕ → FVec Ideal S256x1024 .f32) (vs : ℕ → Vec Ideal S1x1x1x80x256 .bf16) (d : Fin 80) (c : Fin 1024) :
    Tile.acc (F := Ideal) x vs 0 (ix2 d c) = 0 := by
  pointwise [Tile.acc]

theorem acc_succ (x : ℕ → FVec Ideal S256x1024 .f32) (vs : ℕ → Vec Ideal S1x1x1x80x256 .bf16) (n : ℕ) (d : Fin 80) (c : Fin 1024) :
    Tile.acc (F := Ideal) x vs (n + 1) (ix2 d c)
      = Ideal.exp2 (Tile.mx x n (ix2 0 c) - Tile.mx x (n + 1) (ix2 0 c)) * Tile.acc x vs n (ix2 d c)
        + ∑ k, vs n (ix5 0 0 0 d k) * Ideal.exp2 (x n (ix2 k c) - Tile.mx x (n + 1) (ix2 0 c)) := by
  pointwise [Tile.acc]
  rfl

theorem gates_apply (gt : Vec Ideal S1x1x16x256 .f32) (n : Fin 16) (τ : Fin 256) :
    Tile.gates (F := Ideal) gt (ix2 n τ) = Ideal.div 1 (1 + Ideal.exp (0 - gt (ix4 0 0 n τ))) := by
  pointwise [Tile.gates]

theorem branch_apply (gs : FVec Ideal S16x256 .f32) (o : FVec Ideal S80x1024 .f32) (n : ℕ) (r : Fin 4) (hn : n < 12) (d : Fin 64) (τ : Fin 256) :
    Tile.branch (F := Ideal) gs o n r.val hn r.isLt (ix2 d τ)
      = Ideal.div (gs (ix2 ⟨n, by omega⟩ τ)) (o (ix2 64 (col r τ))) * o (ix2 ⟨d.val, by omega⟩ (col r τ)) := by
  pointwise [Tile.branch]
  rfl

theorem head_apply (v0 : BitVec 32) (trips : ℕ) (L : Loads Ideal) (r : Fin 4) (d : Fin 64) (τ : Fin 256) :
    Tile.head (F := Ideal) v0 trips L r.val r.isLt (ix2 d τ)
      = Tile.gates L.gt (ix2 ⟨3 * r.val, by omega⟩ τ) * Tile.cout v0 L (ix2 d (col r τ))
        + Tile.branch (Tile.gates L.gt) (Tile.sout v0 trips L) (3 * r.val + 1) r.val (by omega) r.isLt (ix2 d τ)
        + Tile.branch (Tile.gates L.gt) (Tile.wout v0 L) (3 * r.val + 2) r.val (by omega) r.isLt (ix2 d τ) := by
  pointwise [Tile.head]
  rfl

theorem norm_apply (o : FVec Ideal S64x256 .f32) (gain : Vec Ideal S1x64x1 .f32) (d : Fin 64) (τ : Fin 256) :
    Tile.norm (F := Ideal) o gain (ix2 d τ) = o (ix2 d τ) * Ideal.rsqrt (Ideal.div (∑ x, o (ix2 x τ) * o (ix2 x τ))
      (Ideal.ofBits .f32 0x42800000#32) + Ideal.ofBits .f32 0x358637BD#32) * gain (ix3 0 d 0) := by
  pointwise [Tile.norm]

theorem pair_apply (a b : FVec Ideal S64x256 .f32) (d : Fin 128) (τ : Fin 256) :
    Tile.pair (F := Ideal) a b (ix2 τ d) = if h : d.val < 64 then a (ix2 ⟨d.val, h⟩ τ) else b (ix2 ⟨d.val - 64, by omega⟩ τ) := by
  pointwise [Tile.pair]

end Nsa
-- ==== Proof.Spec.lean ====
module

public import proofs.«01_k».proof.Proof.Softmax

@[expose] public section

/-! # The attention of one query

What both programs compute for one query position and one key/value group: four heads that share the group's
keys and values, a softmax over the compressed blocks, one over the keys of the chosen blocks, one over the
window, and the sigmoid gates that mix them. -/

noncomputable section

namespace Nsa

open Idealize.ShloMosaic

/-- Two masks and two rows of scores that agree give the same weights. -/
theorem ew_congr {ι : Type} {P P' : ι → Prop} [DecidablePred P] [DecidablePred P'] {s s' : ι → ℝ} (hP : ∀ j, P j ↔ P' j)
    (hs : ∀ j, P j → s j = s' j) (j : ι) : ew P s j = ew P' s' j := by
  unfold ew
  by_cases h : P j
  · rw [if_pos h, if_pos ((hP j).1 h), hs j h]
  · rw [if_neg h, if_neg (fun h' => h ((hP j).2 h'))]

theorem wt_congr {ι : Type} [Fintype ι] {P P' : ι → Prop} [DecidablePred P] [DecidablePred P'] {s s' : ι → ℝ}
    (hP : ∀ j, P j ↔ P' j) (hs : ∀ j, P j → s j = s' j) (j : ι) : wt P s j = wt P' s' j := by
  unfold wt tot
  rw [ew_congr hP hs j, Finset.sum_congr rfl fun k _ => ew_congr hP hs k]

section reindex
variable {ι κ : Type} [Fintype ι] [Fintype κ] (f : ι → κ) (hf : Function.Injective f) (P : κ → Prop) [DecidablePred P]
  (P' : ι → Prop) [DecidablePred P'] (s : κ → ℝ) (s' : ι → ℝ) (hP : ∀ i, P' i ↔ P (f i)) (hs : ∀ i, P' i → s' i = s (f i))
  (hr : ∀ k, P k → k ∈ Set.range f)
include hf hP hs hr

theorem ew_reindex (i : ι) : ew P' s' i = ew P s (f i) := by
  unfold ew
  by_cases h : P' i
  · rw [if_pos h, if_pos ((hP i).1 h), hs i h]
  · rw [if_neg h, if_neg (fun h' => h ((hP i).2 h'))]

theorem tot_reindex : tot P' s' = tot P s :=
  Fintype.sum_of_injective f hf _ _ (fun k hk => by unfold ew; rw [if_neg fun h => hk (hr k h)])
    (fun i => ew_reindex f hf P P' s s' hP hs hr i)

theorem wt_reindex (i : ι) : wt P' s' i = wt P s (f i) := by
  unfold wt; rw [ew_reindex f hf P P' s s' hP hs hr, tot_reindex f hf P P' s s' hP hs hr]

/-- A weighted sum does not change when masked entries are left out. -/
theorem sum_reindex (v : κ → EReal) :
    ∑ i, ((wt P' s' i : ℝ) : EReal) * v (f i) = ∑ k, ((wt P s k : ℝ) : EReal) * v k :=
  Fintype.sum_of_injective f hf _ _
    (fun k hk => by
      have : wt P s k = 0 := by unfold wt ew; rw [if_neg fun h => hk (hr k h), zero_div]
      rw [this, EReal.coe_zero, zero_mul])
    (fun i => by rw [wt_reindex f hf P P' s s' hP hs hr])
end reindex

theorem wt_le_one {ι : Type} [Fintype ι] (P : ι → Prop) [DecidablePred P] (s : ι → ℝ) (j : ι) : wt P s j ≤ 1 := by
  unfold wt
  exact div_le_one_of_le₀ (Finset.single_le_sum (fun i _ => ew_nonneg P s i) (Finset.mem_univ j)) (tot_nonneg P s)

/-- What a query position of a group sees: its scores against the three kinds of keys, the values and the gates. -/
structure Query where
  pos : ℕ
  sc : Fin 4 → Fin 127 → ℝ
  ss : Fin 4 → ℕ → ℝ
  sw : Fin 4 → ℕ → ℝ
  vc : Fin 127 → Fin 64 → EReal
  vs : ℕ → Fin 64 → EReal
  vw : ℕ → Fin 64 → EReal
  ga : Fin 12 → EReal

/-- How far compressed block `n` and selected block `j` overlap, in strides. -/
def overlap (j n : ℕ) : ℝ := ((min (16 * n + 32) (64 * (j + 1)) - max (16 * n) (64 * j) : ℕ) : ℝ) / 16

theorem overlap_nonneg (j n : ℕ) : 0 ≤ overlap j n := by unfold overlap; positivity

theorem overlap_le (j n : ℕ) : overlap j n ≤ 2 := by
  unfold overlap
  rw [div_le_iff₀ (by norm_num)]
  have : min (16 * n + 32) (64 * (j + 1)) - max (16 * n) (64 * j) ≤ 32 := by omega
  calc _ ≤ ((32 : ℕ) : ℝ) := by exact_mod_cast this
    _ = _ := by norm_num

namespace Query
variable (Q : Query)

/-- The compressed block ends before the query. -/
abbrev cP (n : Fin 127) : Prop := 16 * n.val + 31 ≤ Q.pos

/-- A head's weight of a compressed block. -/
def cw (r : Fin 4) (n : Fin 127) : ℝ := wt Q.cP (Q.sc r) n

def imp (j : Fin 32) : ℝ := ∑ n : Fin 127, overlap j.val n.val * ∑ r, Q.cw r n

/-- What block `j` is ranked by. -/
def key (j : Fin 32) : EReal :=
  if j.val = 0 ∨ j.val = Q.pos / 64 then ((10000 : ℝ) : EReal)
  else if 64 * j.val ≤ Q.pos then ((Q.imp j : ℝ) : EReal) else ((-10000 : ℝ) : EReal)

/-- Block `i` is ranked before block `j`. -/
abbrev beats (i j : Fin 32) : Prop := Q.key j < Q.key i ∨ (Q.key i = Q.key j ∧ i < j)

/-- Fewer than eight blocks are ranked before block `j`. -/
def chosen (j : Fin 32) : Prop := (Finset.univ.filter fun i => Q.beats i j).card < 8

def chosenN (b : ℕ) : Prop := ∃ h : b < 32, Q.chosen ⟨b, h⟩

/-- The key lies in a chosen block and not after the query. -/
def sP (k : ℕ) : Prop := k ≤ Q.pos ∧ Q.chosenN (k / 64)

instance : DecidablePred Q.sP := fun _ => Classical.propDecidable _

/-- The key lies in the window before the query. -/
abbrev wP (k : ℕ) : Prop := k ≤ Q.pos ∧ Q.pos < k + 256

def oc (r : Fin 4) (d : Fin 64) : EReal := ∑ n : Fin 127, ((Q.cw r n : ℝ) : EReal) * Q.vc n d

def os (r : Fin 4) (d : Fin 64) : EReal :=
  ∑ k : Fin 2048, ((wt (fun k : Fin 2048 => Q.sP k.val) (fun k => Q.ss r k.val) k : ℝ) : EReal) * Q.vs k.val d

def ow (r : Fin 4) (d : Fin 64) : EReal :=
  ∑ k : Fin 2048, ((wt (fun k : Fin 2048 => Q.wP k.val) (fun k => Q.sw r k.val) k : ℝ) : EReal) * Q.vw k.val d

def gate (n : Fin 12) : EReal := Ideal.div 1 (1 + Ideal.exp (-(Q.ga n)))

/-- A head's output before the norm. -/
def o (r : Fin 4) (d : Fin 64) : EReal :=
  Q.gate ⟨3 * r.val, by omega⟩ * Q.oc r d + Q.gate ⟨3 * r.val + 1, by omega⟩ * Q.os r d
    + Q.gate ⟨3 * r.val + 2, by omega⟩ * Q.ow r d

theorem cw_nonneg (r : Fin 4) (n : Fin 127) : 0 ≤ Q.cw r n := wt_nonneg _ _ _

theorem imp_le (j : Fin 32) : Q.imp j ≤ 10000 := by
  have h : ∀ n : Fin 127, overlap j.val n.val * ∑ r, Q.cw r n ≤ 8 := fun n => by
    have h4 : ∑ r : Fin 4, Q.cw r n ≤ 4 := by
      calc ∑ r : Fin 4, Q.cw r n ≤ ∑ r : Fin 4, (1 : ℝ) := Finset.sum_le_sum fun r _ => wt_le_one _ _ _
        _ = 4 := by simp
    have h0 : 0 ≤ ∑ r : Fin 4, Q.cw r n := Finset.sum_nonneg fun r _ => Q.cw_nonneg r n
    nlinarith [overlap_le j.val n.val, overlap_nonneg j.val n.val]
  calc Q.imp j ≤ ∑ n : Fin 127, (8 : ℝ) := Finset.sum_le_sum fun n _ => h n
    _ ≤ 10000 := by simp; norm_num

theorem key_le (j : Fin 32) : Q.key j ≤ ((10000 : ℝ) : EReal) := by
  unfold key
  split_ifs
  · exact le_rfl
  · exact_mod_cast Q.imp_le j
  · exact_mod_cast (by norm_num : (-10000 : ℝ) ≤ 10000)

/-- The first block is always chosen. -/
theorem chosen_zero : Q.chosen 0 := by
  unfold chosen
  rw [Finset.filter_false_of_mem]
  · simp
  · rintro i - (h | ⟨-, h⟩)
    · have h0 : Q.key 0 = ((10000 : ℝ) : EReal) := by unfold key; simp
      rw [h0] at h
      exact absurd (Q.key_le i) (not_le.mpr h)
    · exact absurd h (by simp)

theorem sP_zero : Q.sP 0 := ⟨Nat.zero_le _, by decide, by simpa using Q.chosen_zero⟩

theorem gate_real (n : Fin 12) : ∃ g : ℝ, 0 ≤ g ∧ Q.gate n = (g : EReal) := Nsa.gate_real (Q.ga n)

end Query

end Nsa
-- ==== Proof.HostWords.lean ====
module

public import proofs.«01_k».proof.Proof.TileRead
public import proofs.«01_k».proof.Proof.Spec

@[expose] public section

/-! # Words and literals -/

noncomputable section

namespace Nsa
open Idealize.ShloMosaic Idealize.SL.Sem
open Cert.KernelIdeal Cert.KernelIdeal.Gen

theorem lit_eighth : Ideal.ofBits .f32 1040187392#32 = ((1 / 8 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

theorem lit_sixteen : Ideal.ofBits .f32 1098907648#32 = ((16 : ℝ) : EReal) := by
  simp [Ideal.ofBits, Ideal.ieee, -EReal.coe_mul]; norm_num

/-- The overlap of a compressed and a selected block in keys, as the words compute it. -/
def overlapWord (j n : ℕ) : BitVec 32 :=
  IntOp.maxsi
    (IntOp.subi
      (IntOp.minsi (IntOp.addi (IntOp.muli (BitVec.ofNat 32 n) 16#32) 32#32)
        (IntOp.muli (IntOp.addi (BitVec.ofNat 32 j) 1#32) 64#32))
      (IntOp.maxsi (IntOp.muli (BitVec.ofNat 32 n) 16#32) (IntOp.muli (BitVec.ofNat 32 j) 64#32)))
    0#32

theorem overlap_word : ∀ (j : Fin 32) (n : Fin 127), overlapWord j.val n.val
    = BitVec.ofNat 32 (min (16 * n.val + 32) (64 * (j.val + 1)) - max (16 * n.val) (64 * j.val)) := by decide +kernel

theorem block_word : ∀ k : Fin 2048,
    IntOp.divsi ArithUnit.host (BitVec.ofNat 32 k.val) 64#32 = BitVec.ofNat 32 (k.val / 64) := by decide +kernel

theorem sitofp_zero : (FloatOps.sitofp (F := Ideal) FTy.f32 (0#32) : EReal) = 0 := by
  show (((0#32).toInt : ℝ) : EReal) = 0
  simp

/-- A padded read at a block and a group that divide out of one coordinate. -/
theorem pad_read (f : Fin 127 → Fin 2 → EReal) {a b : ℕ} (n : Fin 128) (g : Fin 2) (ha : a = n.val) (hb : b = g.val)
    {z : EReal} (hz : z = 0) :
    (if h : a < 127 ∧ b < 2 then f ⟨a, h.1⟩ ⟨b, h.2⟩ else z) = if h : n.val < 127 then f ⟨n.val, h⟩ g else 0 := by
  subst ha hb hz
  by_cases h : n.val < 127
  · rw [dif_pos ⟨h, g.isLt⟩, dif_pos h]
  · rw [dif_neg fun h' => h h'.1, dif_neg h]

end Nsa
-- ==== Proof.Host.lean ====
module

public import proofs.«01_k».proof.Proof.HostWords
public import Idealize.ShloMosaic.Lib.StableHlo.ReadAt
public import proofs.«01_k».proof.Proof.Spec
public import proofs.«01_k».proof.Proof.Gen.KernelIdeal.Frame.Runs

@[expose] public section

set_option maxRecDepth 16384

/-! # The arrays that the kernel reads, from the arguments -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD)

/-! The arguments. -/

abbrev aQ : Vec Ideal S8x2048x8x64 .f32 := m ((c : Thread nD τ).loc main_arg0)
abbrev aKc : Vec Ideal S8x127x2x64 .f32 := m ((c : Thread nD τ).loc main_arg1)
abbrev aVc : Vec Ideal S8x127x2x64 .f32 := m ((c : Thread nD τ).loc main_arg2)
abbrev aKs : Vec Ideal S8x2048x2x64 .f32 := m ((c : Thread nD τ).loc main_arg3)
abbrev aVs : Vec Ideal S8x2048x2x64 .f32 := m ((c : Thread nD τ).loc main_arg4)
abbrev aKw : Vec Ideal S8x2048x2x64 .f32 := m ((c : Thread nD τ).loc main_arg5)
abbrev aVw : Vec Ideal S8x2048x2x64 .f32 := m ((c : Thread nD τ).loc main_arg6)
abbrev aG : Vec Ideal S8x2048x24 .f32 := m ((c : Thread nD τ).loc main_arg7)
abbrev aGn : Vec Ideal S512 .f32 := m ((c : Thread nD τ).loc main_arg8)

set_option maxHeartbeats 2000000 in
theorem V_q (b h : Fin 8) (t : Fin 2048) (d : Fin 64) :
    (V m c main_v38 : Vec Ideal S8x8x2048x64 .bf16) (ix4 b h t d)
      = aQ m c (ix4 b t h d) * Ideal.div ((1 / 8 : ℝ) : EReal) ((Real.log 2 : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  rw [lit_eighth, lit_two, Ideal.log_coe, if_neg (by norm_num)]

set_option maxHeartbeats 2000000 in
theorem V_kc (b : Fin 8) (g : Fin 2) (n : Fin 128) (d : Fin 64) :
    (V m c main_v62 : Vec Ideal S2x8x256x64 .bf16) (ix4 0 b ⟨128 * g.val + n.val, by omega⟩ d)
      = if h : n.val < 127 then aKc m c (ix4 b ⟨n.val, h⟩ g d) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  have e1 : (128 * g.val + n.val) % 128 = n.val := by omega
  have e2 : (128 * g.val + n.val) / 128 = g.val := by omega
  have hg := g.isLt
  exact pad_read (fun x y => aKc m c (ix4 b x y d)) n g e1 e2 sitofp_zero

set_option maxHeartbeats 2000000 in
theorem V_vc (b : Fin 8) (g : Fin 2) (n : Fin 128) (d : Fin 64) :
    (V m c main_v64 : Vec Ideal S2x8x64x256 .bf16) (ix4 1 b d ⟨128 * g.val + n.val, by omega⟩)
      = if h : n.val < 127 then aVc m c (ix4 b ⟨n.val, h⟩ g d) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  have e1 : (128 * g.val + n.val) % 128 = n.val := by omega
  have e2 : (128 * g.val + n.val) / 128 = g.val := by omega
  have hg := g.isLt
  exact pad_read (fun x y => aVc m c (ix4 b x y d)) n g e1 e2 sitofp_zero

set_option maxHeartbeats 2000000 in
theorem V_ks (b : Fin 8) (g : Fin 2) (t : Fin 2048) (d : Fin 64) :
    (V m c main_v40 : Vec Ideal S8x2x2048x64 .bf16) (ix4 b g t d) = aKs m c (ix4 b t g d) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at

set_option maxHeartbeats 2000000 in
theorem V_kw (b : Fin 8) (g : Fin 2) (t : Fin 2048) (d : Fin 64) :
    (V m c main_v42 : Vec Ideal S8x2x2048x64 .bf16) (ix4 b g t d) = aKw m c (ix4 b t g d) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at

set_option maxHeartbeats 2000000 in
theorem V_vs (b : Fin 8) (g : Fin 2) (n : Fin 8) (d : Fin 80) (k : Fin 256) :
    (V m c main_v47 : Vec Ideal S8x2x8x80x256 .bf16) (ix5 b g n d k)
      = if h : d.val < 64 then aVs m c (ix4 b ⟨256 * n.val + k.val, by omega⟩ g ⟨d.val, h⟩) else 1 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  by_cases h : d.val < 64
  · rw [dif_pos h, dif_pos h]
    simp only [Nat.mul_comm]
  · rw [dif_neg h, dif_neg h]

set_option maxHeartbeats 2000000 in
theorem V_vw (b : Fin 8) (g : Fin 2) (n : Fin 16) (d : Fin 80) (k : Fin 128) :
    (V m c main_v52 : Vec Ideal S8x2x16x80x128 .bf16) (ix5 b g n d k)
      = if h : d.val < 64 then aVw m c (ix4 b ⟨128 * n.val + k.val, by omega⟩ g ⟨d.val, h⟩) else 1 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  after_reads_at
  by_cases h : d.val < 64
  · rw [dif_pos h, dif_pos h]
    simp only [Nat.mul_comm]
  · rw [dif_neg h, dif_neg h]

set_option maxHeartbeats 2000000 in
theorem V_gt (b : Fin 8) (g : Fin 2) (n : Fin 12) (t : Fin 2048) :
    (V m c main_v67 : Vec Ideal S2x8x128x2048 .f32) (ix4 g b ⟨16 + n.val, by omega⟩ t)
      = aG m c (ix3 b t ⟨12 * g.val + n.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  simp only [Nat.mul_comm]

set_option maxHeartbeats 2000000 in
theorem V_gain (h : Fin 8) (d : Fin 64) :
    (V m c main_v68 : Vec Ideal S8x64x1 .f32) (ix3 h d 0) = aGn m c (ix1 ⟨64 * h.val + d.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  simp only [Nat.mul_comm]

set_option maxHeartbeats 2000000 in
theorem V_ov (j : Fin 32) (n : Fin 127) :
    (V m c main_v24 : Vec Ideal S32x128 .f32) (ix2 j n.castSucc) = ((overlap j.val n.val : ℝ) : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  have h1 : IntOp.cmpi CmpIPredicate.eq (BitVec.ofNat 32 n.castSucc.val) 127#32 = BitVec.ofBool false := by
    rw [show (127#32 : BitVec 32) = BitVec.ofNat 32 127 from rfl, eq_small (by have := n.isLt; simp only [Fin.val_castSucc]; omega) (by norm_num)]
    have := n.isLt
    rw [decide_eq_false (by simp only [Fin.val_castSucc]; omega)]
  rw [h1, select_bool, if_neg (by simp), lit_sixteen]
  have h2 := overlap_word j n
  have h3 : (FloatOps.sitofp (F := Ideal) FTy.f32 (overlapWord j.val n.val) : EReal)
      = (((min (16 * n.val + 32) (64 * (j.val + 1)) - max (16 * n.val) (64 * j.val) : ℕ) : ℝ) : EReal) := by
    rw [h2]
    have h4 := toInt_small (a := min (16 * n.val + 32) (64 * (j.val + 1)) - max (16 * n.val) (64 * j.val)) (by omega)
    show (((BitVec.ofNat 32 _).toInt : ℝ) : EReal) = _
    rw [h4]; norm_cast
  have h5 : overlapWord j.val n.val = overlapWord j.val n.castSucc.val := rfl
  rw [h5] at h3
  unfold overlapWord at h3
  rw [h3, Ideal.div_coe (by norm_num), ← EReal.coe_mul]
  unfold overlap
  congr 1; ring

set_option maxHeartbeats 2000000 in
theorem V_et (n : Fin 8) (k : Fin 256) (j : Fin 32) :
    (V m c main_v32 : Vec Ideal S8x256x32 .bf16) (ix3 n k j) = if (256 * n.val + k.val) / 64 = j.val then (1 : EReal) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  rw [block_word (⟨n.val * 256 + k.val, by omega⟩ : Fin 2048), eq_small (by omega) (by omega)]
  have e : n.val * 256 + k.val = 256 * n.val + k.val := by omega
  simp only [e]
  by_cases h : (256 * n.val + k.val) / 64 = j.val
  · rw [if_pos h, decide_eq_true h]
    exact (by simp : (((1#1).toNat : ℝ) : EReal) = 1)
  · rw [if_neg h, decide_eq_false h]
    exact (by simp : (((0#1).toNat : ℝ) : EReal) = 0)

end Nsa
-- ==== Proof.Blocks.lean ====
module

public import proofs.«01_k».proof.Proof.Bridge
public import proofs.«01_k».proof.Proof.Host
public import Idealize.ShloMosaic.Lib.Pipeline.ValueKit
public import Idealize.ShloMosaic.Lib.WholeRead

@[expose] public section

set_option maxRecDepth 16384

/-! # A tile's loads, from the arrays -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Every window's block index. -/
theorem idx : ∀ t : Fin cfg0.N, win0_0.index t = ![t.val / 8, 0, t.val % 8, 0]
    ∧ win0_1.index t = ![0, t.val / 8, 0, 0] ∧ win0_2.index t = ![1, t.val / 8, 0, 0] ∧ win0_3.index t = ![t.val / 8, 0, 0, 0]
    ∧ win0_4.index t = ![t.val / 8, 0, 0, 0, 0] ∧ win0_5.index t = ![t.val / 8, 0, 0, 0] ∧ win0_6.index t = ![t.val / 8, 0, 0, 0, 0]
    ∧ win0_7.index t = ![0, t.val / 8, 1, t.val % 8] ∧ win0_8.index t = ![0, 0, 0] ∧ win0_9.index t = ![0, 0]
    ∧ win0_10.index t = ![0, 0, 0] ∧ win0_11.index t = ![t.val, 0] := (by decide +kernel : ∀ t : Fin grid0.N, _)

theorem t_lt : t.val < 64 := t.isLt

/-- The batch entry of a point. -/
def bat : Fin 8 := ⟨t.val / 8, by have : t.val < 64 := t.isLt; omega⟩

theorem read_q (a : Memref sig .tc .vmem S1x8x256x64 .bf16) (h : a.IsWhole) (x : Vec Ideal S1x8x256x64 .bf16) (g : Fin 2) (r : Fin 4) (τ : Fin 256) (d : Fin 64) :
    View.readAt (Elt Ideal) a.view (Rect.unit (s := S1x8x256x64) ![0, 4 * g.val, 0, 0] S1x4x256x64.size (inb_q g)).toLoadRect (h.unread x) (ix4 0 r τ d)
      = x (ix4 0 ⟨4 * g.val + r.val, by omega⟩ τ d) := by
  refine (Memref.IsWhole.readAt_unread h x _ _).trans (congrArg x (funext fun a => Fin.ext ?_))
  refine (LoadRect.idx_apply _ _ _).trans ?_
  fin_cases a <;> simp [Rect.unit]

theorem read_kc (a : Memref sig .tc .vmem S1x1x256x64 .bf16) (h : a.IsWhole) (x : Vec Ideal S1x1x256x64 .bf16) (g : Fin 2) (n : Fin 128) (d : Fin 64) :
    View.readAt (Elt Ideal) a.view (Rect.unit (s := S1x1x256x64) ![0, 0, 128 * g.val, 0] S1x1x128x64.size (inb_kc g)).toLoadRect (h.unread x) (ix4 0 0 n d)
      = x (ix4 0 0 ⟨128 * g.val + n.val, by omega⟩ d) := by
  refine (Memref.IsWhole.readAt_unread h x _ _).trans (congrArg x (funext fun a => Fin.ext ?_))
  refine (LoadRect.idx_apply _ _ _).trans ?_
  fin_cases a <;> simp [Rect.unit]

theorem read_vc (a : Memref sig .tc .vmem S1x1x64x256 .bf16) (h : a.IsWhole) (x : Vec Ideal S1x1x64x256 .bf16) (g : Fin 2) (n : Fin 128) (d : Fin 64) :
    View.readAt (Elt Ideal) a.view (Rect.unit (s := S1x1x64x256) ![0, 0, 0, 128 * g.val] S1x1x64x128.size (inb_vc g)).toLoadRect (h.unread x) (ix4 0 0 d n)
      = x (ix4 0 0 d ⟨128 * g.val + n.val, by omega⟩) := by
  refine (Memref.IsWhole.readAt_unread h x _ _).trans (congrArg x (funext fun a => Fin.ext ?_))
  refine (LoadRect.idx_apply _ _ _).trans ?_
  fin_cases a <;> simp [Rect.unit]

theorem read_kw (a : Memref sig .tc .vmem S1x2x2048x64 .bf16) (h : a.IsWhole) (x : Vec Ideal S1x2x2048x64 .bf16) (i : grid0.Coords) (g : Fin 2) (k : Fin 512) (d : Fin 64) :
    View.readAt (Elt Ideal) a.view (Rect.unit (s := S1x2x2048x64) ![0, g.val, wrow i, 0] S1x1x512x64.size (inb_kw i g)).toLoadRect (h.unread x) (ix4 0 0 k d)
      = x (ix4 0 g ⟨wrow i + k.val, by have := wrow_eq i; have := i1_lt i; omega⟩ d) := by
  refine (Memref.IsWhole.readAt_unread h x _ _).trans (congrArg x (funext fun a => Fin.ext ?_))
  refine (LoadRect.idx_apply _ _ _).trans ?_
  fin_cases a <;> simp [Rect.unit]

theorem read_vw (a : Memref sig .tc .vmem S1x2x16x80x128 .bf16) (h : a.IsWhole) (x : Vec Ideal S1x2x16x80x128 .bf16) (i : grid0.Coords) (g : Fin 2) (j : ℕ) (d : Fin 80) (k : Fin 128) :
    View.readAt (Elt Ideal) a.view (Rect.unit (s := S1x2x16x80x128) ![0, g.val, wblk i (min j 3), 0, 0] S1x1x1x80x128.size (inb_vw i g j)).toLoadRect (h.unread x) (ix5 0 0 0 d k)
      = x (ix5 0 g ⟨wblk i (min j 3), by have := wblk_eq i (min j 3) (by omega); have := i1_lt i; omega⟩ d k) := by
  refine (Memref.IsWhole.readAt_unread h x _ _).trans (congrArg x (funext fun a => Fin.ext ?_))
  refine (LoadRect.idx_apply _ _ _).trans ?_
  fin_cases a <;> simp [Rect.unit]

theorem read_ov (a : Memref sig .tc .vmem S32x128 .f32) (h : a.IsWhole) (x : Vec Ideal S32x128 .f32) (j : Fin 32) (n : Fin 128) :
    View.readAt (Elt Ideal) a.view (Rect.unit (s := S32x128) ![0, 0] S32x128.size inb_ov).toLoadRect (h.unread x) (ix2 j n)
      = x (ix2 j n) := by
  refine (Memref.IsWhole.readAt_unread h x _ _).trans (congrArg x (funext fun a => Fin.ext ?_))
  refine (LoadRect.idx_apply _ _ _).trans ?_
  fin_cases a <;> simp [Rect.unit]

theorem read_et (a : Memref sig .tc .vmem S8x256x32 .bf16) (h : a.IsWhole) (x : Vec Ideal S8x256x32 .bf16) (n : ℕ) (k : Fin 256) (j : Fin 32) :
    View.readAt (Elt Ideal) a.view (Rect.unit (s := S8x256x32) ![min n 7, 0, 0] S1x256x32.size (inb_et n)).toLoadRect (h.unread x) (ix3 0 k j)
      = x (ix3 ⟨min n 7, by omega⟩ k j) := by
  refine (Memref.IsWhole.readAt_unread h x _ _).trans (congrArg x (funext fun a => Fin.ext ?_))
  refine (LoadRect.idx_apply _ _ _).trans ?_
  fin_cases a <;> simp [Rect.unit]

theorem read_ks (a : Memref sig .tc .vmem S1x2x2048x64 .bf16) (h : a.IsWhole) (x : Vec Ideal S1x2x2048x64 .bf16) (g : Fin 2) (n : ℕ) (k : Fin 256) (d : Fin 64) :
    View.readAt (Elt Ideal) a.view (Rect.unit (s := S1x2x2048x64) ![0, g.val, 256 * min n 7, 0] S1x1x256x64.size (inb_ks g n)).toLoadRect (h.unread x) (ix4 0 0 k d)
      = x (ix4 0 g ⟨256 * min n 7 + k.val, by omega⟩ d) := by
  refine (Memref.IsWhole.readAt_unread h x _ _).trans (congrArg x (funext fun a => Fin.ext ?_))
  refine (LoadRect.idx_apply _ _ _).trans ?_
  fin_cases a <;> simp [Rect.unit]

theorem read_vs (a : Memref sig .tc .vmem S1x2x8x80x256 .bf16) (h : a.IsWhole) (x : Vec Ideal S1x2x8x80x256 .bf16) (g : Fin 2) (n : ℕ) (d : Fin 80) (k : Fin 256) :
    View.readAt (Elt Ideal) a.view (Rect.unit (s := S1x2x8x80x256) ![0, g.val, min n 7, 0, 0] S1x1x1x80x256.size (inb_vs g n)).toLoadRect (h.unread x) (ix5 0 0 0 d k)
      = x (ix5 0 g ⟨min n 7, by omega⟩ d k) := by
  refine (Memref.IsWhole.readAt_unread h x _ _).trans (congrArg x (funext fun a => Fin.ext ?_))
  refine (LoadRect.idx_apply _ _ _).trans ?_
  fin_cases a <;> simp [Rect.unit]

theorem read_gt (a : Memref sig .tc .vmem S2x1x16x256 .f32) (h : a.IsWhole) (x : Vec Ideal S2x1x16x256 .f32) (g : Fin 2) (n : Fin 16) (τ : Fin 256) :
    View.readAt (Elt Ideal) a.view (Rect.unit (s := S2x1x16x256) ![g.val, 0, 0, 0] S1x1x16x256.size (inb_gt g)).toLoadRect (h.unread x) (ix4 0 0 n τ)
      = x (ix4 g 0 n τ) := by
  refine (Memref.IsWhole.readAt_unread h x _ _).trans (congrArg x (funext fun a => Fin.ext ?_))
  refine (LoadRect.idx_apply _ _ _).trans ?_
  fin_cases a <;> simp [Rect.unit]

theorem read_gain (a : Memref sig .tc .vmem S8x64x1 .f32) (h : a.IsWhole) (x : Vec Ideal S8x64x1 .f32) (g : Fin 2) (r : ℕ) (d : Fin 64) :
    View.readAt (Elt Ideal) a.view (Rect.unit (s := S8x64x1) ![4 * g.val + min r 3, 0, 0] S1x64x1.size (inb_gain g r)).toLoadRect (h.unread x) (ix3 0 d 0)
      = x (ix3 ⟨4 * g.val + min r 3, by omega⟩ d 0) := by
  refine (Memref.IsWhole.readAt_unread h x _ _).trans (congrArg x (funext fun a => Fin.ext ?_))
  refine (LoadRect.idx_apply _ _ _).trans ?_
  fin_cases a <;> simp [Rect.unit]

end Nsa
-- ==== Proof.BlocksA.lean ====
module

public import proofs.«01_k».proof.Proof.Blocks
public import proofs.«01_k».proof.Proof.Host
public import Idealize.ShloMosaic.Lib.Pipeline.ValueKit
public import Idealize.ShloMosaic.Lib.WholeRead

@[expose] public section

set_option maxRecDepth 16384

/-! # A tile's blocks, from the arrays -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem blk_q (h : Fin 8) (τ : Fin 256) (d : Fin 64) :
    (iblk m c 0 t : Vec Ideal S1x8x256x64 .bf16) (ix4 0 h τ d) = (V m c main_v38 : Vec Ideal S8x8x2048x64 .bf16) (ix4 (bat t) h ⟨256 * (t.val % 8) + τ.val, by omega⟩ d) := by
  have h8 := t_lt t
  blk_ext [iblk, idx t, bat]

theorem blk_kc (n : Fin 256) (d : Fin 64) :
    (iblk m c 1 t : Vec Ideal S1x1x256x64 .bf16) (ix4 0 0 n d) = (V m c main_v62 : Vec Ideal S2x8x256x64 .bf16) (ix4 0 (bat t) n d) := by
  have h8 := t_lt t
  blk_ext [iblk, idx t, bat]

theorem blk_vc (n : Fin 256) (d : Fin 64) :
    (iblk m c 2 t : Vec Ideal S1x1x64x256 .bf16) (ix4 0 0 d n) = (V m c main_v64 : Vec Ideal S2x8x64x256 .bf16) (ix4 1 (bat t) d n) := by
  have h8 := t_lt t
  blk_ext [iblk, idx t, bat]

theorem blk_ks (g : Fin 2) (k : Fin 2048) (d : Fin 64) :
    (iblk m c 3 t : Vec Ideal S1x2x2048x64 .bf16) (ix4 0 g k d) = (V m c main_v40 : Vec Ideal S8x2x2048x64 .bf16) (ix4 (bat t) g k d) := by
  have h8 := t_lt t
  blk_ext [iblk, idx t, bat]

end Nsa
-- ==== Proof.BlocksB.lean ====
module

public import proofs.«01_k».proof.Proof.Blocks
public import proofs.«01_k».proof.Proof.Host
public import Idealize.ShloMosaic.Lib.Pipeline.ValueKit
public import Idealize.ShloMosaic.Lib.WholeRead

@[expose] public section

set_option maxRecDepth 16384

/-! # A tile's blocks, from the arrays -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem blk_vs (g : Fin 2) (n : Fin 8) (d : Fin 80) (k : Fin 256) :
    (iblk m c 4 t : Vec Ideal S1x2x8x80x256 .bf16) (ix5 0 g n d k) = (V m c main_v47 : Vec Ideal S8x2x8x80x256 .bf16) (ix5 (bat t) g n d k) := by
  have h8 := t_lt t
  blk_ext [iblk, idx t, bat]

theorem blk_kw (g : Fin 2) (k : Fin 2048) (d : Fin 64) :
    (iblk m c 5 t : Vec Ideal S1x2x2048x64 .bf16) (ix4 0 g k d) = (V m c main_v42 : Vec Ideal S8x2x2048x64 .bf16) (ix4 (bat t) g k d) := by
  have h8 := t_lt t
  blk_ext [iblk, idx t, bat]

theorem blk_vw (g : Fin 2) (n : Fin 16) (d : Fin 80) (k : Fin 128) :
    (iblk m c 6 t : Vec Ideal S1x2x16x80x128 .bf16) (ix5 0 g n d k) = (V m c main_v52 : Vec Ideal S8x2x16x80x128 .bf16) (ix5 (bat t) g n d k) := by
  have h8 := t_lt t
  blk_ext [iblk, idx t, bat]

theorem blk_gt (g : Fin 2) (n : Fin 16) (τ : Fin 256) :
    (iblk m c 7 t : Vec Ideal S2x1x16x256 .f32) (ix4 g 0 n τ) = (V m c main_v67 : Vec Ideal S2x8x128x2048 .f32) (ix4 g (bat t) ⟨16 + n.val, by omega⟩ ⟨256 * (t.val % 8) + τ.val, by omega⟩) := by
  have h8 := t_lt t
  blk_ext [iblk, idx t, bat]

end Nsa
-- ==== Proof.BlocksC.lean ====
module

public import proofs.«01_k».proof.Proof.Blocks
public import proofs.«01_k».proof.Proof.Host
public import Idealize.ShloMosaic.Lib.Pipeline.ValueKit
public import Idealize.ShloMosaic.Lib.WholeRead

@[expose] public section

set_option maxRecDepth 16384

/-! # A tile's blocks, from the arrays -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem blk_gain (h : Fin 8) (d : Fin 64) :
    (iblk m c 8 t : Vec Ideal S8x64x1 .f32) (ix3 h d 0) = (V m c main_v68 : Vec Ideal S8x64x1 .f32) (ix3 h d 0) := by
  have h8 := t_lt t
  blk_ext [iblk, idx t, bat]

theorem blk_ov (j : Fin 32) (n : Fin 128) :
    (iblk m c 9 t : Vec Ideal S32x128 .f32) (ix2 j n) = (V m c main_v24 : Vec Ideal S32x128 .f32) (ix2 j n) := by
  have h8 := t_lt t
  blk_ext [iblk, idx t, bat]

theorem blk_et (n : Fin 8) (k : Fin 256) (j : Fin 32) :
    (iblk m c 10 t : Vec Ideal S8x256x32 .bf16) (ix3 n k j) = (V m c main_v32 : Vec Ideal S8x256x32 .bf16) (ix3 n k j) := by
  have h8 := t_lt t
  blk_ext [iblk, idx t, bat]

end Nsa
-- ==== Proof.TileValue.lean ====
module

public import proofs.«01_k».proof.Proof.TileRead
public import proofs.«01_k».proof.Proof.Spec

@[expose] public section

set_option maxRecDepth 16384

/-! # A tile computes the attention of each of its queries -/

noncomputable section

namespace Nsa

open Idealize.ShloMosaic Idealize.SL.Sem
open Cert.KernelIdeal Cert.KernelIdeal.Gen

/-- A group's loads hold what query `τ` of the tile sees. -/
structure Sees (i : grid0.Coords) (τ : Fin 256) (L : Loads Ideal) (Q : Query) : Prop where
  pos : Q.pos = pos i τ
  sc : ∀ (r : Fin 4) (n : Fin 127), ∑ x, L.kc (ix4 0 0 n.castSucc x) * L.q (ix4 0 r τ x) = ((Q.sc r n / Real.log 2 : ℝ) : EReal)
  vc : ∀ (d : Fin 64) (n : Fin 127), L.vc (ix4 0 0 d n.castSucc) = Q.vc n d
  ss : ∀ (n : ℕ) (k : Fin 256) (r : Fin 4), n < 8 → ∑ x, L.ks n (ix4 0 0 k x) * L.q (ix4 0 r τ x) = ((Q.ss r (256 * n + k.val) / Real.log 2 : ℝ) : EReal)
  vs : ∀ (n : ℕ) (k : Fin 256) (d : Fin 80), n < 8 → L.vs n (ix5 0 0 0 d k) = if h : d.val < 64 then Q.vs (256 * n + k.val) ⟨d.val, h⟩ else 1
  sw : ∀ (k : Fin 512) (r : Fin 4), ∑ x, L.kw (ix4 0 0 k x) * L.q (ix4 0 r τ x)
    = ((Q.sw r (256 * ((i 1).val - 1) + k.val) / Real.log 2 : ℝ) : EReal)
  vw : ∀ (n : ℕ) (k : Fin 128) (d : Fin 80), n < 4 → L.vw n (ix5 0 0 0 d k)
    = if h : d.val < 64 then Q.vw (256 * ((i 1).val - 1) + (128 * n + k.val)) ⟨d.val, h⟩ else 1
  ov : ∀ (j : Fin 32) (n : Fin 127), L.ov (ix2 j n.castSucc) = ((overlap j.val n.val : ℝ) : EReal)
  et : ∀ (n : ℕ) (k : Fin 256) (j : Fin 32), n < 8 → L.et n (ix3 0 k j) = if (256 * n + k.val) / 64 = j.val then 1 else 0
  gt : ∀ n : Fin 12, L.gt (ix4 0 0 ⟨n.val, by omega⟩ τ) = Q.ga n

variable {i : grid0.Coords} {τ : Fin 256} {L : Loads Ideal} {Q : Query} (S : Sees i τ L Q)
include S

theorem i1_le : (i 1).val ≤ 7 := by have := i1_lt i; omega

theorem pos_le : Q.pos < 2048 := by rw [S.pos]; exact pos_lt i τ

theorem pos_eq : Q.pos = 256 * (i 1).val + τ.val := S.pos

/-! ## The compressed branch -/

/-- The scores of 128 compressed blocks, the last of them padding. -/
def sc128 (Q : Query) (r : Fin 4) (n : Fin 128) : ℝ := if h : n.val < 127 then Q.sc r ⟨n.val, h⟩ else 0

omit S in
theorem sc128_castSucc (r : Fin 4) (n : Fin 127) : sc128 Q r n.castSucc = Q.sc r n := by
  simp [sc128]

theorem cscore_row (r : Fin 4) (n : Fin 128) :
    Tile.cscore (F := Ideal) (t0w i) L.q L.kc (ix2 n (col r τ))
      = row (fun n : Fin 128 => 16 * n.val + 31 ≤ Q.pos) (fun k => sc128 Q r k / Real.log 2) n := by
  rw [cscore_apply, ← S.pos]
  unfold row
  by_cases h : 16 * n.val + 31 ≤ Q.pos
  · rw [if_pos h, if_pos h]
    have hp := pos_le S
    obtain ⟨n', rfl⟩ : ∃ n' : Fin 127, n = n'.castSucc := ⟨⟨n.val, by omega⟩, rfl⟩
    rw [S.sc]; simp only [sc128_castSucc]
  · rw [if_neg h, if_neg h]

theorem cw_eq (r : Fin 4) (n : Fin 128) :
    Tile.cw (F := Ideal) (t0w i) L (ix2 n (col r τ))
      = ((wt (fun n : Fin 128 => 16 * n.val + 31 ≤ Q.pos) (sc128 Q r) n : ℝ) : EReal) := by
  obtain ⟨ε, h0, h1, hε⟩ := lit_tiny
  have h : Tile.cw (F := Ideal) (t0w i) L (ix2 n (col r τ))
      = Tile.cexp (t0w i) (Tile.cscore (t0w i) L.q L.kc) (ix2 n (col r τ))
        * Ideal.div 1 (max (∑ x, Tile.cexp (t0w i) (Tile.cscore (t0w i) L.q L.kc) (ix2 x (col r τ))) (Ideal.ofBits .f32 228737632#32)) :=
    cnorm_apply _ n (col r τ)
  rw [h, hε]
  refine recip_softmax_row (fun n : Fin 128 => 16 * n.val + 31 ≤ Q.pos) (sc128 Q r) ε h0 h1
    (fun n => Tile.cexp (F := Ideal) (t0w i) (Tile.cscore (t0w i) L.q L.kc) (ix2 n (col r τ))) (fun j => ?_) n
  simp only [cexp_apply, cscore_row S, S.pos]

theorem cw_castSucc (r : Fin 4) (n : Fin 127) :
    wt (fun n : Fin 128 => 16 * n.val + 31 ≤ Q.pos) (sc128 Q r) n.castSucc = Q.cw r n := by
  have hp := pos_le S
  exact (wt_reindex Fin.castSucc (Fin.castSucc_injective 127) (fun n : Fin 128 => 16 * n.val + 31 ≤ Q.pos) Q.cP
    (sc128 Q r) (Q.sc r) (fun i => Iff.rfl) (fun i _ => (sc128_castSucc r i).symm)
    (fun k hk => ⟨⟨k.val, by omega⟩, rfl⟩) n).symm

theorem cw_last (r : Fin 4) : wt (fun n : Fin 128 => 16 * n.val + 31 ≤ Q.pos) (sc128 Q r) (Fin.last 127) = 0 := by
  have hp := pos_le S
  unfold wt ew
  rw [if_neg (by simp; omega), zero_div]

theorem cout_eq (r : Fin 4) (d : Fin 64) : Tile.cout (F := Ideal) (t0w i) L (ix2 d (col r τ)) = Q.oc r d := by
  rw [cout_apply, Fin.sum_univ_castSucc]
  simp only [cw_eq S, cw_last S, cw_castSucc S, S.vc, EReal.coe_zero, mul_zero, add_zero]
  exact Finset.sum_congr rfl fun n _ => mul_comm _ _

/-! ## The choice of the blocks -/

theorem imp_eq (j : Fin 32) : Tile.imp (F := Ideal) (Tile.cw (t0w i) L) L.ov (ix2 j τ) = ((Q.imp j : ℝ) : EReal) := by
  rw [imp_apply, Fin.sum_univ_castSucc]
  simp only [cw_eq S, cw_last S, cw_castSucc S, S.ov, EReal.coe_zero, mul_zero, add_zero]
  unfold Query.imp
  rw [← coe_sum]
  refine Finset.sum_congr rfl fun n _ => ?_
  rw [Fin.sum_univ_four]
  simp only [← EReal.coe_add, ← EReal.coe_mul]

theorem key_eq (j : Fin 32) :
    Tile.bkey (F := Ideal) (t0w i) (Tile.imp (Tile.cw (t0w i) L) L.ov) (ix2 j τ) = Q.key j := by
  rw [bkey_apply, imp_eq S, ← S.pos]; rfl

theorem wins_eq (n j : Fin 32) :
    Tile.wins (F := Ideal) (Tile.bkey (t0w i) (Tile.imp (Tile.cw (t0w i) L) L.ov)) n.val n.isLt (ix2 j τ)
      = if Q.beats n j then 1 else 0 := by
  rw [wins_apply]
  simp only [key_eq S, Fin.eta]
  unfold Query.beats
  by_cases h : n.val < j.val
  · rw [if_pos h]
    have h' : n < j := h
    by_cases h2 : Q.key j ≤ Q.key n
    · rw [if_pos h2, if_pos]
      rcases h2.lt_or_eq with h3 | h3
      · exact .inl h3
      · exact .inr ⟨h3.symm, h'⟩
    · rw [if_neg h2, if_neg]
      rintro (h3 | ⟨h3, -⟩)
      · exact h2 h3.le
      · exact h2 h3.ge
  · rw [if_neg h]
    have h' : ¬ n < j := h
    simp only [h', and_false, or_false]

theorem rank_eq (n : ℕ) (hn : n ≤ 32) (j : Fin 32) :
    Tile.rank (F := Ideal) (Tile.bkey (t0w i) (Tile.imp (Tile.cw (t0w i) L) L.ov)) n hn (ix2 j τ)
      = (((Finset.univ.filter fun k : Fin 32 => k.val < n ∧ Q.beats k j).card : ℝ) : EReal) := by
  induction n with
  | zero => rw [rank_zero]; simp
  | succ n ih =>
    rw [rank_succ, ih (by omega), wins_eq S ⟨n, by omega⟩ j]
    by_cases h : Q.beats ⟨n, by omega⟩ j
    · rw [if_pos h]
      have e : (Finset.univ.filter fun k : Fin 32 => k.val < n + 1 ∧ Q.beats k j)
          = insert ⟨n, by omega⟩ (Finset.univ.filter fun k : Fin 32 => k.val < n ∧ Q.beats k j) := by
        ext k
        simp only [Finset.mem_filter, Finset.mem_univ, true_and, Finset.mem_insert]
        constructor
        · rintro ⟨h1, h2⟩
          by_cases h3 : k.val = n
          · exact .inl (Fin.ext h3)
          · exact .inr ⟨by omega, h2⟩
        · rintro (rfl | ⟨h1, h2⟩)
          · exact ⟨Nat.lt_succ_self _, h⟩
          · exact ⟨by omega, h2⟩
      rw [e, Finset.card_insert_of_notMem (by simp)]
      push_cast
      rfl
    · rw [if_neg h, add_zero]
      congr 3
      refine Finset.filter_congr fun k _ => ?_
      constructor
      · rintro ⟨h1, h2⟩; exact ⟨by omega, h2⟩
      · rintro ⟨h1, h2⟩
        refine ⟨?_, h2⟩
        by_contra h3
        exact h (by rwa [show (⟨n, by omega⟩ : Fin 32) = k from Fin.ext (by simp; omega)])

theorem sel_eq (j : Fin 32) [Decidable (Q.chosen j)] : Tile.sel (F := Ideal) (t0w i) L (ix2 j τ) = if Q.chosen j then 0 else ⊥ := by
  have h : Tile.sel (F := Ideal) (t0w i) L (ix2 j τ)
      = Tile.selb (Tile.rank (Tile.bkey (t0w i) (Tile.imp (Tile.cw (t0w i) L) L.ov)) 32 le_rfl) (ix2 j τ) := rfl
  rw [h, selb_apply, rank_eq S 32 le_rfl]
  have e : (Finset.univ.filter fun k : Fin 32 => k.val < 32 ∧ Q.beats k j) = Finset.univ.filter fun k => Q.beats k j := by
    ext k; simp [k.isLt]
  rw [e]
  have e2 : ((((Finset.univ.filter fun k => Q.beats k j).card : ℝ) : EReal) < ((8 : ℝ) : EReal)) ↔ Q.chosen j := by
    rw [EReal.coe_lt_coe_iff]; unfold Query.chosen; norm_cast
  by_cases hc : Q.chosen j
  · rw [if_pos (e2.2 hc), if_pos hc]
  · rw [if_neg fun h => hc (e2.1 h), if_neg hc]

/-! ## The chosen blocks -/

theorem ebias_eq (n : ℕ) (hn : n < 8) (k : Fin 256) [Decidable (Q.chosenN ((256 * n + k.val) / 64))] :
    Tile.ebias (F := Ideal) (Tile.sel (t0w i) L) (L.et n) (ix2 k τ) = if Q.chosenN ((256 * n + k.val) / 64) then 0 else ⊥ := by
  classical
  have hb : (256 * n + k.val) / 64 < 32 := by omega
  rw [ebias_apply]
  simp only [S.et n k _ hn, sel_eq S]
  rw [Finset.sum_eq_single (⟨(256 * n + k.val) / 64, hb⟩ : Fin 32)]
  · rw [if_pos rfl, one_mul]
    have : Q.chosenN ((256 * n + k.val) / 64) ↔ Q.chosen ⟨_, hb⟩ := ⟨fun ⟨_, h⟩ => h, fun h => ⟨hb, h⟩⟩
    by_cases hc : Q.chosen ⟨_, hb⟩
    · rw [if_pos hc, if_pos (this.2 hc)]
    · rw [if_neg hc, if_neg fun h => hc (this.1 h)]
  · intro j _ hj
    rw [if_neg fun h => hj (Fin.ext h.symm), zero_mul]
  · intro h; exact absurd (Finset.mem_univ _) h

/-- The scores of a chunk are the masked scores of its keys. -/
theorem chunk_row (n : ℕ) (hn : n < 2 * ((i 1).val / 2 + 1)) (k : Fin 256) (r : Fin 4) :
    Tile.chunk (F := Ideal) (t0w i) ((i 1).val / 2 + 1) L n (ix2 k (col r τ))
      = row Q.sP (fun k => Q.ss r k / Real.log 2) (256 * n + k.val) := by
  classical
  have h7 := i1_le S
  have hn8 : n < 8 := by omega
  have hpos := pos_eq S
  have h : Tile.chunk (F := Ideal) (t0w i) ((i 1).val / 2 + 1) L n (ix2 k (col r τ))
      = Tile.sscore L.q (L.ks n) (Tile.sbias (t0w i) (Nat.ble (2 * ((i 1).val / 2 + 1)) (n + 2)) n (Tile.sel (t0w i) L) (L.et n)) (ix2 k (col r τ)) := rfl
  rw [h, sscore_apply, S.ss n k r hn8]
  have hb : Tile.sbias (F := Ideal) (t0w i) (Nat.ble (2 * ((i 1).val / 2 + 1)) (n + 2)) n (Tile.sel (t0w i) L) (L.et n) (ix2 k τ)
      = if Q.sP (256 * n + k.val) then 0 else ⊥ := by
    by_cases hl : 2 * ((i 1).val / 2 + 1) ≤ n + 2
    · rw [Nat.ble_eq_true_of_le hl, sbias_last i n hn8, ebias_eq S n hn8, ← S.pos]
      by_cases h1 : 256 * n + k.val ≤ Q.pos
      · by_cases h2 : Q.chosenN ((256 * n + k.val) / 64)
        · rw [if_pos h1, if_pos h2, if_pos (show Q.sP _ from ⟨h1, h2⟩)]
        · rw [if_pos h1, if_neg h2, if_neg fun h => h2 h.2]
      · rw [if_neg h1, if_neg fun h => h1 h.1]
    · have hf : Nat.ble (2 * ((i 1).val / 2 + 1)) (n + 2) = false := by
        rw [← Bool.not_eq_true, Nat.ble_eq]; exact hl
      rw [hf]
      have hs : Tile.sbias (F := Ideal) (t0w i) false n (Tile.sel (t0w i) L) (L.et n) (ix2 k τ)
          = Tile.ebias (Tile.sel (t0w i) L) (L.et n) (ix2 k τ) := rfl
      rw [hs, ebias_eq S n hn8]
      have h1 : 256 * n + k.val ≤ Q.pos := by omega
      by_cases h2 : Q.chosenN ((256 * n + k.val) / 64)
      · rw [if_pos h2, if_pos (show Q.sP _ from ⟨h1, h2⟩)]
      · rw [if_neg h2, if_neg fun h => h2 h.2]
  rw [hb]
  unfold row
  by_cases hp : Q.sP (256 * n + k.val)
  · rw [if_pos hp, if_pos hp, add_zero]
  · rw [if_neg hp, if_neg hp, EReal.add_bot]

/-- A row of the values with the row of ones below them. -/
def vrow (v : ℕ → Fin 64 → EReal) (d : Fin 80) (k : ℕ) : EReal := if h : d.val < 64 then v k ⟨d.val, h⟩ else 1

theorem sweep (r : Fin 4) (d : Fin 80) (n : ℕ) (hn : n < 2 * ((i 1).val / 2 + 1)) :
    Swept (256 * (n + 1)) (ew Q.sP (Q.ss r)) (vrow Q.vs d)
      (Tile.mx (F := Ideal) (Tile.chunk (t0w i) ((i 1).val / 2 + 1) L) (n + 1) (ix2 0 (col r τ)))
      (Tile.acc (F := Ideal) (Tile.chunk (t0w i) ((i 1).val / 2 + 1) L) L.vs (n + 1) (ix2 d (col r τ))) := by
  have h7 := i1_le S
  have step : ∀ n, n < 2 * ((i 1).val / 2 + 1) →
      (Swept (256 * n) (ew Q.sP (Q.ss r)) (vrow Q.vs d)
        (Tile.mx (F := Ideal) (Tile.chunk (t0w i) ((i 1).val / 2 + 1) L) n (ix2 0 (col r τ)))
        (Tile.acc (F := Ideal) (Tile.chunk (t0w i) ((i 1).val / 2 + 1) L) L.vs n (ix2 d (col r τ)))
      ∨ (256 * n = 0 ∧ Tile.mx (F := Ideal) (Tile.chunk (t0w i) ((i 1).val / 2 + 1) L) n (ix2 0 (col r τ)) = ⊥
        ∧ Tile.acc (F := Ideal) (Tile.chunk (t0w i) ((i 1).val / 2 + 1) L) L.vs n (ix2 d (col r τ)) = 0
        ∧ ∃ k : Fin 256, Q.sP (256 * n + k.val))) →
      Swept (256 * (n + 1)) (ew Q.sP (Q.ss r)) (vrow Q.vs d)
        (Tile.mx (F := Ideal) (Tile.chunk (t0w i) ((i 1).val / 2 + 1) L) (n + 1) (ix2 0 (col r τ)))
        (Tile.acc (F := Ideal) (Tile.chunk (t0w i) ((i 1).val / 2 + 1) L) L.vs (n + 1) (ix2 d (col r τ))) := by
    intro n hn h
    have h2 := swept_step 256 (256 * n) Q.sP (Q.ss r) (vrow Q.vs d) _ _
      (fun k => Tile.chunk (F := Ideal) (t0w i) ((i 1).val / 2 + 1) L n (ix2 k (col r τ))) (fun k => chunk_row S n hn k r) h
    rw [acc_succ, mx_succ, show 256 * (n + 1) = 256 * n + 256 by ring]
    have e : ∀ k : Fin 256, L.vs n (ix5 0 0 0 d k) = vrow Q.vs d (256 * n + k.val) := fun k => S.vs n k d (by omega)
    simp only [e]
    exact h2
  induction n with
  | zero => exact step 0 hn (.inr ⟨rfl, mx_zero _ _ _, acc_zero _ _ _ _, 0, by simpa using Q.sP_zero⟩)
  | succ n ih => exact step (n + 1) hn (.inl (ih (by omega)))

/-- After the last chunk: one positive factor times the weights, and the sums with the values. -/
theorem sout_eq (r : Fin 4) : ∃ c : ℝ, 0 < c ∧ ∀ d : Fin 80,
    Tile.sout (F := Ideal) (t0w i) ((i 1).val / 2 + 1) L (ix2 d (col r τ))
      = ∑ k : Fin 2048, ((c * ew (fun k : Fin 2048 => Q.sP k.val) (fun k => Q.ss r k.val) k : ℝ) : EReal) * vrow Q.vs d k.val := by
  have h7 := i1_le S
  have hpos := pos_eq S
  have hw : ∀ d : Fin 80, Swept (256 * (2 * ((i 1).val / 2 + 1))) (ew Q.sP (Q.ss r)) (vrow Q.vs d)
      (Tile.mx (F := Ideal) (Tile.chunk (t0w i) ((i 1).val / 2 + 1) L) (2 * ((i 1).val / 2 + 1)) (ix2 0 (col r τ)))
      (Tile.sout (F := Ideal) (t0w i) ((i 1).val / 2 + 1) L (ix2 d (col r τ))) :=
    fun d => sweep S r d (2 * ((i 1).val / 2) + 1) (by omega)
  obtain ⟨R, hR, -⟩ := hw 0
  refine ⟨Real.rpow 2 (-R), Real.rpow_pos_of_pos (by norm_num) _, fun d => ?_⟩
  obtain ⟨R', hR', hacc⟩ := hw d
  have : R = R' := by exact_mod_cast hR.symm.trans hR'
  subst this
  rw [hacc]
  have e := Fin.sum_univ_eq_sum_range (fun k => ((Real.rpow 2 (-R) * ew Q.sP (Q.ss r) k : ℝ) : EReal) * vrow Q.vs d k) 2048
  refine Eq.trans ?_ e.symm
  refine Finset.sum_subset (Finset.range_subset_range.2 (by omega)) fun k _ hk => ?_
  have hk' : ¬ Q.sP k := fun h => by
    have := h.1
    simp only [Finset.mem_range] at hk
    have hτ := τ.isLt
    omega
  unfold ew
  rw [if_neg hk', mul_zero, EReal.coe_zero, zero_mul]

/-! ## The window -/

theorem wscore_row (k : Fin 512) (r : Fin 4) :
    Tile.wscore (F := Ideal) (t0w i) L.q L.kw (ix2 k (col r τ))
      = row (fun k : Fin 512 => Q.wP (256 * ((i 1).val - 1) + k.val)) (fun k => Q.sw r (256 * ((i 1).val - 1) + k.val) / Real.log 2) k := by
  rw [wscore_apply, S.sw, wbias_apply, ← S.pos]
  unfold row
  by_cases h : Q.wP (256 * ((i 1).val - 1) + k.val)
  · rw [if_pos h, if_pos h, add_zero]
  · rw [if_neg h, if_neg h, EReal.add_bot]

theorem wout_eq (r : Fin 4) : ∃ c : ℝ, 0 < c ∧ ∀ d : Fin 80,
    Tile.wout (F := Ideal) (t0w i) L (ix2 d (col r τ))
      = ∑ k : Fin 512, ((c * ew (fun k : Fin 512 => Q.wP (256 * ((i 1).val - 1) + k.val))
          (fun k => Q.sw r (256 * ((i 1).val - 1) + k.val)) k : ℝ) : EReal) * vrow Q.vw d (256 * ((i 1).val - 1) + k.val) := by
  have h7 := i1_le S
  have hpos := pos_eq S
  have hτ := τ.isLt
  set P : Fin 512 → Prop := fun k : Fin 512 => Q.wP (256 * ((i 1).val - 1) + k.val) with hP
  set s : Fin 512 → ℝ := fun k => Q.sw r (256 * ((i 1).val - 1) + k.val) with hs
  have hex : ∃ k, P k := ⟨⟨Q.pos - 256 * ((i 1).val - 1), by omega⟩, by simp only [hP, Query.wP]; omega⟩
  obtain ⟨M, hM⟩ := fold_max_real (row P fun k => s k / Real.log 2) (row_ne_top _ _) (hex.imp fun k hk => row_ne_bot _ _ k hk)
  refine ⟨Real.rpow 2 (-M), Real.rpow_pos_of_pos (by norm_num) _, fun d => ?_⟩
  rw [wout_apply]
  refine Finset.sum_congr rfl fun k _ => ?_
  rw [wexp_apply]
  simp only [wscore_row S]
  rw [hM, exp2_row_sub, mul_comm, wvals_apply, S.vw _ _ _ (by omega)]
  have e : 128 * (k.val / 128) + k.val % 128 = k.val := Nat.div_add_mod _ _
  simp only [e]
  rfl

/-! ## The head -/

omit S in
/-- The gate over the sum of the weights times the weighted sum. -/
theorem quotient_eq {ι : Type} [Fintype ι] (P : ι → Prop) [DecidablePred P] (s : ι → ℝ) (h : ∃ j, P j) (c : ℝ) (hc : 0 < c)
    (g : EReal) (hg : ∃ γ : ℝ, 0 ≤ γ ∧ g = (γ : EReal)) (v : ι → EReal) (l a : EReal)
    (hl : l = ∑ k, ((c * ew P s k : ℝ) : EReal) * 1) (ha : a = ∑ k, ((c * ew P s k : ℝ) : EReal) * v k) :
    Ideal.div g l * a = g * ∑ k, ((wt P s k : ℝ) : EReal) * v k := by
  obtain ⟨γ, h0, rfl⟩ := hg
  have e : l = ((c * tot P s : ℝ) : EReal) := by
    rw [hl]; simp only [mul_one]; rw [coe_sum, tot, Finset.mul_sum]
  rw [e, ha]
  exact gated_quotient P s h c hc γ h0 v

theorem gates_eq (n : Fin 12) : Tile.gates (F := Ideal) L.gt (ix2 ⟨n.val, by omega⟩ τ) = Q.gate n := by
  rw [gates_apply, S.gt, zero_sub]; rfl

theorem head_eq (r : Fin 4) (d : Fin 64) :
    Tile.head (F := Ideal) (t0w i) ((i 1).val / 2 + 1) L r.val r.isLt (ix2 d τ) = Q.o r d := by
  have h7 := i1_le S
  have hpos := pos_eq S
  have hτ := τ.isLt
  have hlt := pos_le S
  rw [head_apply, branch_apply, branch_apply, cout_eq S]
  have g0 := gates_eq S ⟨3 * r.val, by omega⟩
  have g1 := gates_eq S ⟨3 * r.val + 1, by omega⟩
  have g2 := gates_eq S ⟨3 * r.val + 2, by omega⟩
  simp only [] at g0 g1 g2
  rw [g0, g1, g2]
  unfold Query.o
  congr 1
  · congr 1
    obtain ⟨c, hc, h⟩ := sout_eq S r
    refine quotient_eq (fun k : Fin 2048 => Q.sP k.val) (fun k => Q.ss r k.val) ⟨0, Q.sP_zero⟩ c hc _ (Q.gate_real _) _ _ _
      (h 64) ((h _).trans ?_)
    refine Finset.sum_congr rfl fun k _ => ?_
    rw [vrow, dif_pos d.isLt]
  · obtain ⟨c, hc, h⟩ := wout_eq S r
    have e := quotient_eq (fun k : Fin 512 => Q.wP (256 * ((i 1).val - 1) + k.val))
      (fun k => Q.sw r (256 * ((i 1).val - 1) + k.val))
      ⟨⟨Q.pos - 256 * ((i 1).val - 1), by omega⟩, by simp only [Query.wP]; omega⟩ c hc _ (Q.gate_real ⟨3 * r.val + 2, by omega⟩)
      (fun k => Q.vw (256 * ((i 1).val - 1) + k.val) d) _ _ (h 64) ((h ⟨d.val, by omega⟩).trans
        (Finset.sum_congr rfl fun k _ => by rw [vrow, dif_pos d.isLt]))
    rw [e]
    congr 1
    exact sum_reindex (fun k : Fin 512 => (⟨256 * ((i 1).val - 1) + k.val, by omega⟩ : Fin 2048))
      (fun a b hab => by have := congrArg Fin.val hab; simp only at this; exact Fin.ext (by omega))
      (fun k : Fin 2048 => Q.wP k.val) (fun k : Fin 512 => Q.wP (256 * ((i 1).val - 1) + k.val))
      (fun k => Q.sw r k.val) (fun k => Q.sw r (256 * ((i 1).val - 1) + k.val)) (fun _ => Iff.rfl) (fun _ _ => rfl)
      (fun k hk => ⟨⟨k.val - 256 * ((i 1).val - 1), by have := hk.1; have := hk.2; omega⟩,
        Fin.ext (by have := hk.1; have := hk.2; simp only; omega)⟩)
      (fun k : Fin 2048 => Q.vw k.val d)

end Nsa
-- ==== Proof.Made.lean ====
module

public import proofs.«01_k».proof.Proof.Spec
public import Idealize.ShloMosaic.PureOps
public import Idealize.ShloMosaic.Lib.Pointwise

@[expose] public section

/-! # What a query position sees, from the arrays -/

noncomputable section

namespace Nsa

open Idealize.ShloMosaic

/-- Every entry is a real number. -/
def AllReal {s : Shape} {φ : FTy} (x : FVec Ideal s φ) : Prop := ∀ i, (x i : EReal) ≠ ⊤ ∧ (x i : EReal) ≠ ⊥

/-- The product of a key and a query, as a real number. -/
def dot (k q : Fin 64 → EReal) : ℝ := ∑ x, (k x).toReal * (q x).toReal

theorem dot_coe (k q : Fin 64 → EReal) (hk : ∀ x, k x ≠ ⊤ ∧ k x ≠ ⊥) (hq : ∀ x, q x ≠ ⊤ ∧ q x ≠ ⊥) :
    ∑ x, k x * q x = ((dot k q : ℝ) : EReal) := by
  unfold dot
  rw [← coe_sum]
  refine Finset.sum_congr rfl fun x _ => ?_
  rw [EReal.coe_mul, EReal.coe_toReal (hk x).1 (hk x).2, EReal.coe_toReal (hq x).1 (hq x).2]

/-- The same of a query scaled before the product. -/
theorem dot_scaled (k q : Fin 64 → EReal) (hk : ∀ x, k x ≠ ⊤ ∧ k x ≠ ⊥) (hq : ∀ x, q x ≠ ⊤ ∧ q x ≠ ⊥) :
    ∑ x, k x * (q x * Ideal.div ((1 / 8 : ℝ) : EReal) ((Real.log 2 : ℝ) : EReal))
      = ((dot k q * (1 / 8) / Real.log 2 : ℝ) : EReal) := by
  have h2 : Real.log 2 ≠ 0 := (Real.log_pos one_lt_two).ne'
  rw [div_real h2]
  have e : dot k q * (1 / 8) / Real.log 2 = ∑ x, (k x).toReal * ((q x).toReal * (1 / 8 / Real.log 2)) := by
    unfold dot
    rw [Finset.sum_mul, Finset.sum_div]
    exact Finset.sum_congr rfl fun x _ => by ring
  rw [e, ← coe_sum]
  refine Finset.sum_congr rfl fun x _ => ?_
  rw [EReal.coe_mul, EReal.coe_mul, EReal.coe_toReal (hk x).1 (hk x).2, EReal.coe_toReal (hq x).1 (hq x).2]

/-- What query position `t` of batch entry `b` sees in group `g`. -/
def made (x0 : FVec Ideal ⟨4, ![8, 2048, 8, 64]⟩ .f32) (x1 x2 : FVec Ideal ⟨4, ![8, 127, 2, 64]⟩ .f32)
    (x3 x4 x5 x6 : FVec Ideal ⟨4, ![8, 2048, 2, 64]⟩ .f32) (x7 : FVec Ideal ⟨3, ![8, 2048, 24]⟩ .f32)
    (b : Fin 8) (g : Fin 2) (t : Fin 2048) : Query where
  pos := t.val
  sc r n := dot (fun x => x1 (ix4 b n g x)) (fun x => x0 (ix4 b t ⟨4 * g.val + r.val, by omega⟩ x)) * (1 / 8)
  ss r k := if h : k < 2048 then
    dot (fun x => x3 (ix4 b ⟨k, h⟩ g x)) (fun x => x0 (ix4 b t ⟨4 * g.val + r.val, by omega⟩ x)) * (1 / 8) else 0
  sw r k := if h : k < 2048 then
    dot (fun x => x5 (ix4 b ⟨k, h⟩ g x)) (fun x => x0 (ix4 b t ⟨4 * g.val + r.val, by omega⟩ x)) * (1 / 8) else 0
  vc n d := x2 (ix4 b n g d)
  vs k d := if h : k < 2048 then x4 (ix4 b ⟨k, h⟩ g d) else 0
  vw k d := if h : k < 2048 then x6 (ix4 b ⟨k, h⟩ g d) else 0
  ga n := x7 (ix3 b t ⟨12 * g.val + n.val, by omega⟩)

end Nsa
-- ==== Proof.Sees.lean ====
module

public import proofs.«01_k».proof.Proof.BlocksA
public import proofs.«01_k».proof.Proof.BlocksB
public import proofs.«01_k».proof.Proof.BlocksC
public import proofs.«01_k».proof.Proof.TileValue
public import proofs.«01_k».proof.Proof.Made

@[expose] public section

set_option maxRecDepth 16384

/-! # A group's loads hold what each query of the tile sees -/

noncomputable section

namespace Nsa

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- A tile's query position in the sequence. -/
def tpos (τ : Fin 256) : Fin 2048 := ⟨256 * (t.val % 8) + τ.val, by omega⟩

/-- What a query of the tile sees, from the arguments. -/
def seen (g : Fin 2) (τ : Fin 256) : Query :=
  made (aQ m c) (aKc m c) (aVc m c) (aKs m c) (aVs m c) (aKw m c) (aVw m c) (aG m c) (bat t) g (tpos t τ)

theorem g_q (g : Fin 2) (r : Fin 4) (τ : Fin 256) (d : Fin 64) :
    (gl m c t g).q (ix4 0 r τ d) = aQ m c (ix4 (bat t) (tpos t τ) ⟨4 * g.val + r.val, by omega⟩ d)
      * Ideal.div ((1 / 8 : ℝ) : EReal) ((Real.log 2 : ℝ) : EReal) :=
  ((read_q (ms0_0 t) (hs0_0 t) (iblk m c 0 t) g r τ d).trans (blk_q m c t _ τ d)).trans (V_q m c _ _ _ _)

theorem g_kc (g : Fin 2) (n : Fin 127) (d : Fin 64) :
    (gl m c t g).kc (ix4 0 0 n.castSucc d) = aKc m c (ix4 (bat t) n g d) := by
  refine ((read_kc (ms0_1 t) (hs0_1 t) (iblk m c 1 t) g n.castSucc d).trans (blk_kc m c t _ d)).trans ?_
  rw [V_kc m c (bat t) g n.castSucc d, dif_pos (by simp)]
  rfl

theorem g_vc (g : Fin 2) (n : Fin 127) (d : Fin 64) :
    (gl m c t g).vc (ix4 0 0 d n.castSucc) = aVc m c (ix4 (bat t) n g d) := by
  refine ((read_vc (ms0_2 t) (hs0_2 t) (iblk m c 2 t) g n.castSucc d).trans (blk_vc m c t _ d)).trans ?_
  rw [V_vc m c (bat t) g n.castSucc d, dif_pos (by simp)]
  rfl

theorem g_ks (g : Fin 2) (n : ℕ) (hn : n < 8) (k : Fin 256) (d : Fin 64) :
    (gl m c t g).ks n (ix4 0 0 k d) = aKs m c (ix4 (bat t) ⟨256 * n + k.val, by omega⟩ g d) := by
  refine ((read_ks (ms0_3 t) (hs0_3 t) (iblk m c 3 t) g n k d).trans (blk_ks m c t g _ d)).trans ?_
  rw [V_ks]
  have e : min n 7 = n := by omega
  simp only [e]

theorem g_vs (g : Fin 2) (n : ℕ) (hn : n < 8) (k : Fin 256) (d : Fin 80) :
    (gl m c t g).vs n (ix5 0 0 0 d k)
      = if h : d.val < 64 then aVs m c (ix4 (bat t) ⟨256 * n + k.val, by omega⟩ g ⟨d.val, h⟩) else 1 := by
  refine ((read_vs (ms0_4 t) (hs0_4 t) (iblk m c 4 t) g n d k).trans (blk_vs m c t g _ d k)).trans ?_
  rw [V_vs]
  have e : min n 7 = n := by omega
  simp only [e]

theorem g_kw (g : Fin 2) (k : Fin 512) (d : Fin 64) :
    (gl m c t g).kw (ix4 0 0 k d)
      = aKw m c (ix4 (bat t) ⟨256 * ((grid0.coords t 1).val - 1) + k.val, by have := i1_lt (grid0.coords t); omega⟩ g d) := by
  refine ((read_kw (ms0_5 t) (hs0_5 t) (iblk m c 5 t) (grid0.coords t) g k d).trans (blk_kw m c t g _ d)).trans ?_
  rw [V_kw]
  have e := wrow_eq (grid0.coords t)
  simp only [e]

theorem g_vw (g : Fin 2) (n : ℕ) (hn : n < 4) (k : Fin 128) (d : Fin 80) :
    (gl m c t g).vw n (ix5 0 0 0 d k)
      = if h : d.val < 64 then aVw m c (ix4 (bat t)
          ⟨256 * ((grid0.coords t 1).val - 1) + (128 * n + k.val), by have := i1_lt (grid0.coords t); omega⟩ g ⟨d.val, h⟩) else 1 := by
  refine ((read_vw (ms0_6 t) (hs0_6 t) (iblk m c 6 t) (grid0.coords t) g n d k).trans (blk_vw m c t g _ d k)).trans ?_
  rw [V_vw]
  have e1 : min n 3 = n := by omega
  have e : 128 * wblk (grid0.coords t) (min n 3) + k.val = 256 * ((grid0.coords t 1).val - 1) + (128 * n + k.val) := by
    rw [e1, wblk_eq _ n hn]; omega
  simp only [e]

theorem g_ov (g : Fin 2) (j : Fin 32) (n : Fin 127) :
    (gl m c t g).ov (ix2 j n.castSucc) = ((overlap j.val n.val : ℝ) : EReal) :=
  ((read_ov (ms0_9 t) (hs0_9 t) (iblk m c 9 t) j n.castSucc).trans (blk_ov m c t j _)).trans (V_ov m c j n)

theorem g_et (g : Fin 2) (n : ℕ) (hn : n < 8) (k : Fin 256) (j : Fin 32) :
    (gl m c t g).et n (ix3 0 k j) = if (256 * n + k.val) / 64 = j.val then (1 : EReal) else 0 := by
  refine ((read_et (ms0_10 t) (hs0_10 t) (iblk m c 10 t) n k j).trans (blk_et m c t _ k j)).trans ?_
  rw [V_et]
  have e : min n 7 = n := by omega
  simp only [e]

theorem g_gt (g : Fin 2) (n : Fin 12) (τ : Fin 256) :
    (gl m c t g).gt (ix4 0 0 ⟨n.val, by omega⟩ τ) = aG m c (ix3 (bat t) (tpos t τ) ⟨12 * g.val + n.val, by omega⟩) :=
  ((read_gt (ms0_7 t) (hs0_7 t) (iblk m c 7 t) g ⟨n.val, by omega⟩ τ).trans (blk_gt m c t g _ τ)).trans (V_gt m c (bat t) g n (tpos t τ))

theorem g_gain (g : Fin 2) (r : Fin 4) (d : Fin 64) :
    (gl m c t g).gain r.val (ix3 0 d 0) = aGn m c (ix1 ⟨64 * (4 * g.val + r.val) + d.val, by omega⟩) := by
  refine ((read_gain (ms0_8 t) (hs0_8 t) (iblk m c 8 t) g r.val d).trans (blk_gain m c t _ d)).trans ?_
  rw [V_gain]
  have e : min r.val 3 = r.val := by omega
  simp only [e]

/-- The loads hold what query `τ` sees. -/
theorem sees (hq : AllReal (φ := .f32) (aQ m c)) (hc : AllReal (φ := .f32) (aKc m c)) (hs : AllReal (φ := .f32) (aKs m c))
    (hw : AllReal (φ := .f32) (aKw m c))
    (g : Fin 2) (τ : Fin 256) : Sees (grid0.coords t) τ (gl m c t g) (seen m c t g τ) where
  pos := by
    show 256 * (t.val % 8) + τ.val = 256 * (grid0.coords t 1).val + τ.val
    rw [coord1]
  sc r n := by
    simp only [g_kc, g_q]
    exact dot_scaled (fun x => aKc m c (ix4 (bat t) n g x)) (fun x => aQ m c (ix4 (bat t) (tpos t τ) ⟨4 * g.val + r.val, by omega⟩ x))
      (fun x => hc _) (fun x => hq _)
  vc d n := g_vc m c t g n d
  ss n k r hn := by
    have hk : 256 * n + k.val < 2048 := by omega
    simp only [g_ks m c t g n hn, g_q]
    refine (dot_scaled (fun x => aKs m c (ix4 (bat t) ⟨256 * n + k.val, hk⟩ g x)) (fun x => aQ m c (ix4 (bat t) (tpos t τ) ⟨4 * g.val + r.val, by omega⟩ x))
      (fun x => hs _) (fun x => hq _)).trans ?_
    simp only [seen, made]
    rw [dif_pos hk]
  vs n k d hn := by
    have hk : 256 * n + k.val < 2048 := by omega
    rw [g_vs m c t g n hn]
    simp only [seen, made]
    simp only [dif_pos hk]
  sw k r := by
    have hk : 256 * ((grid0.coords t 1).val - 1) + k.val < 2048 := by have := i1_lt (grid0.coords t); omega
    simp only [g_kw, g_q]
    refine (dot_scaled (fun x => aKw m c (ix4 (bat t) ⟨256 * ((grid0.coords t 1).val - 1) + k.val, hk⟩ g x)) (fun x => aQ m c (ix4 (bat t) (tpos t τ) ⟨4 * g.val + r.val, by omega⟩ x))
      (fun x => hw _) (fun x => hq _)).trans ?_
    simp only [seen, made]
    rw [dif_pos hk]
  vw n k d hn := by
    have hk : 256 * ((grid0.coords t 1).val - 1) + (128 * n + k.val) < 2048 := by have := i1_lt (grid0.coords t); omega
    rw [g_vw m c t g n hn]
    simp only [seen, made]
    simp only [dif_pos hk]
  ov j n := g_ov m c t g j n
  et n k j hn := g_et m c t g n hn k j
  gt n := g_gt m c t g n τ

end Nsa
-- ==== Proof.TopK.lean ====
module

public import Idealize.ShloMosaic.Lib.SortFacts
public import Idealize.ShloMosaic.Lib.Pointwise
public import Idealize.ShloMosaic.Lib.IdealHost

@[expose] public section

/-! # The first places of a stable sort

A stable sort by falling keys puts at place `k` the entry that exactly `k` entries are ranked before, where equal
keys are ranked by their position. -/

noncomputable section

namespace Nsa

open Idealize.ShloMosaic

section
variable {n : ℕ} (key : Fin n → EReal)

/-- Entry `i` is ranked before entry `j`. -/
def before (i j : Fin n) : Prop := key j < key i ∨ (key i = key j ∧ i < j)

/-- The same, decided. -/
def beforeB (i j : Fin n) : Bool := by classical exact decide (before key i j)

/-- The greater key alone, decided. -/
def greater (i j : Fin n) : Bool := by classical exact decide (key j < key i)

theorem beforeB_iff (i j : Fin n) : beforeB key i j = true ↔ before key i j := by unfold beforeB; simp

theorem stable_of_greater (l : List (Fin n)) (hl : l.Pairwise (· < ·)) :
    stableSort (greater key) l = stableSort (beforeB key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold greater beforeB before
    refine decide_eq_decide.mpr ⟨Or.inl, ?_⟩
    rintro (h | ⟨-, h⟩)
    · exact h
    · exact absurd hab (not_lt.mpr h.le)

/-- The entry a stable sort by falling keys puts at a place. -/
def place (a : Fin n) : Fin n := sortedFrom (greater key) a

theorem place_eq (a : Fin n) : place key a = sortedFrom (beforeB key) a := by
  unfold place sortedFrom
  rw [List.get_of_eq (show sortPositions n (greater key) = sortPositions n (beforeB key) from
    stable_of_greater key _ (List.pairwise_lt_finRange n))]
  rfl

theorem place_injective : Function.Injective (place key) := sortedFrom_injective _

theorem before_total {i j : Fin n} (h : i ≠ j) : before key i j ∨ before key j i := by
  rcases lt_trichotomy (key i) (key j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem before_asymm {i j : Fin n} (h : before key i j) : ¬ before key j i := by
  rcases h with h | ⟨h, h'⟩
  · rintro (h2 | ⟨h2, -⟩)
    · exact absurd h (not_lt.mpr h2.le)
    · rw [h2] at h; exact lt_irrefl _ h
  · rintro (h2 | ⟨-, h2⟩)
    · rw [h] at h2; exact lt_irrefl _ h2
    · exact absurd h' (not_lt.mpr h2.le)

theorem before_trans {i j k : Fin n} (h : before key i j) (h' : before key j k) : before key i k := by
  rcases h with h | ⟨h, h1⟩ <;> rcases h' with h' | ⟨h', h2⟩
  · exact Or.inl (h'.trans h)
  · exact Or.inl (h' ▸ h)
  · exact Or.inl (h ▸ h')
  · exact Or.inr ⟨h.trans h', h1.trans h2⟩

theorem not_before_trans (a b c : Fin n) (h : beforeB key a b = false) (h' : beforeB key b c = false) :
    beforeB key a c = false := by
  rw [Bool.eq_false_iff, ne_eq, beforeB_iff] at h h' ⊢
  intro hac
  by_cases e : a = b
  · subst e; exact h' hac
  · rcases before_total key e with h1 | h1
    · exact h h1
    · exact h' (before_trans key h1 hac)

theorem place_lt {a b : Fin n} (h : a < b) : before key (place key a) (place key b) := by
  have hn := sortedFrom_noInversion (beforeB key) (beforeB key)
    (fun a b h => by
      rw [Bool.eq_false_iff, ne_eq, beforeB_iff]; exact before_asymm key ((beforeB_iff key a b).mp h))
    (fun a b h => h) (not_before_trans key) a b h
  rw [← place_eq, ← place_eq, Bool.eq_false_iff, ne_eq, beforeB_iff] at hn
  rcases before_total key (fun e => h.ne (place_injective key e)) with h1 | h1
  · exact h1
  · exact absurd h1 hn

theorem place_surjective : Function.Surjective (place key) := Finite.surjective_of_injective (place_injective key)

/-- Place `a` holds the entry that `a` entries are ranked before. -/
theorem card_before (a : Fin n) [DecidablePred fun i => before key i (place key a)] :
    (Finset.univ.filter fun i => before key i (place key a)).card = a.val := by
  rw [← Fin.card_Iio a]
  refine (Finset.card_bij (fun i _ => place key i) (fun i hi => ?_) (fun i _ j _ e => place_injective key e) (fun j hj => ?_)).symm
  · simp only [Finset.mem_filter, Finset.mem_univ, true_and]
    exact place_lt key (Finset.mem_Iio.mp hi)
  · obtain ⟨i, rfl⟩ := place_surjective key j
    refine ⟨i, Finset.mem_Iio.mpr ?_, rfl⟩
    have hb : before key (place key i) (place key a) := (Finset.mem_filter.mp hj).2
    rcases lt_trichotomy i a with h | h | h
    · exact h
    · subst h; exact absurd hb (fun h => before_asymm key h h)
    · exact absurd (place_lt key h) (before_asymm key hb)
end

end Nsa
-- ==== Proof.Ref.lean ====
module

public import proofs.«01_k».proof.Proof.Spec
public import proofs.«01_k».proof.Proof.HostWords
public import proofs.«01_k».proof.Proof.TileRead
public import proofs.«01_k».proof.Proof.Gen.ReferenceIdeal.Read
public import proofs.«01_k».proof.Proof.Made

@[expose] public section

set_option maxRecDepth 16384

/-! # What the reference computes, stage by stage -/

noncomputable section

namespace Nsa

open Idealize.ShloMosaic Idealize.SL.Sem
open Cert.ReferenceIdeal Cert.ReferenceIdeal.Read

variable (x0 : Vec Ideal S8x2048x8x64 .f32) (x1 x2 : Vec Ideal S8x127x2x64 .f32) (x3 x4 x5 x6 : Vec Ideal S8x2048x2x64 .f32)
  (x7 : Vec Ideal S8x2048x24 .f32)

/-- The greatest along the last of five axes. -/
theorem host_max {n0 n1 n2 n3 n4 : ℕ} (x : FVec Ideal ⟨5, ![n0, n1, n2, n3, n4]⟩ .f32)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce (FloatOps.maximumf (F := Ideal) (φ := .f32)) x (constant S_ .f32 0xFF800000#32) h hu (ix4 a b c d)
      = Finset.univ.fold max ⊥ (fun k : Fin n4 => x (ix5 a b c d k)) := by
  refine (Host.reduce_eq_fold (max : EReal → EReal → EReal) _ _ _ _ _).trans ?_
  refine (Shape.ReducesTo.fold_fiber_r5_a4 h _ max _ _).trans ?_
  rw [show (constant S_ .f32 0xFF800000#32 : FVec Ideal S_ .f32) (Shape.Idx.first hu) = ⊥ from lit_bot]
  rfl

theorem r_v17 (b : Fin 8) (g : Fin 2) (r : Fin 4) (t : Fin 2048) (n : Fin 127) :
    val_main_v17 (F := Ideal) x0 x1 (ix5 b g r t n)
      = (∑ x, x1 (ix4 b n g x) * x0 (ix4 b t ⟨4 * g.val + r.val, by omega⟩ x)) * ((1 / 8 : ℝ) : EReal) := by
  pointwise [val_main_v17, val_main_v16, val_main_v15, val_main_v14, val_main_v1, val_main_cst]
  rw [lit_eighth]
  simp only [Nat.mul_comm]

theorem r_v13 (t : Fin 2048) (n : Fin 127) :
    val_main_v13 (F := Ideal) (ix2 t n) = BitVec.ofBool (decide (16 * n.val + 31 ≤ t.val)) := by
  pointwise [val_main_v13, val_main_v12, val_main_v11, val_main_v10, val_main_v9, val_main_v8, val_main_v7, val_main_v6, val_main_v5, val_main_v4, val_main_v3, val_main_v2, val_main_v0, val_main_c, val_main_c_0, val_main_c_1]
  rw [show (16#32 : BitVec 32) = BitVec.ofNat 32 16 from rfl, show (32#32 : BitVec 32) = BitVec.ofNat 32 32 from rfl,
    show (1#32 : BitVec 32) = BitVec.ofNat 32 1 from rfl, mul_small, add_small, sub_small (by omega), sle_small (by omega) (by omega)]
  congr 2
  refine propext ⟨fun h => ?_, fun h => ?_⟩ <;> omega

theorem r_v18 (b : Fin 8) (g : Fin 2) (r : Fin 4) (t : Fin 2048) (n : Fin 127) :
    val_main_v18 (F := Ideal) x0 x1 (ix5 b g r t n) = Scalar.select (val_main_v13 (F := Ideal) (ix2 t n)) (val_main_v17 (F := Ideal) x0 x1 (ix5 b g r t n)) ⊥ := by
  unfold val_main_v18
  generalize val_main_v17 (F := Ideal) x0 x1 = y
  pointwise [val_main_call0_v0, val_main_call0_v1, val_main_call0_v2, val_main_cst_2]
  rw [show (id (constant S_ FTy.f32 4286578688#32) ix0 : Ideal .f32) = ⊥ from lit_bot]

theorem r_v25 (b : Fin 8) (g : Fin 2) (r : Fin 4) (t : Fin 2048) (n : Fin 127) :
    val_main_v25 (F := Ideal) x0 x1 (ix5 b g r t n)
      = Ideal.exp (val_main_v18 (F := Ideal) x0 x1 (ix5 b g r t n) - max ⊥ (val_main_v19 (F := Ideal) x0 x1 (ix4 b g r t))) := by
  rw [val_main_v25_apply, val_main_v24_apply, val_main_v23_apply, val_main_v22_apply, val_main_v21_apply, val_main_v20_apply, val_main_cst_4_apply]
  have e : idx_main_v22 (idx_main_v23 (ix5 b g r t n)) = ix4 b g r t := by funext a; fin_cases a <;> rfl
  rw [e]
  generalize val_main_v18 (F := Ideal) x0 x1 = y
  generalize val_main_v19 (F := Ideal) x0 x1 = z
  show Ideal.exp (_ - max (Ideal.ofBits .f32 4286578688#32) _) = _
  rw [lit_bot]

theorem r_v29 (b : Fin 8) (g : Fin 2) (r : Fin 4) (t : Fin 2048) (n : Fin 127) :
    val_main_v29 (F := Ideal) x0 x1 (ix5 b g r t n)
      = Ideal.div (val_main_v25 (F := Ideal) x0 x1 (ix5 b g r t n)) (∑ k : Fin 127, val_main_v25 (F := Ideal) x0 x1 (ix5 b g r t k)) := by
  unfold val_main_v29 val_main_v28 val_main_v27 val_main_v26
  generalize val_main_v25 (F := Ideal) x0 x1 = y
  pointwise [val_main_cst_5]

theorem r_v30 (b : Fin 8) (g : Fin 2) (r : Fin 4) (t : Fin 2048) (n : Fin 127) :
    val_main_v30 (F := Ideal) x0 x1 (ix5 b g r t n) = Scalar.select (val_main_v13 (F := Ideal) (ix2 t n)) (val_main_v29 (F := Ideal) x0 x1 (ix5 b g r t n)) 0 := by
  unfold val_main_v30
  generalize val_main_v29 (F := Ideal) x0 x1 = y
  pointwise [val_main_call1_v0, val_main_call1_v1, val_main_call1_v2, val_main_cst_6]
  rw [show (id (constant S_ FTy.f32 0#32) ix0 : Ideal .f32) = 0 from Ideal.ofBits_zero_f32]

theorem r_v33 (b : Fin 8) (g : Fin 2) (r : Fin 4) (t : Fin 2048) (d : Fin 64) :
    val_main_v33 (F := Ideal) x0 x1 x2 (ix4 b t ⟨4 * g.val + r.val, by omega⟩ d)
      = ∑ n : Fin 127, x2 (ix4 b n g d) * val_main_v30 (F := Ideal) x0 x1 (ix5 b g r t n) := by
  unfold val_main_v33 val_main_v32 val_main_v31
  generalize val_main_v30 (F := Ideal) x0 x1 = y
  pointwise

theorem overlap_read (j : Fin 32) (n : Fin 127) :
    Ideal.div (FloatOps.sitofp (F := Ideal) FTy.f32 (overlapWord j.val n.val) : EReal) ((16 : ℝ) : EReal) = ((overlap j.val n.val : ℝ) : EReal) := by
  have h3 : (FloatOps.sitofp (F := Ideal) FTy.f32 (overlapWord j.val n.val) : EReal)
      = (((min (16 * n.val + 32) (64 * (j.val + 1)) - max (16 * n.val) (64 * j.val) : ℕ) : ℝ) : EReal) := by
    rw [overlap_word j n]
    have h4 := toInt_small (a := min (16 * n.val + 32) (64 * (j.val + 1)) - max (16 * n.val) (64 * j.val)) (by omega)
    show (((BitVec.ofNat 32 _).toInt : ℝ) : EReal) = _
    rw [h4]; norm_cast
  rw [h3, Ideal.div_coe (by norm_num), ← EReal.coe_mul]
  unfold overlap
  congr 1; ring

theorem r_v63 (b : Fin 8) (g : Fin 2) (t : Fin 2048) (j : Fin 32) :
    val_main_v63 (F := Ideal) x0 x1 (ix4 b g t j)
      = ∑ n : Fin 127, (∑ r : Fin 4, val_main_v30 (F := Ideal) x0 x1 (ix5 b g r t n)) * ((overlap j.val n.val : ℝ) : EReal) := by
  unfold val_main_v63 val_main_v62
  generalize val_main_v30 (F := Ideal) x0 x1 = y
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_15, val_main_cst_14, val_main_c_7, val_main_c_8, val_main_c_9, val_main_c_10, val_main_c_11, val_main_c_12, val_main_c_13]
  refine Finset.sum_congr rfl fun n _ => congrArg _ ?_
  rw [lit_sixteen]
  exact overlap_read j n

theorem r_v76 (t : Fin 2048) : val_main_v76 (F := Ideal) (ix1 t) = BitVec.ofNat 32 (t.val / 64) := by
  pointwise [val_main_v76, val_main_call2_v0, val_main_call2_v1, val_main_call2_v2, val_main_call2_v3, val_main_call2_v4, val_main_call2_v5, val_main_call2_v6, val_main_call2_v7, val_main_call2_v8, val_main_call2_c, val_main_call2_v9, val_main_call2_v10, val_main_call2_v11, val_main_call2_c_0, val_main_call2_v12, val_main_call2_v13, val_main_v0, val_main_c_18]
  simp only [show (id (constantI S_ 32 64#32) ix0 : BitVec 32) = 64#32 from rfl]
  revert t
  decide +kernel

theorem r_v84 (b : Fin 8) (g : Fin 2) (t : Fin 2048) (j : Fin 32) :
    val_main_v84 (F := Ideal) x0 x1 (ix4 b g t j)
      = if j.val = 0 ∨ j.val = t.val / 64 then ((10000 : ℝ) : EReal)
        else if 64 * j.val ≤ t.val then val_main_v63 (F := Ideal) x0 x1 (ix4 b g t j) else ((-10000 : ℝ) : EReal) := by
  have h76 : val_main_v76 (F := Ideal) (ix1 t) = BitVec.ofNat 32 (t.val / 64) := r_v76 t
  unfold val_main_v84 val_main_v83
  generalize val_main_v63 (F := Ideal) x0 x1 = y
  pointwise [val_main_call4_v0, val_main_call4_v1, val_main_call4_v2, val_main_call3_v0, val_main_call3_v1, val_main_call3_v2, val_main_v82, val_main_v81, val_main_v80, val_main_v79, val_main_v78, val_main_v77, val_main_v75, val_main_v74, val_main_v73, val_main_v72, val_main_v71, val_main_v70, val_main_v69, val_main_v68, val_main_v67, val_main_v66, val_main_v65, val_main_v64, val_main_v0, val_main_c_16, val_main_c_17, val_main_cst_19, val_main_cst_20]
  rw [h76, show (64#32 : BitVec 32) = BitVec.ofNat 32 64 from rfl, show (0#32 : BitVec 32) = BitVec.ofNat 32 0 from rfl, mul_small,
    sle_small (by omega) (by omega), eq_small (by omega) (by omega), eq_small (by omega) (by omega), or_bool, select_bool, select_bool]
  rw [show (id (constant S_ FTy.f32 1176256512#32) ix0 : Ideal .f32) = ((10000 : ℝ) : EReal) from lit_force,
    show (id (constant S_ FTy.f32 3323740160#32) ix0 : Ideal .f32) = ((-10000 : ℝ) : EReal) from lit_never]
  simp only [Bool.or_eq_true, decide_eq_true_eq, Nat.mul_comm]

theorem r_v86 (b : Fin 8) (g : Fin 2) (a : Fin 32) (k d : Fin 64) :
    val_main_v86 (F := Ideal) x3 (ix5 b g a k d) = x3 (ix4 b ⟨64 * a.val + k.val, by omega⟩ g d) := by
  pointwise [val_main_v86, val_main_v85]
  simp only [Nat.mul_comm]

theorem gather_read (x : FVec Ideal S8x2x32x64x64 .f32) (y : IVec S8x2x2048x8x3 32) (b : Fin 8) (g : Fin 2) (t : Fin 2048) (a : Fin 8) (k d : Fin 64) (w : Fin 32)
    (h0 : y (ix5 b g t a 0) = BitVec.ofNat 32 b.val) (h1 : y (ix5 b g t a 1) = BitVec.ofNat 32 g.val) (h2 : y (ix5 b g t a 2) = BitVec.ofNat 32 w.val) :
    Host.gather gather_S8x2x32x64x64_S8x2x2048x8x3_S8x2x2048x8x64x64_45_012_n_n_012_4_1116464 x y (ix6 b g t a k d) = x (ix5 b g w k d) := by
  have e : ∀ p : Fin 3, gather_S8x2x32x64x64_S8x2x2048x8x3_S8x2x2048x8x64x64_45_012_n_n_012_4_1116464.siIdx (ix6 b g t a k d) p = ix5 b g t a p := by
    intro p; funext c; fin_cases c <;> rfl
  refine congrArg x (funext fun c => Fin.ext ?_)
  have ht : ∀ n : ℕ, n < 2 ^ 30 → (BitVec.ofNat 32 n).toInt.toNat = n := fun n hn => by rw [toInt_small hn]; rfl
  fin_cases c
  · show min (y (gather_S8x2x32x64x64_S8x2x2048x8x3_S8x2x2048x8x64x64_45_012_n_n_012_4_1116464.siIdx (ix6 b g t a k d) (0 : Fin 3))).toInt.toNat 7 + 0 + 0 = b.val
    rw [e, h0, ht _ (by omega)]; omega
  · show min (y (gather_S8x2x32x64x64_S8x2x2048x8x3_S8x2x2048x8x64x64_45_012_n_n_012_4_1116464.siIdx (ix6 b g t a k d) (1 : Fin 3))).toInt.toNat 1 + 0 + 0 = g.val
    rw [e, h1, ht _ (by omega)]; omega
  · show min (y (gather_S8x2x32x64x64_S8x2x2048x8x3_S8x2x2048x8x64x64_45_012_n_n_012_4_1116464.siIdx (ix6 b g t a k d) (2 : Fin 3))).toInt.toNat 31 + 0 + 0 = w.val
    rw [e, h2, ht _ (by omega)]; omega
  · show 0 + 0 + k.val = k.val; omega
  · show 0 + 0 + d.val = d.val; omega

theorem r_v113 (y : IVec S8x2x2048x8 32) (hy : val_main_indices (F := Ideal) x0 x1 = y) (σ : Fin 8 → Fin 32) (b : Fin 8) (g : Fin 2) (t : Fin 2048) (a : Fin 8)
    (hσ : y (ix4 b g t a) = BitVec.ofNat 32 (σ a).val) :
    val_main_v113 (F := Ideal) x0 x1 (ix5 b g t a 0) = BitVec.ofNat 32 b.val
      ∧ val_main_v113 (F := Ideal) x0 x1 (ix5 b g t a 1) = BitVec.ofNat 32 g.val
      ∧ val_main_v113 (F := Ideal) x0 x1 (ix5 b g t a 2) = BitVec.ofNat 32 (σ a).val := by
  unfold val_main_v113 val_main_v112 val_main_v107 val_main_v106 val_main_v104
  rw [hy]
  have h0 : ∀ n : ℕ, n < 2 ^ 30 → IntOp.cmpi CmpIPredicate.slt (BitVec.ofNat 32 n) 0#32 = BitVec.ofBool false := fun n hn => by
    rw [show (0#32 : BitVec 32) = BitVec.ofNat 32 0 from rfl, slt_small hn (by norm_num)]; simp
  refine ⟨?_, ?_, ?_⟩
  · pointwise [val_main_v111, val_main_v110, val_main_v109, val_main_v108, val_main_v105, val_main_v103, val_main_v102, val_main_v101, val_main_v100, val_main_v99, val_main_v98, val_main_v97, val_main_v96, val_main_v95, val_main_v94, val_main_v93, val_main_v92, val_main_v91, val_main_v90, val_main_v89, val_main_c_21, val_main_c_22, val_main_c_23, val_main_c_24, val_main_c_25, val_main_c_26]
    rw [h0 _ (by omega), select_bool]; simp
  · pointwise [val_main_v111, val_main_v110, val_main_v109, val_main_v108, val_main_v105, val_main_v103, val_main_v102, val_main_v101, val_main_v100, val_main_v99, val_main_v98, val_main_v97, val_main_v96, val_main_v95, val_main_v94, val_main_v93, val_main_v92, val_main_v91, val_main_v90, val_main_v89, val_main_c_21, val_main_c_22, val_main_c_23, val_main_c_24, val_main_c_25, val_main_c_26]
    rw [h0 _ (by omega), select_bool]; simp
  · pointwise [val_main_v111, val_main_v110, val_main_v109, val_main_v108, val_main_v105, val_main_v103, val_main_v102, val_main_v101, val_main_v100, val_main_v99, val_main_v98, val_main_v97, val_main_v96, val_main_v95, val_main_v94, val_main_v93, val_main_v92, val_main_v91, val_main_v90, val_main_v89, val_main_c_21, val_main_c_22, val_main_c_23, val_main_c_24, val_main_c_25, val_main_c_26]
    rw [hσ, h0 _ (by omega), select_bool]; simp

theorem r_v149 (b : Fin 8) (g : Fin 2) (t : Fin 2048) (a : Fin 8) (k : Fin 64) (d : Fin 64) :
    val_main_v149 (F := Ideal) x0 x1 x3 (ix5 b g t ⟨64 * a.val + k.val, by omega⟩ d) = val_main_v114 (F := Ideal) x0 x1 x3 (ix6 b g t a k d) := by
  unfold val_main_v149
  generalize val_main_v114 (F := Ideal) x0 x1 x3 = y
  pointwise

end Nsa
-- ==== Proof.RefSel.lean ====
module

public import proofs.«01_k».proof.Proof.Spec
public import proofs.«01_k».proof.Proof.HostWords
public import proofs.«01_k».proof.Proof.TileRead
public import proofs.«01_k».proof.Proof.Gen.ReferenceIdeal.Read
public import proofs.«01_k».proof.Proof.Made
public import proofs.«01_k».proof.Proof.TopK
public import proofs.«01_k».proof.Proof.Ref

@[expose] public section

set_option maxRecDepth 16384

/-! # What the reference computes, stage by stage -/

noncomputable section

namespace Nsa

open Idealize.ShloMosaic Idealize.SL.Sem
open Cert.ReferenceIdeal Cert.ReferenceIdeal.Read

variable (x0 : Vec Ideal S8x2048x8x64 .f32) (x1 x2 : Vec Ideal S8x127x2x64 .f32) (x3 x4 x5 x6 : Vec Ideal S8x2048x2x64 .f32)
  (x7 : Vec Ideal S8x2048x24 .f32) (x8 : Vec Ideal S512 .f32)

theorem r_v88 (b : Fin 8) (g : Fin 2) (a : Fin 32) (k d : Fin 64) :
    val_main_v88 (F := Ideal) x4 (ix5 b g a k d) = x4 (ix4 b ⟨64 * a.val + k.val, by omega⟩ g d) := by
  pointwise [val_main_v88, val_main_v87]
  simp only [Nat.mul_comm]

theorem r_v150 (b : Fin 8) (g : Fin 2) (t : Fin 2048) (a : Fin 8) (k : Fin 64) (d : Fin 64) :
    val_main_v150 (F := Ideal) x0 x1 x4 (ix5 b g t ⟨64 * a.val + k.val, by omega⟩ d) = val_main_v136 (F := Ideal) x0 x1 x4 (ix6 b g t a k d) := by
  unfold val_main_v150
  generalize val_main_v136 (F := Ideal) x0 x1 x4 = y
  pointwise

theorem r_v151 (y : IVec S8x2x2048x8 32) (hy : val_main_indices (F := Ideal) x0 x1 = y) (w : Fin 32) (b : Fin 8) (g : Fin 2) (t : Fin 2048) (a : Fin 8) (k : Fin 64)
    (hw : y (ix4 b g t a) = BitVec.ofNat 32 w.val) :
    val_main_v151 (F := Ideal) x0 x1 (ix4 b g t ⟨64 * a.val + k.val, by omega⟩)
      = BitVec.ofBool (decide (64 * w.val + k.val ≤ t.val)) := by
  unfold val_main_v151 val_main_v148 val_main_v144 val_main_v142 val_main_v139 val_main_v137
  rw [hy]
  pointwise [val_main_v147, val_main_v146, val_main_v145, val_main_v143, val_main_v141, val_main_v140, val_main_v138, val_main_c_33, val_main_v0]
  rw [hw, show (64#32 : BitVec 32) = BitVec.ofNat 32 64 from rfl, mul_small, add_small, sle_small (by omega) (by omega)]
  simp only [Nat.mul_comm]

theorem r_v155 (b : Fin 8) (g : Fin 2) (r : Fin 4) (t : Fin 2048) (j : Fin 512) :
    val_main_v155 (F := Ideal) x0 x1 x3 (ix5 b g r t j)
      = (∑ x, val_main_v149 (F := Ideal) x0 x1 x3 (ix5 b g t j x) * x0 (ix4 b t ⟨4 * g.val + r.val, by omega⟩ x)) * ((1 / 8 : ℝ) : EReal) := by
  unfold val_main_v155 val_main_v153 val_main_v152
  generalize val_main_v149 (F := Ideal) x0 x1 x3 = y
  pointwise [val_main_v154, val_main_cst_34, val_main_v1]
  rw [lit_eighth]
  simp only [Nat.mul_comm]

theorem r_v157 (b : Fin 8) (g : Fin 2) (r : Fin 4) (t : Fin 2048) (j : Fin 512) :
    val_main_v157 (F := Ideal) x0 x1 x3 (ix5 b g r t j) = Scalar.select (val_main_v151 (F := Ideal) x0 x1 (ix4 b g t j)) (val_main_v155 (F := Ideal) x0 x1 x3 (ix5 b g r t j)) ⊥ := by
  unfold val_main_v157 val_main_call5_v1 val_main_v156
  generalize val_main_v155 (F := Ideal) x0 x1 x3 = y
  generalize val_main_v151 (F := Ideal) x0 x1 = z
  pointwise [val_main_call5_v0, val_main_call5_v2, val_main_cst_35]
  rw [show (id (constant S_ FTy.f32 4286578688#32) ix0 : Ideal .f32) = ⊥ from lit_bot]

theorem r_v164 (b : Fin 8) (g : Fin 2) (r : Fin 4) (t : Fin 2048) (n : Fin 512) :
    val_main_v164 (F := Ideal) x0 x1 x3 (ix5 b g r t n)
      = Ideal.exp (val_main_v157 (F := Ideal) x0 x1 x3 (ix5 b g r t n) - max ⊥ (val_main_v158 (F := Ideal) x0 x1 x3 (ix4 b g r t))) := by
  rw [val_main_v164_apply, val_main_v163_apply, val_main_v162_apply, val_main_v161_apply, val_main_v160_apply, val_main_v159_apply, val_main_cst_37_apply]
  have e : idx_main_v161 (idx_main_v162 (ix5 b g r t n)) = ix4 b g r t := by funext a; fin_cases a <;> rfl
  rw [e]
  generalize val_main_v157 (F := Ideal) x0 x1 x3 = y
  generalize val_main_v158 (F := Ideal) x0 x1 x3 = z
  show Ideal.exp (_ - max (Ideal.ofBits .f32 4286578688#32) _) = _
  rw [lit_bot]

theorem r_v168 (b : Fin 8) (g : Fin 2) (r : Fin 4) (t : Fin 2048) (n : Fin 512) :
    val_main_v168 (F := Ideal) x0 x1 x3 (ix5 b g r t n)
      = Ideal.div (val_main_v164 (F := Ideal) x0 x1 x3 (ix5 b g r t n)) (∑ k : Fin 512, val_main_v164 (F := Ideal) x0 x1 x3 (ix5 b g r t k)) := by
  unfold val_main_v168 val_main_v167 val_main_v166 val_main_v165
  generalize val_main_v164 (F := Ideal) x0 x1 x3 = y
  pointwise [val_main_cst_38]

theorem r_v169 (b : Fin 8) (g : Fin 2) (r : Fin 4) (t : Fin 2048) (j : Fin 512) :
    val_main_v169 (F := Ideal) x0 x1 x3 (ix5 b g r t j) = Scalar.select (val_main_v151 (F := Ideal) x0 x1 (ix4 b g t j)) (val_main_v168 (F := Ideal) x0 x1 x3 (ix5 b g r t j)) 0 := by
  unfold val_main_v169 val_main_call6_v1 val_main_v156
  generalize val_main_v168 (F := Ideal) x0 x1 x3 = y
  generalize val_main_v151 (F := Ideal) x0 x1 = z
  pointwise [val_main_call6_v0, val_main_call6_v2, val_main_cst_39]
  rw [show (id (constant S_ FTy.f32 0#32) ix0 : Ideal .f32) = 0 from Ideal.ofBits_zero_f32]

theorem r_v171 (b : Fin 8) (g : Fin 2) (r : Fin 4) (t : Fin 2048) (d : Fin 64) :
    val_main_v171 (F := Ideal) x0 x1 x3 x4 (ix4 b t ⟨4 * g.val + r.val, by omega⟩ d)
      = ∑ j : Fin 512, val_main_v169 (F := Ideal) x0 x1 x3 (ix5 b g r t j) * val_main_v150 (F := Ideal) x0 x1 x4 (ix5 b g t j d) := by
  unfold val_main_v171 val_main_v170
  generalize val_main_v169 (F := Ideal) x0 x1 x3 = y
  generalize val_main_v150 (F := Ideal) x0 x1 x4 = z
  pointwise

theorem r_v184 (t k : Fin 2048) :
    val_main_v184 (F := Ideal) (ix2 t k) = BitVec.ofBool (decide (k.val ≤ t.val ∧ t.val < k.val + 256)) := by
  pointwise [val_main_v184, val_main_v183, val_main_v182, val_main_v181, val_main_v180, val_main_v179, val_main_v178, val_main_v177, val_main_v176, val_main_v175, val_main_v174, val_main_v173, val_main_v172, val_main_v0, val_main_c_40]
  rw [sle_small (by omega) (by omega)]
  by_cases h : k.val ≤ t.val
  · rw [show (256#32 : BitVec 32) = BitVec.ofNat 32 256 from rfl, sub_small (by omega), slt_small (by omega) (by omega), and_bool]
    simp only [h, decide_true, Bool.true_and, true_and]
    congr 2
    refine propext ⟨fun h' => ?_, fun h' => ?_⟩ <;> omega
  · rw [decide_eq_false h, decide_eq_false (fun h' => h h'.1)]
    exact BitVec.zero_and

theorem r_v188 (b : Fin 8) (g : Fin 2) (r : Fin 4) (t : Fin 2048) (n : Fin 2048) :
    val_main_v188 (F := Ideal) x0 x5 (ix5 b g r t n)
      = (∑ x, x5 (ix4 b n g x) * x0 (ix4 b t ⟨4 * g.val + r.val, by omega⟩ x)) * ((1 / 8 : ℝ) : EReal) := by
  pointwise [val_main_v188, val_main_v187, val_main_v186, val_main_v185, val_main_v1, val_main_cst_41]
  rw [lit_eighth]
  simp only [Nat.mul_comm]

theorem r_v189 (b : Fin 8) (g : Fin 2) (r : Fin 4) (t : Fin 2048) (j : Fin 2048) :
    val_main_v189 (F := Ideal) x0 x5 (ix5 b g r t j) = Scalar.select (val_main_v184 (F := Ideal) (ix2 t j)) (val_main_v188 (F := Ideal) x0 x5 (ix5 b g r t j)) ⊥ := by
  unfold val_main_v189 val_main_call7_v1
  generalize val_main_v188 (F := Ideal) x0 x5 = y
  generalize val_main_v184 (F := Ideal) = z
  pointwise [val_main_call7_v0, val_main_call7_v2, val_main_cst_42]
  rw [show (id (constant S_ FTy.f32 4286578688#32) ix0 : Ideal .f32) = ⊥ from lit_bot]

theorem r_v196 (b : Fin 8) (g : Fin 2) (r : Fin 4) (t : Fin 2048) (n : Fin 2048) :
    val_main_v196 (F := Ideal) x0 x5 (ix5 b g r t n)
      = Ideal.exp (val_main_v189 (F := Ideal) x0 x5 (ix5 b g r t n) - max ⊥ (val_main_v190 (F := Ideal) x0 x5 (ix4 b g r t))) := by
  rw [val_main_v196_apply, val_main_v195_apply, val_main_v194_apply, val_main_v193_apply, val_main_v192_apply, val_main_v191_apply, val_main_cst_44_apply]
  have e : idx_main_v193 (idx_main_v194 (ix5 b g r t n)) = ix4 b g r t := by funext a; fin_cases a <;> rfl
  rw [e]
  generalize val_main_v189 (F := Ideal) x0 x5 = y
  generalize val_main_v190 (F := Ideal) x0 x5 = z
  show Ideal.exp (_ - max (Ideal.ofBits .f32 4286578688#32) _) = _
  rw [lit_bot]

theorem r_v200 (b : Fin 8) (g : Fin 2) (r : Fin 4) (t : Fin 2048) (n : Fin 2048) :
    val_main_v200 (F := Ideal) x0 x5 (ix5 b g r t n)
      = Ideal.div (val_main_v196 (F := Ideal) x0 x5 (ix5 b g r t n)) (∑ k : Fin 2048, val_main_v196 (F := Ideal) x0 x5 (ix5 b g r t k)) := by
  unfold val_main_v200 val_main_v199 val_main_v198 val_main_v197
  generalize val_main_v196 (F := Ideal) x0 x5 = y
  pointwise [val_main_cst_45]

theorem r_v201 (b : Fin 8) (g : Fin 2) (r : Fin 4) (t : Fin 2048) (j : Fin 2048) :
    val_main_v201 (F := Ideal) x0 x5 (ix5 b g r t j) = Scalar.select (val_main_v184 (F := Ideal) (ix2 t j)) (val_main_v200 (F := Ideal) x0 x5 (ix5 b g r t j)) 0 := by
  unfold val_main_v201 val_main_call8_v1
  generalize val_main_v200 (F := Ideal) x0 x5 = y
  generalize val_main_v184 (F := Ideal) = z
  pointwise [val_main_call8_v0, val_main_call8_v2, val_main_cst_46]
  rw [show (id (constant S_ FTy.f32 0#32) ix0 : Ideal .f32) = 0 from Ideal.ofBits_zero_f32]

theorem r_v204 (b : Fin 8) (g : Fin 2) (r : Fin 4) (t : Fin 2048) (d : Fin 64) :
    val_main_v204 (F := Ideal) x0 x5 x6 (ix4 b t ⟨4 * g.val + r.val, by omega⟩ d)
      = ∑ n : Fin 2048, x6 (ix4 b n g d) * val_main_v201 (F := Ideal) x0 x5 (ix5 b g r t n) := by
  unfold val_main_v204 val_main_v203 val_main_v202
  generalize val_main_v201 (F := Ideal) x0 x5 = y
  pointwise

theorem r_v211 (b : Fin 8) (t : Fin 2048) (h : Fin 8) (n : Fin 3) :
    val_main_v211 (F := Ideal) x7 (ix4 b t h n) = Ideal.div 1 (1 + Ideal.exp (-(x7 (ix3 b t ⟨3 * h.val + n.val, by omega⟩)))) := by
  pointwise [val_main_v211, val_main_v210, val_main_v209, val_main_v208, val_main_v207, val_main_v206, val_main_v205, val_main_cst_47, val_main_cst_48]
  simp only [Nat.mul_comm]

theorem r_v222 (b : Fin 8) (t : Fin 2048) (h : Fin 8) (d : Fin 64) :
    val_main_v222 (F := Ideal) x0 x1 x2 x3 x4 x5 x6 x7 (ix4 b t h d)
      = val_main_v211 (F := Ideal) x7 (ix4 b t h 0) * val_main_v33 (F := Ideal) x0 x1 x2 (ix4 b t h d)
        + val_main_v211 (F := Ideal) x7 (ix4 b t h 1) * val_main_v171 (F := Ideal) x0 x1 x3 x4 (ix4 b t h d)
        + val_main_v211 (F := Ideal) x7 (ix4 b t h 2) * val_main_v204 (F := Ideal) x0 x5 x6 (ix4 b t h d) := by
  unfold val_main_v222 val_main_v221 val_main_v220 val_main_v219 val_main_v218 val_main_v217 val_main_v216 val_main_v215 val_main_v214 val_main_v213 val_main_v212
  generalize val_main_v33 (F := Ideal) x0 x1 x2 = y
  generalize val_main_v171 (F := Ideal) x0 x1 x3 x4 = z
  generalize val_main_v204 (F := Ideal) x0 x5 x6 = w
  generalize val_main_v211 (F := Ideal) x7 = u
  pointwise

theorem r_v135 (y : IVec S8x2x2048x8 32) (hy : val_main_indices (F := Ideal) x0 x1 = y) (σ : Fin 8 → Fin 32) (b : Fin 8) (g : Fin 2) (t : Fin 2048) (a : Fin 8)
    (hσ : y (ix4 b g t a) = BitVec.ofNat 32 (σ a).val) :
    val_main_v135 (F := Ideal) x0 x1 (ix5 b g t a 0) = BitVec.ofNat 32 b.val
      ∧ val_main_v135 (F := Ideal) x0 x1 (ix5 b g t a 1) = BitVec.ofNat 32 g.val
      ∧ val_main_v135 (F := Ideal) x0 x1 (ix5 b g t a 2) = BitVec.ofNat 32 (σ a).val := by
  unfold val_main_v135 val_main_v134 val_main_v129 val_main_v128 val_main_v126
  rw [hy]
  have h0 : ∀ n : ℕ, n < 2 ^ 30 → IntOp.cmpi CmpIPredicate.slt (BitVec.ofNat 32 n) 0#32 = BitVec.ofBool false := fun n hn => by
    rw [show (0#32 : BitVec 32) = BitVec.ofNat 32 0 from rfl, slt_small hn (by norm_num)]; simp
  refine ⟨?_, ?_, ?_⟩
  · pointwise [val_main_v92, val_main_v91, val_main_v90, val_main_v89, val_main_v133, val_main_v132, val_main_v131, val_main_v130, val_main_v127, val_main_v125, val_main_v124, val_main_v123, val_main_v122, val_main_v121, val_main_v120, val_main_v119, val_main_v118, val_main_v117, val_main_v116, val_main_v115, val_main_v114, val_main_v113, val_main_v112, val_main_v111, val_main_c_27, val_main_c_28, val_main_c_29, val_main_c_30, val_main_c_31, val_main_c_32]
    rw [h0 _ (by omega), select_bool]; simp
  · pointwise [val_main_v92, val_main_v91, val_main_v90, val_main_v89, val_main_v133, val_main_v132, val_main_v131, val_main_v130, val_main_v127, val_main_v125, val_main_v124, val_main_v123, val_main_v122, val_main_v121, val_main_v120, val_main_v119, val_main_v118, val_main_v117, val_main_v116, val_main_v115, val_main_v114, val_main_v113, val_main_v112, val_main_v111, val_main_c_27, val_main_c_28, val_main_c_29, val_main_c_30, val_main_c_31, val_main_c_32]
    rw [h0 _ (by omega), select_bool]; simp
  · pointwise [val_main_v92, val_main_v91, val_main_v90, val_main_v89, val_main_v133, val_main_v132, val_main_v131, val_main_v130, val_main_v127, val_main_v125, val_main_v124, val_main_v123, val_main_v122, val_main_v121, val_main_v120, val_main_v119, val_main_v118, val_main_v117, val_main_v116, val_main_v115, val_main_v114, val_main_v113, val_main_v112, val_main_v111, val_main_c_27, val_main_c_28, val_main_c_29, val_main_c_30, val_main_c_31, val_main_c_32]
    rw [hσ, h0 _ (by omega), select_bool]; simp

theorem r_v238 (b : Fin 8) (t : Fin 2048) (h : Fin 8) (d : Fin 64) :
    val_main_v238 (F := Ideal) x0 x1 x2 x3 x4 x5 x6 x7 x8 (ix2 ⟨2048 * b.val + t.val, by omega⟩ ⟨64 * h.val + d.val, by omega⟩)
      = val_main_v222 (F := Ideal) x0 x1 x2 x3 x4 x5 x6 x7 (ix4 b t h d)
        * Ideal.rsqrt (Ideal.div (∑ x, val_main_v222 (F := Ideal) x0 x1 x2 x3 x4 x5 x6 x7 (ix4 b t h x) * val_main_v222 (F := Ideal) x0 x1 x2 x3 x4 x5 x6 x7 (ix4 b t h x))
          (Ideal.ofBits .f32 0x42800000#32) + Ideal.ofBits .f32 0x358637BD#32) * x8 (ix1 ⟨64 * h.val + d.val, by omega⟩) := by
  unfold val_main_v238 val_main_v237 val_main_v236 val_main_v233 val_main_v232 val_main_v231 val_main_v230 val_main_v229 val_main_v227 val_main_v225 val_main_v224 val_main_v223
  generalize val_main_v222 (F := Ideal) x0 x1 x2 x3 x4 x5 x6 x7 = y
  pointwise [val_main_v235, val_main_v234, val_main_v228, val_main_v226, val_main_cst_49, val_main_cst_50, val_main_cst_51]

/-- The positions the first entries of a sorted fiber come from. -/
theorem topK_snd {s : Shape} {α : Type} (t : Shape) (d : ℕ) (hd : d < s.rank) (gt : α → α → BitVec 1) (x : s.Idx → α) (h : s.Slices (fun _ => 0) t)
    (j : t.Idx) (J : s.Idx) (hJ : ∀ c, (J c).val = (j (c.cast h.1.symm)).val) :
    (Host.topK t d gt x h).2 j
      = BitVec.ofNat 32 (sortedFrom (fun k k' => gt (x (J.along ⟨d, hd⟩ k)) (x (J.along ⟨d, hd⟩ k')) == 1#1) (J ⟨d, hd⟩)).val := by
  have hJ' : (fun c => ⟨0 + (j (c.cast h.1.symm)).val, Nat.lt_of_lt_of_le (Nat.add_lt_add_left (j _).isLt _) (h.2 c)⟩ : s.Idx) = J :=
    funext fun c => Fin.ext ((Nat.zero_add _).trans (hJ c).symm)
  unfold Host.topK Host.sort2 extractStridedSlice
  simp only [dif_pos hd]
  rw [hJ']
  unfold iotaInDim
  refine (congrArg (fun f : Fin (s.size ⟨d, hd⟩) => BitVec.ofNat 32 f.val) (Function.update_self (⟨d, hd⟩ : Fin s.rank) (sortedFrom _ _) J)).trans ?_
  refine congrArg (fun q => BitVec.ofNat 32 (sortedFrom _ q).val) (Fin.ext ?_)
  exact (Nat.zero_add _).trans (hJ ⟨d, hd⟩).symm

theorem r_top (b : Fin 8) (g : Fin 2) (t : Fin 2048) (a : Fin 8) :
    val_main_indices (F := Ideal) x0 x1 (ix4 b g t a)
      = BitVec.ofNat 32 (place (fun j : Fin 32 => (val_main_v84 (F := Ideal) x0 x1 (ix4 b g t j) : EReal)) (a.castLE (by omega))).val := by
  unfold val_main_indices place
  generalize val_main_v84 (F := Ideal) x0 x1 = x
  have hg : ∀ k k' : Fin 32, (FloatOps.cmpfTotal (F := Ideal) (φ := .f32) .gt (x (ix4 b g t k)) (x (ix4 b g t k')) == 1#1)
      = greater (fun j : Fin 32 => (x (ix4 b g t j) : EReal)) k k' := by
    intro k k'
    show (Ideal.cmp .ogt (x (ix4 b g t k)) (x (ix4 b g t k')) == 1#1) = _
    unfold greater Ideal.cmp
    by_cases h : (x (ix4 b g t k') : EReal) < x (ix4 b g t k) <;> simp [h]
  have h3 : 3 < S8x2x2048x32.rank := by decide
  have e : ∀ k : Fin 32, Shape.Idx.along (s := S8x2x2048x32) (ix4 b g t (a.castLE (by omega))) ⟨3, h3⟩ k = ix4 b g t k := by
    intro k
    funext c
    fin_cases c <;> rfl
  refine (topK_snd (s := S8x2x2048x32) S8x2x2048x8 3 (by decide) _ x _ (ix4 b g t a) (ix4 b g t (a.castLE (by omega))) (fun c => by fin_cases c <;> rfl)).trans ?_
  refine congrArg (fun f : Fin 32 → Fin 32 → Bool => BitVec.ofNat 32 (sortedFrom f (a.castLE (by omega))).val) ?_
  funext k k'
  rw [← hg k k']
  rw [e k, e k']

end Nsa
-- ==== Proof.RefValue.lean ====
module

public import proofs.«01_k».proof.Proof.RefSel

@[expose] public section

set_option maxRecDepth 16384

/-! # What the reference computes is the attention of each query -/

noncomputable section

namespace Nsa

open Idealize.ShloMosaic Idealize.SL.Sem
open Cert.ReferenceIdeal Cert.ReferenceIdeal.Read

/-- The reference's masked softmax gives the weights. -/
theorem softmax_eq {n : ℕ} (P : Fin n → Prop) [DecidablePred P] (s : Fin n → ℝ) (m : Fin n → BitVec 1)
    (hm : ∀ j, m j = BitVec.ofBool (decide (P j))) (x y e d p : Fin n → EReal) (M : EReal) (hx : ∀ j, P j → x j = ((s j : ℝ) : EReal))
    (hy : ∀ j, y j = Scalar.select (m j) (x j) ⊥) (hM : M = Finset.univ.fold max ⊥ y)
    (he : ∀ j, e j = Ideal.exp (y j - max ⊥ M)) (hd : ∀ j, d j = Ideal.div (e j) (∑ k, e k))
    (hp : ∀ j, p j = Scalar.select (m j) (d j) 0) (j : Fin n) : p j = ((wt P s j : ℝ) : EReal) := by
  have hrow : y = row P s := by
    funext j
    rw [hy, hm, select_bool]
    unfold row
    by_cases h : P j
    · simp [h, hx j h]
    · simp [h]
  have hM' : max ⊥ M = Finset.univ.fold max ⊥ (row P s) := by rw [hM, hrow]; exact max_eq_right bot_le
  have he' : ∀ j, e j = Ideal.exp (row P s j - Finset.univ.fold max ⊥ (row P s)) := fun j => by rw [he, hM', hrow]
  rw [← masked_softmax_row P s j, hp, hm, select_bool, hd]
  simp only [he', decide_eq_true_eq]

/-- The blocks ranked at the first eight places are the chosen ones. -/
theorem chosen_iff (Q : Query) (j : Fin 32) : Q.chosen j ↔ ∃ a : Fin 8, place Q.key (a.castLE (by omega)) = j := by
  obtain ⟨a, rfl⟩ := place_surjective Q.key j
  have hc : (Finset.univ.filter fun i => Q.beats i (place Q.key a)).card = a.val :=
    @card_before 32 Q.key a (fun i => (inferInstance : Decidable (Q.beats i (place Q.key a))))
  unfold Query.chosen
  rw [hc]
  constructor
  · intro h; exact ⟨⟨a.val, h⟩, rfl⟩
  · rintro ⟨c, h⟩
    have := place_injective Q.key h
    rw [← this]; exact c.isLt

variable (x0 : Vec Ideal S8x2048x8x64 .f32) (x1 x2 : Vec Ideal S8x127x2x64 .f32) (x3 x4 x5 x6 : Vec Ideal S8x2048x2x64 .f32)
  (x7 : Vec Ideal S8x2048x24 .f32) (x8 : Vec Ideal S512 .f32)
  (hq : AllReal (φ := .f32) x0) (hc : AllReal (φ := .f32) x1) (hs : AllReal (φ := .f32) x3) (hw : AllReal (φ := .f32) x5)
  (b : Fin 8) (g : Fin 2) (t : Fin 2048) (r : Fin 4) (d : Fin 64)

include hq hc

theorem ref_cw (n : Fin 127) :
    val_main_v30 (F := Ideal) x0 x1 (ix5 b g r t n) = (((made x0 x1 x2 x3 x4 x5 x6 x7 b g t).cw r n : ℝ) : EReal) := by
  refine softmax_eq (made x0 x1 x2 x3 x4 x5 x6 x7 b g t).cP ((made x0 x1 x2 x3 x4 x5 x6 x7 b g t).sc r) (fun n => val_main_v13 (F := Ideal) (ix2 t n)) (fun n => r_v13 t n)
    (fun n => val_main_v17 (F := Ideal) x0 x1 (ix5 b g r t n)) (fun n => val_main_v18 (F := Ideal) x0 x1 (ix5 b g r t n))
    (fun n => val_main_v25 (F := Ideal) x0 x1 (ix5 b g r t n)) (fun n => val_main_v29 (F := Ideal) x0 x1 (ix5 b g r t n))
    (fun n => val_main_v30 (F := Ideal) x0 x1 (ix5 b g r t n)) (val_main_v19 (F := Ideal) x0 x1 (ix4 b g r t))
    (fun n _ => ?_) (fun n => r_v18 x0 x1 b g r t n) ?_ (fun n => r_v25 x0 x1 b g r t n) (fun n => r_v29 x0 x1 b g r t n) (fun n => r_v30 x0 x1 b g r t n) n
  · rw [r_v17, dot_coe _ _ (fun x => hc _) (fun x => hq _), ← EReal.coe_mul]; rfl
  · unfold val_main_v19 val_main_cst_3; exact host_max _ _ _ b g r t

theorem ref_oc : val_main_v33 (F := Ideal) x0 x1 x2 (ix4 b t ⟨4 * g.val + r.val, by omega⟩ d)
    = (made x0 x1 x2 x3 x4 x5 x6 x7 b g t).oc r d := by
  rw [r_v33]
  unfold Query.oc
  refine Finset.sum_congr rfl fun n _ => ?_
  rw [ref_cw x0 x1 x2 x3 x4 x5 x6 x7 hq hc b g t r n, mul_comm]; rfl

theorem ref_key (j : Fin 32) : val_main_v84 (F := Ideal) x0 x1 (ix4 b g t j) = (made x0 x1 x2 x3 x4 x5 x6 x7 b g t).key j := by
  have hi : val_main_v63 (F := Ideal) x0 x1 (ix4 b g t j) = (((made x0 x1 x2 x3 x4 x5 x6 x7 b g t).imp j : ℝ) : EReal) := by
    rw [r_v63]
    unfold Query.imp
    rw [← coe_sum]
    refine Finset.sum_congr rfl fun n _ => ?_
    rw [EReal.coe_mul, ← coe_sum, mul_comm]
    refine congrArg _ (Finset.sum_congr rfl fun r _ => ref_cw x0 x1 x2 x3 x4 x5 x6 x7 hq hc b g t r n)
  rw [r_v84, hi]; rfl

theorem ref_top (a : Fin 8) : val_main_indices (F := Ideal) x0 x1 (ix4 b g t a)
    = BitVec.ofNat 32 (place (made x0 x1 x2 x3 x4 x5 x6 x7 b g t).key (a.castLE (by omega))).val := by
  rw [r_top]
  congr 3
  funext j
  exact ref_key x0 x1 x2 x3 x4 x5 x6 x7 hq hc b g t j

omit hq hc in
/-- The key position in a slot of the chosen blocks. -/
def slot (Q : Query) (j : Fin 512) : Fin 2048 :=
  ⟨64 * (place Q.key ⟨j.val / 64, by omega⟩).val + j.val % 64, by omega⟩

omit hq hc in
theorem slot_mk (Q : Query) (a : Fin 8) (k : Fin 64) :
    (slot Q ⟨64 * a.val + k.val, by omega⟩).val = 64 * (place Q.key (a.castLE (by omega))).val + k.val := by
  have h1 : (64 * a.val + k.val) / 64 = a.val := by omega
  have h2 : (64 * a.val + k.val) % 64 = k.val := by omega
  have h3 : (⟨(64 * a.val + k.val) / 64, by omega⟩ : Fin 32) = a.castLE (by omega) := Fin.ext h1
  show 64 * (place Q.key ⟨(64 * a.val + k.val) / 64, _⟩).val + (64 * a.val + k.val) % 64 = _
  rw [h3, h2]

omit hq hc in
theorem exists_slot (j : Fin 512) : ∃ (a : Fin 8) (k : Fin 64), j = ⟨64 * a.val + k.val, by omega⟩ :=
  ⟨⟨j.val / 64, by omega⟩, ⟨j.val % 64, by omega⟩, Fin.ext (by show j.val = 64 * (j.val / 64) + j.val % 64; omega)⟩

omit hq hc in
theorem slot_injective (Q : Query) : Function.Injective (slot Q) := by
  intro i j h
  have h := Fin.mk.inj_iff.mp h
  have h1 : (place Q.key ⟨i.val / 64, by omega⟩) = (place Q.key ⟨j.val / 64, by omega⟩) := Fin.ext (by omega)
  have h2 := Fin.mk.inj_iff.mp (place_injective Q.key h1)
  exact Fin.ext (by omega)

omit hq hc in
theorem slot_range (Q : Query) (k : Fin 2048) (h : Q.sP k.val) : k ∈ Set.range (slot Q) := by
  obtain ⟨-, hb, hch⟩ := h
  obtain ⟨a, ha⟩ := (chosen_iff Q _).mp hch
  refine ⟨⟨64 * a.val + k.val % 64, by omega⟩, Fin.ext ?_⟩
  have := slot_mk Q a ⟨k.val % 64, by omega⟩
  rw [ha] at this
  refine this.trans ?_
  show 64 * (k.val / 64) + k.val % 64 = k.val
  omega

omit hq hc in
theorem slot_iff (Q : Query) (j : Fin 512) : (slot Q j).val ≤ Q.pos ↔ Q.sP (slot Q j).val := by
  refine ⟨fun h => ⟨h, ?_⟩, fun h => h.1⟩
  obtain ⟨a, k, rfl⟩ := exists_slot j
  have hd : (slot Q ⟨64 * a.val + k.val, by omega⟩).val / 64 = (place Q.key (a.castLE (by omega))).val := by rw [slot_mk]; omega
  refine ⟨by omega, (chosen_iff Q _).mpr ⟨a, Fin.ext hd.symm⟩⟩

theorem ref_k (a : Fin 8) (k d : Fin 64) :
    val_main_v149 (F := Ideal) x0 x1 x3 (ix5 b g t ⟨64 * a.val + k.val, by omega⟩ d)
      = x3 (ix4 b (slot (made x0 x1 x2 x3 x4 x5 x6 x7 b g t) ⟨64 * a.val + k.val, by omega⟩) g d) := by
  obtain ⟨h0, h1, h2⟩ := r_v113 x0 x1 _ rfl (fun a => place (made x0 x1 x2 x3 x4 x5 x6 x7 b g t).key (a.castLE (by omega))) b g t a
    (ref_top x0 x1 x2 x3 x4 x5 x6 x7 hq hc b g t a)
  rw [r_v149]
  unfold val_main_v114
  rw [gather_read _ _ b g t a k d _ h0 h1 h2, r_v86]
  exact congrArg (fun z => x3 (ix4 b z g d)) (Fin.ext (slot_mk (made x0 x1 x2 x3 x4 x5 x6 x7 b g t) a k).symm)

theorem ref_v (a : Fin 8) (k d : Fin 64) :
    val_main_v150 (F := Ideal) x0 x1 x4 (ix5 b g t ⟨64 * a.val + k.val, by omega⟩ d)
      = x4 (ix4 b (slot (made x0 x1 x2 x3 x4 x5 x6 x7 b g t) ⟨64 * a.val + k.val, by omega⟩) g d) := by
  obtain ⟨h0, h1, h2⟩ := r_v135 x0 x1 _ rfl (fun a => place (made x0 x1 x2 x3 x4 x5 x6 x7 b g t).key (a.castLE (by omega))) b g t a
    (ref_top x0 x1 x2 x3 x4 x5 x6 x7 hq hc b g t a)
  rw [r_v150]
  unfold val_main_v136
  rw [gather_read _ _ b g t a k d _ h0 h1 h2, r_v88]
  exact congrArg (fun z => x4 (ix4 b z g d)) (Fin.ext (slot_mk (made x0 x1 x2 x3 x4 x5 x6 x7 b g t) a k).symm)

theorem ref_mask (j : Fin 512) : val_main_v151 (F := Ideal) x0 x1 (ix4 b g t j)
    = BitVec.ofBool (decide ((slot (made x0 x1 x2 x3 x4 x5 x6 x7 b g t) j).val ≤ t.val)) := by
  obtain ⟨a, k, rfl⟩ := exists_slot j
  rw [r_v151 x0 x1 _ rfl _ b g t a k (ref_top x0 x1 x2 x3 x4 x5 x6 x7 hq hc b g t a), slot_mk]

include hs in
theorem ref_os : val_main_v171 (F := Ideal) x0 x1 x3 x4 (ix4 b t ⟨4 * g.val + r.val, by omega⟩ d)
    = (made x0 x1 x2 x3 x4 x5 x6 x7 b g t).os r d := by
  set Q := made x0 x1 x2 x3 x4 x5 x6 x7 b g t with hQ
  have hp : ∀ j, val_main_v169 (F := Ideal) x0 x1 x3 (ix5 b g r t j)
      = ((wt (fun j => (slot Q j).val ≤ t.val) (fun j => Q.ss r (slot Q j).val) j : ℝ) : EReal) := by
    intro j
    refine softmax_eq (fun j => (slot Q j).val ≤ t.val) (fun j => Q.ss r (slot Q j).val) (fun j => val_main_v151 (F := Ideal) x0 x1 (ix4 b g t j))
      (fun j => ref_mask x0 x1 x2 x3 x4 x5 x6 x7 hq hc b g t j)
      (fun n => val_main_v155 (F := Ideal) x0 x1 x3 (ix5 b g r t n)) (fun n => val_main_v157 (F := Ideal) x0 x1 x3 (ix5 b g r t n))
      (fun n => val_main_v164 (F := Ideal) x0 x1 x3 (ix5 b g r t n)) (fun n => val_main_v168 (F := Ideal) x0 x1 x3 (ix5 b g r t n))
      (fun n => val_main_v169 (F := Ideal) x0 x1 x3 (ix5 b g r t n)) (val_main_v158 (F := Ideal) x0 x1 x3 (ix4 b g r t))
      (fun n _ => ?_) (fun n => r_v157 x0 x1 x3 b g r t n) ?_ (fun n => r_v164 x0 x1 x3 b g r t n) (fun n => r_v168 x0 x1 x3 b g r t n) (fun n => r_v169 x0 x1 x3 b g r t n) j
    · obtain ⟨a, k, rfl⟩ := exists_slot n
      have e : (Q.ss r (slot Q ⟨64 * a.val + k.val, by omega⟩).val : ℝ)
          = dot (fun x => x3 (ix4 b (slot Q ⟨64 * a.val + k.val, by omega⟩) g x)) (fun x => x0 (ix4 b t ⟨4 * g.val + r.val, by omega⟩ x)) * (1 / 8) :=
        dif_pos (slot Q ⟨64 * a.val + k.val, by omega⟩).isLt
      rw [e, EReal.coe_mul, ← dot_coe _ _ (fun x => hs _) (fun x => hq _), r_v155]
      refine congrArg (· * _) (Finset.sum_congr rfl fun x _ => ?_)
      rw [ref_k x0 x1 x2 x3 x4 x5 x6 x7 hq hc b g t a k x]
    · unfold val_main_v158 val_main_cst_36; exact host_max _ _ _ b g r t
  have hv : ∀ j, val_main_v150 (F := Ideal) x0 x1 x4 (ix5 b g t j d) = Q.vs (slot Q j).val d := by
    intro j
    obtain ⟨a, k, rfl⟩ := exists_slot j
    rw [ref_v x0 x1 x2 x3 x4 x5 x6 x7 hq hc b g t a k d]
    have e : Q.vs (slot Q ⟨64 * a.val + k.val, by omega⟩).val d = x4 (ix4 b (slot Q ⟨64 * a.val + k.val, by omega⟩) g d) :=
      dif_pos (slot Q ⟨64 * a.val + k.val, by omega⟩).isLt
    exact e.symm
  rw [r_v171]
  simp only [hp, hv]
  unfold Query.os
  exact sum_reindex (slot Q) (slot_injective Q) (fun k => Q.sP k.val) _ (fun k => Q.ss r k.val) _ (fun j => slot_iff Q j) (fun _ _ => rfl)
    (slot_range Q) (fun k => Q.vs k.val d)

omit hc
include hw in
theorem ref_ow : val_main_v204 (F := Ideal) x0 x5 x6 (ix4 b t ⟨4 * g.val + r.val, by omega⟩ d)
    = (made x0 x1 x2 x3 x4 x5 x6 x7 b g t).ow r d := by
  set Q := made x0 x1 x2 x3 x4 x5 x6 x7 b g t with hQ
  rw [r_v204]
  unfold Query.ow
  refine Finset.sum_congr rfl fun j _ => ?_
  have hv : Q.vw j.val d = x6 (ix4 b j g d) := dif_pos j.isLt
  rw [mul_comm, hv]
  refine congrArg (· * _) ?_
  refine softmax_eq (fun k : Fin 2048 => Q.wP k.val) (fun k => Q.sw r k.val) (fun j => val_main_v184 (F := Ideal) (ix2 t j))
    (fun j => r_v184 t j)
    (fun n => val_main_v188 (F := Ideal) x0 x5 (ix5 b g r t n)) (fun n => val_main_v189 (F := Ideal) x0 x5 (ix5 b g r t n))
    (fun n => val_main_v196 (F := Ideal) x0 x5 (ix5 b g r t n)) (fun n => val_main_v200 (F := Ideal) x0 x5 (ix5 b g r t n))
    (fun n => val_main_v201 (F := Ideal) x0 x5 (ix5 b g r t n)) (val_main_v190 (F := Ideal) x0 x5 (ix4 b g r t))
    (fun n _ => ?_) (fun n => r_v189 x0 x5 b g r t n) ?_ (fun n => r_v196 x0 x5 b g r t n) (fun n => r_v200 x0 x5 b g r t n) (fun n => r_v201 x0 x5 b g r t n) j
  · have e : (Q.sw r n.val : ℝ) = dot (fun x => x5 (ix4 b n g x)) (fun x => x0 (ix4 b t ⟨4 * g.val + r.val, by omega⟩ x)) * (1 / 8) :=
      dif_pos n.isLt
    rw [e, EReal.coe_mul, ← dot_coe _ _ (fun x => hw _) (fun x => hq _), r_v188]
  · unfold val_main_v190 val_main_cst_43; exact host_max _ _ _ b g r t

omit hq in
theorem ref_gate (n : Fin 3) : val_main_v211 (F := Ideal) x7 (ix4 b t ⟨4 * g.val + r.val, by omega⟩ n)
    = (made x0 x1 x2 x3 x4 x5 x6 x7 b g t).gate ⟨3 * r.val + n.val, by omega⟩ := by
  rw [r_v211]
  refine congrArg (fun z => Ideal.div 1 (1 + Ideal.exp (-(x7 (ix3 b t z))))) (Fin.ext ?_)
  show 3 * (4 * g.val + r.val) + n.val = 12 * g.val + (3 * r.val + n.val)
  omega

include hc hs hw in
theorem ref_o : val_main_v222 (F := Ideal) x0 x1 x2 x3 x4 x5 x6 x7 (ix4 b t ⟨4 * g.val + r.val, by omega⟩ d)
    = (made x0 x1 x2 x3 x4 x5 x6 x7 b g t).o r d := by
  rw [r_v222, ref_oc x0 x1 x2 x3 x4 x5 x6 x7 hq hc b g t r d, ref_os x0 x1 x2 x3 x4 x5 x6 x7 hq hc hs b g t r d,
    ref_ow x0 x1 x2 x3 x4 x5 x6 x7 hq hw b g t r d, ref_gate x0 x1 x2 x3 x4 x5 x6 x7 b g t r 0, ref_gate x0 x1 x2 x3 x4 x5 x6 x7 b g t r 1,
    ref_gate x0 x1 x2 x3 x4 x5 x6 x7 b g t r 2]
  rfl

include hc hs hw in
/-- An entry of the reference's result. -/
theorem ref_out : val_main_v238 (F := Ideal) x0 x1 x2 x3 x4 x5 x6 x7 x8
      (ix2 ⟨2048 * b.val + t.val, by omega⟩ ⟨64 * (4 * g.val + r.val) + d.val, by omega⟩)
    = (made x0 x1 x2 x3 x4 x5 x6 x7 b g t).o r d
      * Ideal.rsqrt (Ideal.div (∑ x, (made x0 x1 x2 x3 x4 x5 x6 x7 b g t).o r x * (made x0 x1 x2 x3 x4 x5 x6 x7 b g t).o r x)
        (Ideal.ofBits .f32 0x42800000#32) + Ideal.ofBits .f32 0x358637BD#32) * x8 (ix1 ⟨64 * (4 * g.val + r.val) + d.val, by omega⟩) := by
  have h := r_v238 x0 x1 x2 x3 x4 x5 x6 x7 x8 b t ⟨4 * g.val + r.val, by omega⟩ d
  simp only [ref_o x0 x1 x2 x3 x4 x5 x6 x7 hq hc hs hw b g t r] at h
  exact h

end Nsa
-- ==== Proof.Out.lean ====
module

public import proofs.«01_k».proof.Proof.Sees
public import proofs.«01_k».proof.Proof.RefValue
public import Idealize.ShloMosaic.Lib.Pipeline.ValueKit
public import Idealize.ShloMosaic.Lib.Pipeline.Value

@[expose] public section

set_option maxRecDepth 16384

/-! # The kernel's result is the reference's -/

noncomputable section

namespace Nsa

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD) (t : Fin cfg0.N)

/-- The reference's result on the kernel's arguments. -/
def want : FVec Ideal ⟨2, ![16384, 512]⟩ .bf16 :=
  Cert.ReferenceIdeal.Read.val_main_v238 (F := Ideal) (aQ m c) (aKc m c) (aVc m c) (aKs m c) (aVs m c) (aKw m c) (aVw m c) (aG m c) (aGn m c)

/-- The row of the result a tile's query has. -/
def outRow (τ : Fin 256) : Fin 16384 := ⟨256 * t.val + τ.val, by have := t_lt t; omega⟩

/-- The tile's part of the result. -/
def part : S256x512.Idx → Elt Ideal .bf16 := fun y => want m c (ix2 (outRow t (y 0)) (y 1))

variable (hq : AllReal (φ := .f32) (aQ m c)) (hc : AllReal (φ := .f32) (aKc m c)) (hs : AllReal (φ := .f32) (aKs m c))
  (hw : AllReal (φ := .f32) (aKw m c))
include hq hc hs hw

theorem want_at (g : Fin 2) (r : Fin 4) (d : Fin 64) (τ : Fin 256) :
    (want m c (ix2 (outRow t τ) ⟨64 * (4 * g.val + r.val) + d.val, by omega⟩) : EReal)
      = (seen m c t g τ).o r d
        * Ideal.rsqrt (Ideal.div (∑ x, (seen m c t g τ).o r x * (seen m c t g τ).o r x) (Ideal.ofBits .f32 0x42800000#32) + Ideal.ofBits .f32 0x358637BD#32)
        * aGn m c (ix1 ⟨64 * (4 * g.val + r.val) + d.val, by omega⟩) := by
  have h := ref_out (aQ m c) (aKc m c) (aVc m c) (aKs m c) (aVs m c) (aKw m c) (aVw m c) (aG m c) (aGn m c) hq hc hs hw (bat t) g (tpos t τ) r d
  have e : (⟨2048 * (bat t).val + (tpos t τ).val, by omega⟩ : Fin 16384) = outRow t τ := Fin.ext (by
    show 2048 * (t.val / 8) + (256 * (t.val % 8) + τ.val) = 256 * t.val + τ.val
    omega)
  rw [e] at h
  exact h

/-- A head's normed rows are its columns of the result. -/
theorem normed (g : Fin 2) (r : Fin 4) (d : Fin 64) (τ : Fin 256) :
    (Tile.norm (F := Ideal) (Tile.head (F := Ideal) (t0w (grid0.coords t)) ((grid0.coords t 1).val / 2 + 1) (gl m c t g) r.val r.isLt) ((gl m c t g).gain r.val) (ix2 d τ) : EReal)
      = want m c (ix2 (outRow t τ) ⟨64 * (4 * g.val + r.val) + d.val, by omega⟩) := by
  rw [norm_apply, want_at m c t hq hc hs hw g r d τ, g_gain m c t g r d]
  simp only [head_eq (sees m c t hq hc hs hw g τ) r]

/-- Two heads side by side are their columns of the result. -/
theorem paired (g : Fin 2) (p : Fin 2) (h : 2 * p.val + 1 < 4) (e : Fin 128) (τ : Fin 256) :
    Tile.out2 (F := Ideal) (t0w (grid0.coords t)) ((grid0.coords t 1).val / 2 + 1) (gl m c t g) (2 * p.val) h (ix2 τ e)
      = part m c t (ix2 τ ⟨128 * (2 * g.val + p.val) + e.val, by omega⟩) := by
  unfold Tile.out2
  rw [pair_apply]
  split
  · rename_i hd
    refine (normed m c t hq hc hs hw g ⟨2 * p.val, by omega⟩ ⟨e.val, hd⟩ τ).trans ?_
    refine congrArg (fun z => want m c (ix2 (outRow t τ) z)) (Fin.ext ?_)
    show 64 * (4 * g.val + 2 * p.val) + e.val = 128 * (2 * g.val + p.val) + e.val
    omega
  · rename_i hd
    refine (normed m c t hq hc hs hw g ⟨2 * p.val + 1, h⟩ ⟨e.val - 64, by omega⟩ τ).trans ?_
    refine congrArg (fun z => want m c (ix2 (outRow t τ) z)) (Fin.ext ?_)
    show 64 * (4 * g.val + (2 * p.val + 1)) + (e.val - 64) = 128 * (2 * g.val + p.val) + e.val
    omega

omit hq hc hs hw in
theorem tile_cover (y : S256x512.Idx) : ∃ pc ∈ tilePcs m c t ((grid0.coords t 1).val / 2 + 1), y ∈ pc.1.set :=
  View.cover_of_tiledL (tilePcs m c t ((grid0.coords t 1).val / 2 + 1)) S256x128.size (by sl_kernel_rfl) y

theorem piece_at (g : Fin 2) (p : Fin 2) (h : 2 * p.val + 1 < 4) (off : Fin 2 → ℕ) (hb : ∀ a, off a + (![256, 128] : Fin 2 → ℕ) a ≤ S256x512.size a)
    (h0 : off 0 = 0) (h1 : off 1 = 128 * (2 * g.val + p.val)) (x : S256x128.Idx) :
    Tile.out2 (F := Ideal) (t0w (grid0.coords t)) ((grid0.coords t 1).val / 2 + 1) (gl m c t g) (2 * p.val) h x
      = part m c t ((Rect.unit (s := S256x512) off ![256, 128] hb).emb x) := by
  have hx : x = ix2 (x 0) (x 1) := by funext a; fin_cases a <;> rfl
  rw [hx]
  refine (paired m c t hq hc hs hw g p h (x 1) (x 0)).trans ?_
  refine congrArg (part m c t) (funext fun a => Fin.ext ?_)
  fin_cases a
  · show (x 0).val = off 0 + 1 * (x 0).val
    omega
  · show 128 * (2 * g.val + p.val) + (x 1).val = off 1 + 1 * (x 1).val
    omega

/-- What the body leaves in the output's buffer is the tile's part of the result. -/
theorem left_eq : left m c t = part m c t := by
  unfold left
  rw [pcs_eq, View.read_writes_eq_canon _ _ _ (tile_cover m c t)]
  funext y
  refine View.canon_apply_of_pieces (part m c t) _ (fun p hp => ?_) y (tile_cover m c t y)
  unfold tilePcs Tile.pieces at hp
  simp only [List.mem_cons, List.not_mem_nil, or_false] at hp
  rcases hp with rfl | rfl | rfl | rfl
  · exact piece_at m c t hq hc hs hw 1 1 (by decide) ![0, 384] inb_S256x512_S256x128_0_384 rfl rfl
  · exact piece_at m c t hq hc hs hw 1 0 (by decide) ![0, 256] inb_S256x512_S256x128_0_256 rfl rfl
  · exact piece_at m c t hq hc hs hw 0 1 (by decide) ![0, 128] inb_S256x512_S256x128_0_128 rfl rfl
  · exact piece_at m c t hq hc hs hw 0 0 (by decide) ![0, 0] inb_S256x512_S256x128_0_0 rfl rfl

/-- The array the call returns is the reference's. -/
theorem final : (dats m 0 c).arrAt 11 cfg0.N = want m c := by
  refine (dats m 0 c).arrAt_eq_of_covers 11 _ (by decide +kernel) fun t _ y => ?_
  blk_simp
  rw [after11, left_eq m c t hq hc hs hw]
  unfold part
  blk_ext [idx t, outRow]

end Nsa
-- ==== Proof.Pre.lean ====
module

public import proofs.«01_k».proof.Proof.Made
public import proofs.«01_k».proof.Proof.Ref
public import proofs.«01_k».proof.Proof.Gen.Pre_finite_scores
public import Idealize.ShloMosaic.Lib.ReduceAll
public import Idealize.ShloMosaic.Lib.Affine

@[expose] public section

set_option maxRecDepth 16384

/-! # What the precondition says -/

noncomputable section

namespace Nsa

open Idealize.ShloMosaic

/-- The largest constant is the top value. -/
theorem lit_top : (FloatOps.ofBits (F := Ideal) .f32 0x7F800000#32 : EReal) = ⊤ := by
  show Ideal.ofBits .f32 0x7F800000#32 = _
  unfold Ideal.ofBits
  rfl

/-- An array whose every magnitude is below the top value, as a reduction by `and` tells it, holds reals only. -/
theorem allReal_of_all {s u : Shape} {axes : List (Fin s.rank)} (x : FVec Ideal s .f32) (h : s.ReducesTo axes ⟨0, ![]⟩) (hu : 0 < u.numel)
    (hb : (⟨0, ![]⟩ : Shape).BroadcastsInDim s (![] : Fin 0 → Fin s.rank)) (init : u.Idx → BitVec 1) (j : (⟨0, ![]⟩ : Shape).Idx)
    (e : Host.reduce IntOp.andi (cmpf .olt (Host.absf x) (broadcastInDim s ![] hb (constant ⟨0, ![]⟩ .f32 0x7F800000#32))) init h hu j = 1#1) :
    AllReal (φ := .f32) x := fun i => by
  haveI : Subsingleton (⟨0, ![]⟩ : Shape).Idx := ⟨fun a b => funext fun k => k.elim0⟩
  have hi := Host.reduce_andi_all _ init h hu j e i
  have hl : Ideal.cmp .olt (max (x i : EReal) (-(x i : EReal))) ⊤ = 1#1 := by
    rw [← lit_top]; exact hi
  have hm : max (x i : EReal) (-(x i : EReal)) < ⊤ := by
    by_contra hn
    simp [Ideal.cmp, hn] at hl
  obtain ⟨h1, h2⟩ := max_lt_iff.1 hm
  exact ⟨h1.ne, fun hbot => by rw [hbot] at h2; simp at h2⟩

/-- Under the precondition the query and the three keys hold reals only. -/
theorem allReal_of_pre (x0 : FVec Ideal ⟨4, ![8, 2048, 8, 64]⟩ .f32) (x1 x2 : FVec Ideal ⟨4, ![8, 127, 2, 64]⟩ .f32)
    (x3 x4 x5 x6 : FVec Ideal ⟨4, ![8, 2048, 2, 64]⟩ .f32) (x7 : FVec Ideal ⟨3, ![8, 2048, 24]⟩ .f32) (x8 : FVec Ideal ⟨1, ![512]⟩ .f32)
    (h : Cert.Pre_finite_scores.fn (F := Ideal) x0 x1 x2 x3 x4 x5 x6 x7 x8 = fun _ => 1#1) :
    AllReal (φ := .f32) x0 ∧ AllReal (φ := .f32) x1 ∧ AllReal (φ := .f32) x3 ∧ AllReal (φ := .f32) x5 := by
  have h0 := congrFun h (fun k => k.elim0)
  obtain ⟨h1, hw⟩ := IntOp.andi_eq_one.1 h0
  obtain ⟨h2, hs⟩ := IntOp.andi_eq_one.1 h1
  obtain ⟨hq, hc⟩ := IntOp.andi_eq_one.1 h2
  exact ⟨allReal_of_all x0 _ _ _ _ _ hq, allReal_of_all x1 _ _ _ _ _ hc, allReal_of_all x3 _ _ _ _ _ hs, allReal_of_all x5 _ _ _ _ _ hw⟩

end Nsa
-- ==== Proof.MlpState.lean ====
module

public import proofs.«01_k».proof.Proof.Gen.KernelMlpIdeal.Frame
public import Idealize.ShloMosaic.Lib.Pipeline.ValueKit

@[expose] public section

set_option maxRecDepth 16384

/-! # What one grid point of the MLP kernel leaves

The second grid axis walks the hidden columns of a row block in four chunks: the first chunk normalises the rows and starts the
sum, the next two add to it, the last adds its own share and writes the rows of the result. -/

noncomputable section

namespace Nsa.Mlp

open Idealize.ShloMosaic Idealize.ShloMosaic.TcCoe Idealize.SL.Sem
open Cert.KernelMlpIdeal Cert.KernelMlpIdeal.Gen

variable (m : (ℓ : Loc nD τ sig) → Buf (Elt Ideal) ℓ) (c : Dev nD)

/-- The normalised rows that point `t` leaves. -/
abbrev rowsAfter (t : Fin cfg0.N) : Vec Ideal S1024x1024 .bf16 := (outsAt0 m c t.val t.isLt).2.1

/-- The sum that point `t` leaves. -/
abbrev sumAfter (t : Fin cfg0.N) : Vec Ideal S1024x1024 .f32 := (outsAt0 m c t.val t.isLt).2.2

/-- The point before. -/
abbrev prev (t : Fin cfg0.N) : Fin cfg0.N := ⟨t.val - 1, Nat.lt_of_le_of_lt (Nat.sub_le _ _) t.isLt⟩

theorem rows_first (t : Fin cfg0.N) (h : t.val % 4 = 0) : rowsAfter m c t = k0_pay2 (iblk m c 0 t) (iblk m c 1 t) := by
  unfold rowsAfter
  rw [outsAt0_A m c t h (by omega) (by omega)]
  frame_out

theorem sum_first (t : Fin cfg0.N) (h : t.val % 4 = 0) :
    sumAfter m c t = k0_pay3 (iblk m c 0 t) (iblk m c 1 t) (iblk m c 2 t) (iblk m c 3 t) := by
  unfold sumAfter
  rw [outsAt0_A m c t h (by omega) (by omega)]
  frame_out

theorem rows_mid (t : Fin cfg0.N) (h : 1 ≤ t.val % 4 ∧ t.val % 4 ≤ 2) : rowsAfter m c t = rowsAfter m c (prev t) := by
  unfold rowsAfter
  rw [outsAt0_B m c t (by omega) h (by omega)]
  rfl

theorem sum_mid (t : Fin cfg0.N) (h : 1 ≤ t.val % 4 ∧ t.val % 4 ≤ 2) :
    sumAfter m c t = k0_pay4 (sumAfter m c (prev t)) (rowsAfter m c (prev t)) (iblk m c 2 t) (iblk m c 3 t) := by
  unfold sumAfter
  rw [outsAt0_B m c t (by omega) h (by omega)]
  frame_out
  exact congrArg₂ (fun x y => k0_pay4 (F := Ideal) x y (iblk m c 2 t) (iblk m c 3 t)) ((Memref.isWhole_whole _).read_unread _)
    ((Memref.isWhole_whole _).read_unread _)

theorem out_last (t : Fin cfg0.N) (h : t.val % 4 = 3) :
    (outsAt0 m c t.val t.isLt).1
      = k0_pay5 (sumAfter m c (prev t)) (rowsAfter m c (prev t)) (iblk m c 2 t) (iblk m c 3 t) (iblk m c 0 t) (iblk m c 4 t) := by
  rw [outsAt0_C m c t (by omega) (by omega) h]
  frame_out
  exact congrArg₂ (fun x y => k0_pay5 (F := Ideal) x y (iblk m c 2 t) (iblk m c 3 t) (iblk m c 0 t) (iblk m c 4 t))
    ((Memref.isWhole_whole _).read_unread _) ((Memref.isWhole_whole _).read_unread _)

end Nsa.Mlp
-- ==== Proof.MlpBlocks.lean ====
module

public import proofs.«01_k».proof.Proof.MlpState
public import Idealize.ShloMosaic.Lib.StableHlo.ReadAt

@[expose] public section

set_option maxRecDepth 16384

/-! # The blocks that the MLP kernel reads, from the arguments -/

noncomputable section

namespace Nsa.Mlp

open Idealize.ShloMosaic Idealize.ShloMosaic.TcCoe Idealize.SL.Sem
open Cert.KernelMlpIdeal Cert.KernelMlpIdeal.Gen

variable (m : (ℓ : Loc nD τ sig) → Buf (Elt Ideal) ℓ) (c : Dev nD) (t : Fin cfg0.N)

/-! The arguments. -/

abbrev aH : Vec Ideal S16384x1024 .f32 := m ((c : Thread nD τ).loc main_arg0)
abbrev aPre : Vec Ideal S4x1024 .f32 := m ((c : Thread nD τ).loc main_arg1)
abbrev aPost : Vec Ideal S4x1024 .f32 := m ((c : Thread nD τ).loc main_arg2)
abbrev aUp : Vec Ideal S4x1024x4096 .f32 := m ((c : Thread nD τ).loc main_arg3)
abbrev aDown : Vec Ideal S4x4096x1024 .f32 := m ((c : Thread nD τ).loc main_arg4)

/-- Every window's block index. -/
theorem idx : ∀ t : Fin cfg0.N, win0_0.index t = ![t.val / 4, 0] ∧ win0_1.index t = ![0, 0] ∧ win0_2.index t = ![3, 0, t.val % 4]
    ∧ win0_3.index t = ![3, t.val % 4, 0] ∧ win0_4.index t = ![0, 0] ∧ win0_5.index t = ![t.val / 4, 0] :=
  (by decide +kernel : ∀ t : Fin grid0.N, _)

theorem t_lt : t.val < 64 := t.isLt

/-- The row of the array that a block's row is. -/
def row (r : Fin 1024) : Fin 16384 := ⟨1024 * (t.val / 4) + r.val, by have := t_lt t; omega⟩

/-- The chunk of hidden units of a point. -/
def chk : Fin 4 := ⟨t.val % 4, by omega⟩

/-- A hidden unit, from its chunk and its place there. -/
def unit (q : Fin 4) (j : Fin 1024) : Fin 4096 := ⟨1024 * q.val + j.val, by omega⟩

theorem blk_h (r d : Fin 1024) : (iblk m c 0 t : Vec Ideal S1024x1024 .f32) (ix2 r d) = aH m c (ix2 (row t r) d) := by
  have h := t_lt t
  blk_ext [iblk, V, idx t, row]

theorem blk_up (k j : Fin 1024) :
    (iblk m c 2 t : Vec Ideal S1x1024x1024 .f32) (ix3 0 k j) = aUp m c (ix3 3 k (unit (chk t) j)) := by
  have h := t_lt t
  blk_ext [iblk, V, idx t, unit, chk]

theorem blk_down (j d : Fin 1024) :
    (iblk m c 3 t : Vec Ideal S1x1024x1024 .f32) (ix3 0 j d) = aDown m c (ix3 3 (unit (chk t) j) d) := by
  have h := t_lt t
  blk_ext [iblk, V, idx t, unit, chk]

theorem V_pre (k : Fin 1024) : (V m c main_v2 : Vec Ideal S1x1024 .f32) (ix2 0 k) = aPre m c (ix2 3 k) := by
  simp only [V, hostOps0, List.flatten_cons, List.flatten_nil, List.append_nil, List.cons_append, List.nil_append]
  after_reads_at

theorem V_post (k : Fin 1024) : (V m c main_v5 : Vec Ideal S1x1024 .f32) (ix2 0 k) = aPost m c (ix2 3 k) := by
  simp only [V, hostOps0, List.flatten_cons, List.flatten_nil, List.append_nil, List.cons_append, List.nil_append]
  after_reads_at

theorem blk_pre (k : Fin 1024) : (iblk m c 1 t : Vec Ideal S1x1024 .f32) (ix2 0 k) = aPre m c (ix2 3 k) :=
  Eq.trans (by blk_ext [iblk, idx t]) (V_pre m c k)

theorem blk_post (k : Fin 1024) : (iblk m c 4 t : Vec Ideal S1x1024 .f32) (ix2 0 k) = aPost m c (ix2 3 k) :=
  Eq.trans (by blk_ext [iblk, idx t]) (V_post m c k)

end Nsa.Mlp
-- ==== Proof.MlpPay.lean ====
module

public import proofs.«01_k».proof.Proof.Gen.KernelMlpIdeal.Skeleton
public import proofs.«01_k».proof.Proof.TileRead

@[expose] public section

set_option maxRecDepth 16384

/-! # What one grid point of the MLP kernel computes, entry by entry -/

noncomputable section

namespace Nsa.Mlp

open Idealize.ShloMosaic Idealize.SL.Sem
open Cert.KernelMlpIdeal Cert.KernelMlpIdeal.Gen

/-- A row divided by its root mean square, times a gain. -/
def nrm (x g : Fin 1024 → EReal) (d : Fin 1024) : EReal :=
  x d * Ideal.rsqrt (Ideal.div (∑ k, x k * x k) (Ideal.ofBits .f32 0x44800000#32) + Ideal.ofBits .f32 0x358637BD#32) * g d

/-- A hidden unit: the positive part of a row's product with a column, squared. -/
def hid (u w : Fin 1024 → EReal) : EReal := max (∑ k, u k * w k) 0 * max (∑ k, u k * w k) 0

/-- The share of a stretch of hidden units in an output column. -/
def share {n : ℕ} (u : Fin 1024 → EReal) (w : Fin n → Fin 1024 → EReal) (v : Fin n → EReal) : EReal := ∑ j, hid u (w j) * v j

theorem pay2_at (x : Vec Ideal S1024x1024 .f32) (g : Vec Ideal S1x1024 .f32) (r d : Fin 1024) :
    k0_pay2 (F := Ideal) x g (ix2 r d) = nrm (fun k => x (ix2 r k)) (fun k => g (ix2 0 k)) d := by
  unfold nrm
  pointwise [k0_pay2, k0_pay1]

theorem pay3_at (x : Vec Ideal S1024x1024 .f32) (g : Vec Ideal S1x1024 .f32) (w v : Vec Ideal S1x1024x1024 .f32) (r d : Fin 1024) :
    k0_pay3 (F := Ideal) x g w v (ix2 r d)
      = share (fun k => k0_pay2 (F := Ideal) x g (ix2 r k)) (fun j k => w (ix3 0 k j)) (fun j => v (ix3 0 j d)) := by
  unfold share hid k0_pay3 k0_pay2
  generalize k0_pay1 (F := Ideal) x g = u
  pointwise

theorem pay4_at (s : Vec Ideal S1024x1024 .f32) (u : Vec Ideal S1024x1024 .bf16) (w v : Vec Ideal S1x1024x1024 .f32) (r d : Fin 1024) :
    k0_pay4 (F := Ideal) s u w v (ix2 r d)
      = s (ix2 r d) + share (fun k => u (ix2 r k)) (fun j k => w (ix3 0 k j)) (fun j => v (ix3 0 j d)) := by
  unfold share hid
  pointwise [k0_pay4]

theorem pay5_at (s : Vec Ideal S1024x1024 .f32) (u : Vec Ideal S1024x1024 .bf16) (w v : Vec Ideal S1x1024x1024 .f32)
    (h : Vec Ideal S1024x1024 .f32) (g : Vec Ideal S1x1024 .f32) (r d : Fin 1024) :
    k0_pay5 (F := Ideal) s u w v h g (ix2 r d)
      = h (ix2 r d) + nrm (fun k => k0_pay4 (F := Ideal) s u w v (ix2 r k)) (fun k => g (ix2 0 k)) d := by
  unfold nrm
  pointwise [k0_pay5, k0_pay4]

end Nsa.Mlp
-- ==== Proof.MlpRef.lean ====
module

public import proofs.«01_k».proof.Proof.MlpPay
public import proofs.«01_k».proof.Proof.Gen.ReferenceMlpIdeal.Read

@[expose] public section

set_option maxRecDepth 16384

/-! # What the reference MLP computes, entry by entry -/

noncomputable section

namespace Nsa.Mlp

open Idealize.ShloMosaic Idealize.SL.Sem
open Cert.ReferenceMlpIdeal Cert.ReferenceMlpIdeal.Read

variable (x0 : Vec Ideal S16384x1024 .f32) (x1 x2 : Vec Ideal S4x1024 .f32) (x3 : Vec Ideal S4x1024x4096 .f32) (x4 : Vec Ideal S4x4096x1024 .f32)

theorem ref_rows (i : Fin 16384) (d : Fin 1024) :
    val_main_v14 (F := Ideal) x0 x1 (ix2 i d) = nrm (fun k => x0 (ix2 i k)) (fun k => x1 (ix2 3 k)) d := by
  unfold nrm
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref_hid (i : Fin 16384) (j : Fin 4096) :
    val_main_v19 (F := Ideal) x0 x1 x3 (ix2 i j)
      = hid (fun k => val_main_v14 (F := Ideal) x0 x1 (ix2 i k)) (fun k => x3 (ix3 3 k j)) := by
  unfold hid val_main_v19 val_main_v18 val_main_v17
  generalize val_main_v14 (F := Ideal) x0 x1 = u
  pointwise [val_main_v16, val_main_v15, val_main_call0_v0, val_main_call0_cst]

theorem ref_share (i : Fin 16384) (d : Fin 1024) :
    val_main_v22 (F := Ideal) x0 x1 x3 x4 (ix2 i d)
      = share (fun k => val_main_v14 (F := Ideal) x0 x1 (ix2 i k)) (fun (j : Fin 4096) k => x3 (ix3 3 k j)) (fun j => x4 (ix3 3 j d)) := by
  unfold share val_main_v22
  simp only [← ref_hid]
  generalize val_main_v19 (F := Ideal) x0 x1 x3 = u
  pointwise [val_main_v21, val_main_v20]

theorem ref_out (i : Fin 16384) (d : Fin 1024) :
    val_main_v38 (F := Ideal) x0 x1 x2 x3 x4 (ix2 i d)
      = x0 (ix2 i d) + nrm (fun k => val_main_v22 (F := Ideal) x0 x1 x3 x4 (ix2 i k)) (fun k => x2 (ix2 3 k)) d := by
  unfold nrm val_main_v38 val_main_v37 val_main_v34 val_main_v33 val_main_v32 val_main_v31 val_main_v29 val_main_v27 val_main_v26 val_main_v25
  generalize val_main_v22 (F := Ideal) x0 x1 x3 x4 = u
  pointwise [val_main_v36, val_main_v35, val_main_v30, val_main_v28, val_main_v24, val_main_v23, val_main_cst_2, val_main_cst_3, val_main_cst_4]

end Nsa.Mlp
-- ==== Proof.MlpOut.lean ====
module

public import proofs.«01_k».proof.Proof.MlpBlocks
public import proofs.«01_k».proof.Proof.MlpPay
public import proofs.«01_k».proof.Proof.MlpRef
public import Idealize.ShloMosaic.Lib.Pipeline.Value

@[expose] public section

set_option maxRecDepth 16384

/-! # The MLP kernel's result is the reference's -/

noncomputable section

namespace Nsa.Mlp

open Idealize.ShloMosaic Idealize.ShloMosaic.TcCoe Idealize.SL.Sem
open Cert.KernelMlpIdeal Cert.KernelMlpIdeal.Gen

variable (m : (ℓ : Loc nD τ sig) → Buf (Elt Ideal) ℓ) (c : Dev nD) (t : Fin cfg0.N)

/-- The reference's result on the kernel's arguments. -/
def want : FVec Ideal ⟨2, ![16384, 1024]⟩ .f32 :=
  Cert.ReferenceMlpIdeal.Read.val_main_v38 (F := Ideal) (aH m c) (aPre m c) (aPost m c) (aUp m c) (aDown m c)

/-- A row of the hidden state, normalised. -/
def normed (i : Fin 16384) : Fin 1024 → EReal := nrm (fun k => aH m c (ix2 i k)) (fun k => aPre m c (ix2 3 k))

/-- What a chunk of hidden units adds to an output column. -/
def part (i : Fin 16384) (q : Fin 4) (d : Fin 1024) : EReal :=
  share (normed m c i) (fun j k => aUp m c (ix3 3 k (unit q j))) (fun j => aDown m c (ix3 3 (unit q j) d))

/-- A sum over the hidden units is the four chunks' sums. -/
theorem sum_units (f : Fin 4096 → EReal) :
    ∑ j, f j = (∑ j, f (unit 0 j)) + (∑ j, f (unit 1 j)) + (∑ j, f (unit 2 j)) + ∑ j, f (unit 3 j) := by
  rw [← Fin.sum_univ_four (fun q => ∑ j, f (unit q j)), ← Fintype.sum_prod_type (fun p : Fin 4 × Fin 1024 => f (unit p.1 p.2))]
  refine (Fintype.sum_equiv (finProdFinEquiv (m := 4) (n := 1024)) _ _ fun p => congrArg f (Fin.ext ?_)).symm
  show 1024 * p.1.val + p.2.val = p.2.val + 1024 * p.1.val
  omega

/-- The rows that the first chunk's point normalises. -/
theorem pay2_blk (r k : Fin 1024) : k0_pay2 (F := Ideal) (iblk m c 0 t) (iblk m c 1 t) (ix2 r k) = normed m c (row t r) k := by
  rw [pay2_at]
  unfold normed
  simp only [blk_h, blk_pre]

/-- A point's share, from the arrays. -/
theorem share_blk (u : Fin 1024 → EReal) (r d : Fin 1024) (hu : u = normed m c (row t r)) :
    share u (fun j k => (iblk m c 2 t : Vec Ideal S1x1024x1024 .f32) (ix3 0 k j)) (fun j => (iblk m c 3 t : Vec Ideal S1x1024x1024 .f32) (ix3 0 j d))
      = part m c (row t r) (chk t) d := by
  subst hu
  unfold part
  simp only [blk_up, blk_down]

theorem row_prev (h : t.val % 4 ≠ 0) (r : Fin 1024) : row (prev t) r = row t r :=
  Fin.ext (by show 1024 * ((t.val - 1) / 4) + r.val = 1024 * (t.val / 4) + r.val; omega)

theorem rows0 (h : t.val % 4 = 0) (r k : Fin 1024) : rowsAfter m c t (ix2 r k) = normed m c (row t r) k :=
  (congrFun (rows_first m c t h) _).trans (pay2_blk m c t r k)

theorem rows1 (h : t.val % 4 = 1) (r k : Fin 1024) : rowsAfter m c t (ix2 r k) = normed m c (row t r) k := by
  rw [rows_mid m c t (by omega), rows0 m c (prev t) (by show (t.val - 1) % 4 = 0; omega), row_prev t (by omega)]

theorem rows2 (h : t.val % 4 = 2) (r k : Fin 1024) : rowsAfter m c t (ix2 r k) = normed m c (row t r) k := by
  rw [rows_mid m c t (by omega), rows1 m c (prev t) (by show (t.val - 1) % 4 = 1; omega), row_prev t (by omega)]

theorem chk_eq (q : Fin 4) (h : t.val % 4 = q.val) : chk t = q := Fin.ext h

theorem sum0 (h : t.val % 4 = 0) (r d : Fin 1024) : (sumAfter m c t (ix2 r d) : EReal) = part m c (row t r) 0 d := by
  rw [sum_first m c t h, pay3_at, share_blk m c t _ r d (funext fun k => pay2_blk m c t r k), chk_eq t 0 h]

theorem sum1 (h : t.val % 4 = 1) (r d : Fin 1024) :
    (sumAfter m c t (ix2 r d) : EReal) = part m c (row t r) 0 d + part m c (row t r) 1 d := by
  have hp : (prev t).val % 4 = 0 := by show (t.val - 1) % 4 = 0; omega
  rw [sum_mid m c t (by omega), pay4_at, sum0 m c (prev t) hp, row_prev t (by omega),
    share_blk m c t _ r d (funext fun k => (rows0 m c (prev t) hp r k).trans (by rw [row_prev t (by omega)])), chk_eq t 1 h]

theorem sum2 (h : t.val % 4 = 2) (r d : Fin 1024) :
    (sumAfter m c t (ix2 r d) : EReal) = part m c (row t r) 0 d + part m c (row t r) 1 d + part m c (row t r) 2 d := by
  have hp : (prev t).val % 4 = 1 := by show (t.val - 1) % 4 = 1; omega
  rw [sum_mid m c t (by omega), pay4_at, sum1 m c (prev t) hp, row_prev t (by omega),
    share_blk m c t _ r d (funext fun k => (rows1 m c (prev t) hp r k).trans (by rw [row_prev t (by omega)])), chk_eq t 2 h]

/-- The whole sum, when the last chunk is added. -/
theorem sum3 (h : t.val % 4 = 3) (r d : Fin 1024) :
    (k0_pay4 (F := Ideal) (sumAfter m c (prev t)) (rowsAfter m c (prev t)) (iblk m c 2 t) (iblk m c 3 t) (ix2 r d) : EReal)
      = Cert.ReferenceMlpIdeal.Read.val_main_v22 (F := Ideal) (aH m c) (aPre m c) (aUp m c) (aDown m c) (ix2 (row t r) d) := by
  have hp : (prev t).val % 4 = 2 := by show (t.val - 1) % 4 = 2; omega
  rw [pay4_at, sum2 m c (prev t) hp, row_prev t (by omega),
    share_blk m c t _ r d (funext fun k => (rows2 m c (prev t) hp r k).trans (by rw [row_prev t (by omega)])), chk_eq t 3 h]
  refine Eq.symm ((ref_share (aH m c) (aPre m c) (aUp m c) (aDown m c) (row t r) d).trans ?_)
  rw [show (fun k => Cert.ReferenceMlpIdeal.Read.val_main_v14 (F := Ideal) (aH m c) (aPre m c) (ix2 (row t r) k)) = normed m c (row t r)
    from funext fun k => ref_rows (aH m c) (aPre m c) (row t r) k]
  exact sum_units _

/-- What the last chunk's point writes is the reference's rows. -/
theorem out_at (h : t.val % 4 = 3) (r d : Fin 1024) : ((outsAt0 m c t.val t.isLt).1 (ix2 r d) : EReal) = want m c (ix2 (row t r) d) := by
  rw [out_last m c t h, pay5_at, blk_h]
  refine Eq.symm ((ref_out (aH m c) (aPre m c) (aPost m c) (aUp m c) (aDown m c) (row t r) d).trans ?_)
  simp only [sum3 m c t h, blk_post]

/-- The array the call returns is the reference's. -/
theorem final : (dats m 0 c).arrAt 5 cfg0.N = want m c := by
  refine (dats m 0 c).arrAt_eq_of_covers 5 _ (by decide +kernel) fun t hf y => ?_
  have h3 : t.val % 4 = 3 := (flush0_5 t).mp hf
  blk_simp
  rw [after0_5]
  have hy : y = ix2 (y 0) (y 1) := by funext a; fin_cases a <;> rfl
  rw [hy]
  refine (out_at m c t h3 (y 0) (y 1)).trans ?_
  blk_ext [idx t, row]

end Nsa.Mlp
-- ==== Proof.ProjRef.lean ====
module

public import proofs.«01_k».proof.Proof.MlpPay
public import proofs.«01_k».proof.Proof.Gen.ReferenceOutIdeal.Read

@[expose] public section

set_option maxRecDepth 16384

/-! # What the reference output projection computes, entry by entry -/

noncomputable section

namespace Nsa.Proj

open Idealize.ShloMosaic Idealize.SL.Sem Nsa.Mlp
open Cert.ReferenceOutIdeal Cert.ReferenceOutIdeal.Read

/-- The three mixers' rows against one column of the weights. -/
def mix (a b : Fin 256 → EReal) (e : Fin 512 → EReal) (w : Fin 1024 → EReal) : EReal :=
  (∑ k, a k * w ⟨k.val, by omega⟩) + (∑ k, b k * w ⟨256 + k.val, by omega⟩) + ∑ k, e k * w ⟨512 + k.val, by omega⟩

/-- A sum over the mixers' columns is the three mixers' sums. -/
theorem sum_mixers (f : Fin 1024 → EReal) :
    ∑ k, f k = (∑ k : Fin 256, f ⟨k.val, by omega⟩) + (∑ k : Fin 256, f ⟨256 + k.val, by omega⟩) + ∑ k : Fin 512, f ⟨512 + k.val, by omega⟩ := by
  rw [show (∑ k, f k) = ∑ k : Fin (512 + 512), f k from rfl, Fin.sum_univ_add]
  rw [show (∑ k : Fin 512, f (Fin.castAdd 512 k)) = ∑ k : Fin (256 + 256), f (Fin.castAdd 512 k) from rfl, Fin.sum_univ_add]
  rfl

variable (x0 : Vec Ideal S16384x1024 .f32) (x1 x2 : Vec Ideal S16384x256 .bf16) (x3 : Vec Ideal S16384x512 .bf16)
  (x4 : Vec Ideal S4x1024x1024 .f32) (x5 : Vec Ideal S4x1024 .f32)

/-! The concatenated columns: the first 256 are the first mixer's, the next 256 the second's, the last 512 the third's. -/

theorem cat_a (i : Fin 16384) (k : Fin 256) : val_main_v1 (F := Ideal) x1 x2 x3 (ix2 i ⟨k.val, by omega⟩) = x1 (ix2 i k) := by
  have h := k.isLt
  pointwise [val_main_v1, val_main_v0]

theorem cat_b (i : Fin 16384) (k : Fin 256) : val_main_v1 (F := Ideal) x1 x2 x3 (ix2 i ⟨256 + k.val, by omega⟩) = x2 (ix2 i k) := by
  have h := k.isLt
  pointwise [val_main_v1, val_main_v0]

theorem cat_e (i : Fin 16384) (k : Fin 512) : val_main_v1 (F := Ideal) x1 x2 x3 (ix2 i ⟨512 + k.val, by omega⟩) = x3 (ix2 i k) := by
  have h := k.isLt
  pointwise [val_main_v1, val_main_v0]
  rw [dif_neg (by omega), dif_neg (by omega)]
  congr 2
  exact Fin.ext (show 512 + k.val - 256 - 256 = k.val by omega)

/-- An entry of the product with the weights. -/
theorem ref_mix (i : Fin 16384) (d : Fin 1024) :
    val_main_v4 (F := Ideal) x1 x2 x3 x4 (ix2 i d)
      = mix (fun k => x1 (ix2 i k)) (fun k => x2 (ix2 i k)) (fun k => x3 (ix2 i k)) (fun k => x4 (ix3 3 k d)) := by
  have e : val_main_v4 (F := Ideal) x1 x2 x3 x4 (ix2 i d) = ∑ k : Fin 1024, val_main_v1 (F := Ideal) x1 x2 x3 (ix2 i k) * x4 (ix3 3 k d) := by
    unfold val_main_v4
    generalize val_main_v1 (F := Ideal) x1 x2 x3 = y
    pointwise [val_main_v3, val_main_v2]
  rw [e, sum_mixers]
  unfold mix
  simp only [cat_a, cat_b, cat_e]

/-- An entry of the result: the hidden state and the normalized row. -/
theorem ref_out (i : Fin 16384) (d : Fin 1024) :
    val_main_v20 (F := Ideal) x0 x1 x2 x3 x4 x5 (ix2 i d)
      = x0 (ix2 i d) + nrm (fun k => val_main_v4 (F := Ideal) x1 x2 x3 x4 (ix2 i k)) (fun k => x5 (ix2 3 k)) d := by
  unfold nrm val_main_v20 val_main_v19 val_main_v16 val_main_v15 val_main_v14 val_main_v13 val_main_v11 val_main_v9 val_main_v8 val_main_v7
  generalize val_main_v4 (F := Ideal) x1 x2 x3 x4 = u
  pointwise [val_main_v18, val_main_v17, val_main_v12, val_main_v10, val_main_v6, val_main_v5, val_main_cst, val_main_cst_0, val_main_cst_1]

end Nsa.Proj
-- ==== Proof.ProjOut.lean ====
module

public import proofs.«01_k».proof.Proof.ProjRef
public import proofs.«01_k».proof.Proof.Gen.KernelOutIdeal.Frame
public import Idealize.ShloMosaic.Lib.Pipeline.ValueKit
public import Idealize.ShloMosaic.Lib.Pipeline.Value
public import Idealize.ShloMosaic.Lib.StableHlo.ReadAt

@[expose] public section

set_option maxRecDepth 16384

/-! # The output projection kernel's result is the reference's -/

noncomputable section

namespace Nsa.Proj

open Idealize.ShloMosaic Idealize.ShloMosaic.TcCoe Idealize.SL.Sem Nsa.Mlp
open Cert.KernelOutIdeal Cert.KernelOutIdeal.Gen

/-- An entry of what a point computes from its blocks. -/
theorem pay_at (a b : Vec Ideal S1024x256 .bf16) (e : Vec Ideal S1024x512 .bf16) (wa wb : Vec Ideal S1x256x1024 .bf16)
    (we : Vec Ideal S1x512x1024 .bf16) (h : Vec Ideal S1024x1024 .f32) (g : Vec Ideal S1x1024 .f32) (r d : Fin 1024) :
    k0_pay1 (F := Ideal) a wa b wb e we h g (ix2 r d)
      = h (ix2 r d) + nrm (fun x => (∑ k, a (ix2 r k) * wa (ix3 0 k x)) + (∑ k, b (ix2 r k) * wb (ix3 0 k x)) + ∑ k, e (ix2 r k) * we (ix3 0 k x))
          (fun k => g (ix2 0 k)) d := by
  unfold nrm
  pointwise [k0_pay1]

variable (m : (ℓ : Loc nD τ sig) → Buf (Elt Ideal) ℓ) (c : Dev nD) (t : Fin cfg0.N)

/-! The arguments. -/

abbrev aH : Vec Ideal S16384x1024 .f32 := m ((c : Thread nD τ).loc main_arg0)
abbrev aSsm : Vec Ideal S16384x256 .bf16 := m ((c : Thread nD τ).loc main_arg1)
abbrev aMls : Vec Ideal S16384x256 .bf16 := m ((c : Thread nD τ).loc main_arg2)
abbrev aNsa : Vec Ideal S16384x512 .bf16 := m ((c : Thread nD τ).loc main_arg3)
abbrev aW : Vec Ideal S4x1024x1024 .f32 := m ((c : Thread nD τ).loc main_arg4)
abbrev aPost : Vec Ideal S4x1024 .f32 := m ((c : Thread nD τ).loc main_arg5)

/-- The reference's result on the kernel's arguments. -/
def want : FVec Ideal ⟨2, ![16384, 1024]⟩ .f32 :=
  Cert.ReferenceOutIdeal.Read.val_main_v20 (F := Ideal) (aH m c) (aSsm m c) (aMls m c) (aNsa m c) (aW m c) (aPost m c)

/-- Every window's block index. -/
theorem idx : ∀ t : Fin cfg0.N, win0_0.index t = ![t.val, 0] ∧ win0_1.index t = ![t.val, 0] ∧ win0_2.index t = ![t.val, 0]
    ∧ win0_3.index t = ![t.val, 0] ∧ win0_4.index t = ![3, 0, 0] ∧ win0_5.index t = ![0, 0] ∧ win0_6.index t = ![t.val, 0] :=
  (by decide +kernel : ∀ t : Fin grid0.N, _)

theorem t_lt : t.val < 16 := t.isLt

/-- The row of the array that a block's row is. -/
def row (r : Fin 1024) : Fin 16384 := ⟨1024 * t.val + r.val, by have := t_lt t; omega⟩

/-! Every block, as entries of the arguments. -/

theorem blk_h (r d : Fin 1024) : (iblk m c 0 t : Vec Ideal S1024x1024 .f32) (ix2 r d) = aH m c (ix2 (row t r) d) := by
  have h := t_lt t
  blk_ext [iblk, V, idx t, row]

theorem blk_ssm (r : Fin 1024) (k : Fin 256) : (iblk m c 1 t : Vec Ideal S1024x256 .bf16) (ix2 r k) = aSsm m c (ix2 (row t r) k) := by
  have h := t_lt t
  blk_ext [iblk, V, idx t, row]

theorem blk_mls (r : Fin 1024) (k : Fin 256) : (iblk m c 2 t : Vec Ideal S1024x256 .bf16) (ix2 r k) = aMls m c (ix2 (row t r) k) := by
  have h := t_lt t
  blk_ext [iblk, V, idx t, row]

theorem blk_nsa (r : Fin 1024) (k : Fin 512) : (iblk m c 3 t : Vec Ideal S1024x512 .bf16) (ix2 r k) = aNsa m c (ix2 (row t r) k) := by
  have h := t_lt t
  blk_ext [iblk, V, idx t, row]

theorem V_w (l : Fin 4) (k d : Fin 1024) : (V m c main_v0 : Vec Ideal S4x1024x1024 .bf16) (ix3 l k d) = aW m c (ix3 l k d) := by
  simp only [V, hostOps0, List.flatten_cons, List.flatten_nil, List.append_nil, List.cons_append, List.nil_append]
  after_reads_at

theorem V_post (k : Fin 1024) : (V m c main_v3 : Vec Ideal S1x1024 .f32) (ix2 0 k) = aPost m c (ix2 3 k) := by
  simp only [V, hostOps0, List.flatten_cons, List.flatten_nil, List.append_nil, List.cons_append, List.nil_append]
  after_reads_at

theorem blk_w (k d : Fin 1024) : (iblk m c 4 t : Vec Ideal S1x1024x1024 .bf16) (ix3 0 k d) = aW m c (ix3 3 k d) :=
  Eq.trans (by blk_ext [iblk, idx t]) (V_w m c 3 k d)

theorem blk_post (k : Fin 1024) : (iblk m c 5 t : Vec Ideal S1x1024 .f32) (ix2 0 k) = aPost m c (ix2 3 k) :=
  Eq.trans (by blk_ext [iblk, idx t]) (V_post m c k)

/-! The three stretches of the weights' rows. -/

theorem ld_a (x : Vec Ideal S1x1024x1024 .bf16) (k : Fin 256) (d : Fin 1024) :
    (View.ld x r0_1 : Vec Ideal S1x256x1024 .bf16) (ix3 0 k d) = x (ix3 0 ⟨k.val, by omega⟩ d) := by
  refine congrArg x (funext fun a => Fin.ext ?_)
  match a with
  | 0 => rfl
  | 1 => exact (show 0 + 1 * k.val = k.val by omega)
  | 2 => exact (show 0 + 1 * d.val = d.val by omega)

theorem ld_b (x : Vec Ideal S1x1024x1024 .bf16) (k : Fin 256) (d : Fin 1024) :
    (View.ld x r0_2 : Vec Ideal S1x256x1024 .bf16) (ix3 0 k d) = x (ix3 0 ⟨256 + k.val, by omega⟩ d) := by
  refine congrArg x (funext fun a => Fin.ext ?_)
  match a with
  | 0 => rfl
  | 1 => exact (show 256 + 1 * k.val = 256 + k.val by omega)
  | 2 => exact (show 0 + 1 * d.val = d.val by omega)

theorem ld_e (x : Vec Ideal S1x1024x1024 .bf16) (k : Fin 512) (d : Fin 1024) :
    (View.ld x r0_4 : Vec Ideal S1x512x1024 .bf16) (ix3 0 k d) = x (ix3 0 ⟨512 + k.val, by omega⟩ d) := by
  refine congrArg x (funext fun a => Fin.ext ?_)
  match a with
  | 0 => rfl
  | 1 => exact (show 512 + 1 * k.val = 512 + k.val by omega)
  | 2 => exact (show 0 + 1 * d.val = d.val by omega)

/-- What a point writes is the reference's rows. -/
theorem out_at (r d : Fin 1024) :
    (out0_6 (F := Ideal) (iblk m c 0 t) (iblk m c 1 t) (iblk m c 2 t) (iblk m c 3 t) (iblk m c 4 t) (iblk m c 5 t) (ix2 r d) : EReal)
      = want m c (ix2 (row t r) d) := by
  frame_out
  rw [pay_at, blk_h]
  refine Eq.symm ((ref_out (aH m c) (aSsm m c) (aMls m c) (aNsa m c) (aW m c) (aPost m c) (row t r) d).trans ?_)
  have ha := fun k x => (ld_a (iblk m c 4 t) k x).trans (blk_w m c t _ x)
  have hb := fun k x => (ld_b (iblk m c 4 t) k x).trans (blk_w m c t _ x)
  have he := fun k x => (ld_e (iblk m c 4 t) k x).trans (blk_w m c t _ x)
  simp only [blk_ssm, blk_mls, blk_nsa, blk_post, ref_mix, mix]
  simp only [ha, hb, he]

/-- The array the call returns is the reference's. -/
theorem final : (dats m 0 c).arrAt 6 cfg0.N = want m c := by
  refine (dats m 0 c).arrAt_eq_of_covers 6 _ (by decide +kernel) fun t hf y => ?_
  blk_simp
  rw [after0_6]
  have hy : y = ix2 (y 0) (y 1) := by funext a; fin_cases a <;> rfl
  rw [hy]
  refine (out_at m c t (y 0) (y 1)).trans ?_
  blk_ext [idx t, row]

end Nsa.Proj
-- ==== Proof.lean ====
module

public import proofs.«01_k».proof.Defs
public import proofs.«01_k».proof.Proof.FramePlain
public import proofs.«01_k».proof.Proof.FrameIdeal
public import proofs.«01_k».proof.Proof.Out
public import proofs.«01_k».proof.Proof.Pre
public import proofs.«01_k».proof.Proof.MlpOut
public import proofs.«01_k».proof.Proof.ProjOut
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.KernelMlp
public import proofs.«01_k».proof.Proof.Gen.KernelMlpIdeal
public import proofs.«01_k».proof.Proof.Gen.KernelMlp.Frame
public import proofs.«01_k».proof.Proof.Gen.KernelMlpIdeal.Frame
public import proofs.«01_k».proof.Proof.Gen.KernelMlpIdeal.Value
public import proofs.«01_k».proof.Proof.Gen.ReferenceMlpIdeal
public import proofs.«01_k».proof.Proof.Gen.ReferenceMlpIdeal.Run
public import proofs.«01_k».proof.Proof.Gen.ReferenceMlpIdeal.Read
public import proofs.«01_k».proof.Proof.Gen.KernelOut
public import proofs.«01_k».proof.Proof.Gen.KernelOutIdeal
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read

@[expose] public section

noncomputable section

namespace Cert.Proof

open Idealize.ShloMosaic Idealize.ShloMosaic.TcCoe Idealize.SL.Sem Idealize.ShloMosaic.StableHlo

theorem frame_R : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the four arrays the scores are made of hold reals only, on every device. -/
theorem reals (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Nsa.AllReal (φ := .f32) (Nsa.aQ m c) ∧ Nsa.AllReal (φ := .f32) (Nsa.aKc m c) ∧ Nsa.AllReal (φ := .f32) (Nsa.aKs m c)
      ∧ Nsa.AllReal (φ := .f32) (Nsa.aKw m c) :=
  Nsa.allReal_of_pre _ _ _ _ _ _ _ _ _ (h c)

/-- Under the precondition the kernel's run ends with the reference's result of its arguments. -/
theorem kernel_result (m : (ℓ : Loc Cert.KernelIdeal.nD Cert.KernelIdeal.τ Cert.KernelIdeal.sig) → Buf (Elt Ideal) ℓ)
    (g : Dev Cert.KernelIdeal.nD → PrngReg) (h : Cert.Pre_KernelIdeal_finite_scores m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v69) = Nsa.want m c) :=
  (θ_run Cert.KernelIdeal.defs _ _).mono
    (fun _ hr c => ((hr.1 c).1 11).trans
      (Nsa.final m c (reals m h c).1 (reals m h c).2.1 (reals m h c).2.2.1 (reals m h c).2.2.2))
    (Nsa.run_quiet m g)

/-- The reference's value depends on the nine arguments only. -/
theorem ref_value (m : (ℓ : Loc Cert.KernelIdeal.nD Cert.KernelIdeal.τ Cert.KernelIdeal.sig) → Buf (Elt Ideal) ℓ) (c : Dev Cert.KernelIdeal.nD)
    (x0 : FVec Ideal ⟨4, ![8, 2048, 8, 64]⟩ .f32) (x1 x2 : FVec Ideal ⟨4, ![8, 127, 2, 64]⟩ .f32)
    (x3 x4 x5 x6 : FVec Ideal ⟨4, ![8, 2048, 2, 64]⟩ .f32) (x7 : FVec Ideal ⟨3, ![8, 2048, 24]⟩ .f32) (x8 : FVec Ideal ⟨1, ![512]⟩ .f32)
    (h0 : x0 = Nsa.aQ m c) (h1 : x1 = Nsa.aKc m c) (h2 : x2 = Nsa.aVc m c) (h3 : x3 = Nsa.aKs m c) (h4 : x4 = Nsa.aVs m c)
    (h5 : x5 = Nsa.aKw m c) (h6 : x6 = Nsa.aVw m c) (h7 : x7 = Nsa.aG m c) (h8 : x8 = Nsa.aGn m c) :
    Cert.ReferenceIdeal.Read.val_main_v238 (F := Ideal) x0 x1 x2 x3 x4 x5 x6 x7 x8 = Nsa.want m c := by
  subst h0 h1 h2 h3 h4 h5 h6 h7 h8
  rfl

set_option maxHeartbeats 2000000 in
/-- The kernel's result is the reference's, on the real numbers with the infinities. -/
theorem algebraic : Cert.algebraic_KernelIdeal_ReferenceIdeal_pre_finite_scores := fun m g m' g' hpre hagree =>
  ⟨fun c => Nsa.want m c,
    (θ_run Cert.KernelIdeal.defs _ _).mono (fun _ h c => ⟨h.1 c, h.2.1 c⟩) (θ_run_and (kernel_result m g hpre) (Nsa.frame m g)),
    (θ_run Cert.ReferenceIdeal.defs _ _).mono (fun r h c =>
      ⟨(h c).1.trans ((Cert.ReferenceIdeal.Read.val_main_v238_eq (launchContents m' c)).trans
        (ref_value m c _ _ _ _ _ _ _ _ _ (hagree c).1 (hagree c).2.1 (hagree c).2.2.1 (hagree c).2.2.2.1 (hagree c).2.2.2.2.1
          (hagree c).2.2.2.2.2.1 (hagree c).2.2.2.2.2.2.1 (hagree c).2.2.2.2.2.2.2.1 (hagree c).2.2.2.2.2.2.2.2)), (h c).2⟩)
      (Cert.ReferenceIdeal.Value.run (F := Ideal) m' g')⟩

theorem frame_R_mlp : Cert.quiescent_ReferenceMlpIdeal := fun m ρ _ =>
  (θ_run Cert.ReferenceMlpIdeal.defs _ _).mono (fun r h => ⟨fun c => (h c).2,
      Idealize.ShloMosaic.sem_eq_zero_of_no_sems (by decide) r.2⟩)
    (Cert.ReferenceMlpIdeal.Value.run (F := Ideal) m ρ)

/-- The reference MLP's value depends on the five arguments only. -/
theorem ref_value_mlp (m : (ℓ : Loc Cert.KernelMlpIdeal.nD Cert.KernelMlpIdeal.τ Cert.KernelMlpIdeal.sig) → Buf (Elt Ideal) ℓ)
    (c : Dev Cert.KernelMlpIdeal.nD) (x0 : FVec Ideal ⟨2, ![16384, 1024]⟩ .f32) (x1 x2 : FVec Ideal ⟨2, ![4, 1024]⟩ .f32)
    (x3 : FVec Ideal ⟨3, ![4, 1024, 4096]⟩ .f32) (x4 : FVec Ideal ⟨3, ![4, 4096, 1024]⟩ .f32)
    (h0 : x0 = Nsa.Mlp.aH m c) (h1 : x1 = Nsa.Mlp.aPre m c) (h2 : x2 = Nsa.Mlp.aPost m c) (h3 : x3 = Nsa.Mlp.aUp m c)
    (h4 : x4 = Nsa.Mlp.aDown m c) :
    Cert.ReferenceMlpIdeal.Read.val_main_v38 (F := Ideal) x0 x1 x2 x3 x4 = Nsa.Mlp.want m c := by
  subst h0 h1 h2 h3 h4
  rfl

/-- The MLP kernel's result is the reference's, on the real numbers with the infinities. -/
theorem algebraic_mlp : Cert.algebraic_KernelMlpIdeal_ReferenceMlpIdeal := fun m g m' g' _ hagree =>
  ⟨fun c => Nsa.Mlp.want m c,
    (θ_run Cert.KernelMlpIdeal.defs _ _).mono (fun _ h c => ⟨(h c).1.trans (Nsa.Mlp.final m c), (h c).2⟩)
      (Cert.KernelMlpIdeal.Value.run_blocks (F := Ideal) m g),
    (θ_run Cert.ReferenceMlpIdeal.defs _ _).mono (fun r h c =>
      ⟨(h c).1.trans ((Cert.ReferenceMlpIdeal.Read.val_main_v38_eq m' c).trans
        (ref_value_mlp m c _ _ _ _ _ (hagree c).1 (hagree c).2.1 (hagree c).2.2.1 (hagree c).2.2.2.1 (hagree c).2.2.2.2)), (h c).2⟩)
      (Cert.ReferenceMlpIdeal.Value.run (F := Ideal) m' g')⟩

theorem frame_R_out : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

/-- The reference output projection's value depends on the six arguments only. -/
theorem ref_value_out (m : (ℓ : Loc Cert.KernelOutIdeal.nD Cert.KernelOutIdeal.τ Cert.KernelOutIdeal.sig) → Buf (Elt Ideal) ℓ)
    (c : Dev Cert.KernelOutIdeal.nD) (x0 : FVec Ideal ⟨2, ![16384, 1024]⟩ .f32) (x1 x2 : FVec Ideal ⟨2, ![16384, 256]⟩ .bf16)
    (x3 : FVec Ideal ⟨2, ![16384, 512]⟩ .bf16) (x4 : FVec Ideal ⟨3, ![4, 1024, 1024]⟩ .f32) (x5 : FVec Ideal ⟨2, ![4, 1024]⟩ .f32)
    (h0 : x0 = Nsa.Proj.aH m c) (h1 : x1 = Nsa.Proj.aSsm m c) (h2 : x2 = Nsa.Proj.aMls m c) (h3 : x3 = Nsa.Proj.aNsa m c)
    (h4 : x4 = Nsa.Proj.aW m c) (h5 : x5 = Nsa.Proj.aPost m c) :
    Cert.ReferenceOutIdeal.Read.val_main_v20 (F := Ideal) x0 x1 x2 x3 x4 x5 = Nsa.Proj.want m c := by
  subst h0 h1 h2 h3 h4 h5
  rfl

/-- The output projection kernel's result is the reference's, on the real numbers with the infinities. -/
theorem algebraic_out : Cert.algebraic_KernelOutIdeal_ReferenceOutIdeal := fun m g m' g' _ hagree =>
  ⟨fun c => Nsa.Proj.want m c,
    (θ_run Cert.KernelOutIdeal.defs _ _).mono (fun _ h c => ⟨(h c).1.trans (Nsa.Proj.final m c), (h c).2⟩)
      (Cert.KernelOutIdeal.Value.run_blocks (F := Ideal) m g),
    (θ_run Cert.ReferenceOutIdeal.defs _ _).mono (fun r h c =>
      ⟨(h c).1.trans ((Cert.ReferenceOutIdeal.Read.val_main_v20_eq (F := Ideal) _ _ _ _ _ _).trans
        (ref_value_out m c _ _ _ _ _ _ (hagree c).1 (hagree c).2.1 (hagree c).2.2.1 (hagree c).2.2.2.1 (hagree c).2.2.2.2.1
          (hagree c).2.2.2.2.2)), (h c).2⟩)
      (Cert.ReferenceOutIdeal.Value.run (F := Ideal) m' g')⟩

theorem claim : Cert.Claim := ⟨Cert.Kernel.Gen.facts, Cert.KernelIdeal.Gen.facts, Cert.ReferenceIdeal.Gen.facts,
  Cert.KernelMlp.Gen.facts, Cert.KernelMlpIdeal.Gen.facts, Cert.ReferenceMlpIdeal.Gen.facts,
  Cert.KernelOut.Gen.facts, Cert.KernelOutIdeal.Gen.facts, Cert.ReferenceOutIdeal.Gen.facts, Cert.Pre_finite_scores.Gen.facts,
  fun m ρ _ => Nsa.Plain.frame m ρ, fun m ρ _ => Nsa.frame m ρ, fun m ρ _ => Nsa.frame m ρ, frame_R, fun m ρ _ => frame_R m ρ trivial,
  fun m ρ _ => Cert.KernelMlp.Gen.frame m ρ, fun m ρ _ => Cert.KernelMlpIdeal.Gen.frame m ρ, frame_R_mlp,
  fun m ρ _ => Cert.KernelOut.Gen.frame m ρ, fun m ρ _ => Cert.KernelOutIdeal.Gen.frame m ρ, frame_R_out,
  IdealRules.named_const.statement Cert.KernelIdeal.κ "mask" .f32 0xF149F2CA#32 ⊥ rfl, algebraic, trivial, algebraic_mlp,
  trivial, algebraic_out⟩

end Cert.Proof

end
